-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def Pre_DnIdeal_finite_dn [hPre_finite_dn : Cert.Pre_finite_dn.Facts] (m : (ℓ : Loc Cert.DnIdeal.nD Cert.DnIdeal.τ Cert.DnIdeal.sig) → Buf (Elt Ideal) ℓ) : Prop :=
  ∀ c : Dev Cert.DnIdeal.nD,
    (Cert.Pre_finite_dn.fn (F := Ideal) (m ((c.tc : Thread Cert.DnIdeal.nD Cert.DnIdeal.τ).loc Cert.DnIdeal.main_arg0)) (m ((c.tc : Thread Cert.DnIdeal.nD Cert.DnIdeal.τ).loc Cert.DnIdeal.main_arg1)) (m ((c.tc : Thread Cert.DnIdeal.nD Cert.DnIdeal.τ).loc Cert.DnIdeal.main_arg2)) (m ((c.tc : Thread Cert.DnIdeal.nD Cert.DnIdeal.τ).loc Cert.DnIdeal.main_arg3)) (m ((c.tc : Thread Cert.DnIdeal.nD Cert.DnIdeal.τ).loc Cert.DnIdeal.main_arg4))).1 = (fun _ => 1#1)
    ∧ (Cert.Pre_finite_dn.fn (F := Ideal) (m ((c.tc : Thread Cert.DnIdeal.nD Cert.DnIdeal.τ).loc Cert.DnIdeal.main_arg0)) (m ((c.tc : Thread Cert.DnIdeal.nD Cert.DnIdeal.τ).loc Cert.DnIdeal.main_arg1)) (m ((c.tc : Thread Cert.DnIdeal.nD Cert.DnIdeal.τ).loc Cert.DnIdeal.main_arg2)) (m ((c.tc : Thread Cert.DnIdeal.nD Cert.DnIdeal.τ).loc Cert.DnIdeal.main_arg3)) (m ((c.tc : Thread Cert.DnIdeal.nD Cert.DnIdeal.τ).loc Cert.DnIdeal.main_arg4))).2.1 = (fun _ => 1#1)
    ∧ (Cert.Pre_finite_dn.fn (F := Ideal) (m ((c.tc : Thread Cert.DnIdeal.nD Cert.DnIdeal.τ).loc Cert.DnIdeal.main_arg0)) (m ((c.tc : Thread Cert.DnIdeal.nD Cert.DnIdeal.τ).loc Cert.DnIdeal.main_arg1)) (m ((c.tc : Thread Cert.DnIdeal.nD Cert.DnIdeal.τ).loc Cert.DnIdeal.main_arg2)) (m ((c.tc : Thread Cert.DnIdeal.nD Cert.DnIdeal.τ).loc Cert.DnIdeal.main_arg3)) (m ((c.tc : Thread Cert.DnIdeal.nD Cert.DnIdeal.τ).loc Cert.DnIdeal.main_arg4))).2.2.1 = (fun _ => 1#1)
    ∧ (Cert.Pre_finite_dn.fn (F := Ideal) (m ((c.tc : Thread Cert.DnIdeal.nD Cert.DnIdeal.τ).loc Cert.DnIdeal.main_arg0)) (m ((c.tc : Thread Cert.DnIdeal.nD Cert.DnIdeal.τ).loc Cert.DnIdeal.main_arg1)) (m ((c.tc : Thread Cert.DnIdeal.nD Cert.DnIdeal.τ).loc Cert.DnIdeal.main_arg2)) (m ((c.tc : Thread Cert.DnIdeal.nD Cert.DnIdeal.τ).loc Cert.DnIdeal.main_arg3)) (m ((c.tc : Thread Cert.DnIdeal.nD Cert.DnIdeal.τ).loc Cert.DnIdeal.main_arg4))).2.2.2.1 = (fun _ => 1#1)
    ∧ (Cert.Pre_finite_dn.fn (F := Ideal) (m ((c.tc : Thread Cert.DnIdeal.nD Cert.DnIdeal.τ).loc Cert.DnIdeal.main_arg0)) (m ((c.tc : Thread Cert.DnIdeal.nD Cert.DnIdeal.τ).loc Cert.DnIdeal.main_arg1)) (m ((c.tc : Thread Cert.DnIdeal.nD Cert.DnIdeal.τ).loc Cert.DnIdeal.main_arg2)) (m ((c.tc : Thread Cert.DnIdeal.nD Cert.DnIdeal.τ).loc Cert.DnIdeal.main_arg3)) (m ((c.tc : Thread Cert.DnIdeal.nD Cert.DnIdeal.τ).loc Cert.DnIdeal.main_arg4))).2.2.2.2 = (fun _ => 1#1)

def Pre_DnRefIdeal (m : (ℓ : Loc Cert.DnRefIdeal.nD Cert.DnRefIdeal.τ Cert.DnRefIdeal.sig) → Buf (Elt Ideal) ℓ) : Prop :=
  True

def Pre_DnRefIdeal_finite_dn [hPre_finite_dn : Cert.Pre_finite_dn.Facts] (m : (ℓ : Loc Cert.DnRefIdeal.nD Cert.DnRefIdeal.τ Cert.DnRefIdeal.sig) → Buf (Elt Ideal) ℓ) : Prop :=
  ∀ c : Dev Cert.DnRefIdeal.nD,
    (Cert.Pre_finite_dn.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4))).1 = (fun _ => 1#1)
    ∧ (Cert.Pre_finite_dn.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4))).2.1 = (fun _ => 1#1)
    ∧ (Cert.Pre_finite_dn.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4))).2.2.1 = (fun _ => 1#1)
    ∧ (Cert.Pre_finite_dn.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4))).2.2.2.1 = (fun _ => 1#1)
    ∧ (Cert.Pre_finite_dn.fn (F := Ideal) (m ((c.tc : Thread Cert.DnRefIdeal.nD Cert.DnRefIdeal.τ).loc Cert.DnRefIdeal.main_arg0)) (m ((c.tc : Thread Cert.DnRefIdeal.nD Cert.DnRefIdeal.τ).loc Cert.DnRefIdeal.main_arg1)) (m ((c.tc : Thread Cert.DnRefIdeal.nD Cert.DnRefIdeal.τ).loc Cert.DnRefIdeal.main_arg2)) (m ((c.tc : Thread Cert.DnRefIdeal.nD Cert.DnRefIdeal.τ).loc Cert.DnRefIdeal.main_arg3)) (m ((c.tc : Thread Cert.DnRefIdeal.nD Cert.DnRefIdeal.τ).loc Cert.DnRefIdeal.main_arg4))).2.2.2.2 = (fun _ => 1#1)

def Pre_Kvp (m : (ℓ : Loc Cert.Kvp.nD Cert.Kvp.τ Cert.Kvp.sig) → Buf (Elt Bits) ℓ) : Prop :=
  True

def Pre_KvpIdeal (m : (ℓ : Loc Cert.KvpIdeal.nD Cert.KvpIdeal.τ Cert.KvpIdeal.sig) → Buf (Elt Ideal) ℓ) : Prop :=
  True

def Pre_KvpRefIdeal (m : (ℓ : Loc Cert.KvpRefIdeal.nD Cert.KvpRefIdeal.τ Cert.KvpRefIdeal.sig) → Buf (Elt Ideal) ℓ) : Prop :=
  True

def Pre_CmpK (m : (ℓ : Loc Cert.CmpK.nD Cert.CmpK.τ Cert.CmpK.sig) → Buf (Elt Bits) ℓ) : Prop :=
  True

def Pre_CmpKIdeal (m : (ℓ : Loc Cert.CmpKIdeal.nD Cert.CmpKIdeal.τ Cert.CmpKIdeal.sig) → Buf (Elt Ideal) ℓ) : Prop :=
  True

def Pre_CmpKRefIdeal (m : (ℓ : Loc Cert.CmpKRefIdeal.nD Cert.CmpKRefIdeal.τ Cert.CmpKRefIdeal.sig) → Buf (Elt Ideal) ℓ) : Prop :=
  True

def Pre_CmpV (m : (ℓ : Loc Cert.CmpV.nD Cert.CmpV.τ Cert.CmpV.sig) → Buf (Elt Bits) ℓ) : Prop :=
  True

def Pre_CmpVIdeal (m : (ℓ : Loc Cert.CmpVIdeal.nD Cert.CmpVIdeal.τ Cert.CmpVIdeal.sig) → Buf (Elt Ideal) ℓ) : Prop :=
  True

def Pre_CmpVRefIdeal (m : (ℓ : Loc Cert.CmpVRefIdeal.nD Cert.CmpVRefIdeal.τ Cert.CmpVRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3)
      ∧ r.2.mem ((c.tc : Thread Cert.Dn.nD Cert.Dn.τ).loc Cert.Dn.main_arg4) = m ((c.tc : Thread Cert.Dn.nD Cert.Dn.τ).loc Cert.Dn.main_arg4))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
      ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ r.2.sem = fun _ => 0)

def quiescent_DnIdeal_pre_finite_dn [hDnIdeal : Cert.DnIdeal.Facts] [hPre_finite_dn : Cert.Pre_finite_dn.Facts] : Prop :=
  ∀ (m : (ℓ : Loc Cert.DnIdeal.nD Cert.DnIdeal.τ Cert.DnIdeal.sig) → Buf (Elt Ideal) ℓ) (g : Dev Cert.DnIdeal.nD → PrngReg), Pre_DnIdeal_finite_dn m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
      ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4))
      ∧ r.2.sem = fun _ => 0)

def quiescent_DnRefIdeal_pre_finite_dn [hDnRefIdeal : Cert.DnRefIdeal.Facts] [hPre_finite_dn : Cert.Pre_finite_dn.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal_finite_dn m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2)
      ∧ r.2.mem ((c.tc : Thread Cert.DnRefIdeal.nD Cert.DnRefIdeal.τ).loc Cert.DnRefIdeal.main_arg3) = m ((c.tc : Thread Cert.DnRefIdeal.nD Cert.DnRefIdeal.τ).loc Cert.DnRefIdeal.main_arg3)
      ∧ r.2.mem ((c.tc : Thread Cert.DnRefIdeal.nD Cert.DnRefIdeal.τ).loc Cert.DnRefIdeal.main_arg4) = m ((c.tc : Thread Cert.DnRefIdeal.nD Cert.DnRefIdeal.τ).loc Cert.DnRefIdeal.main_arg4))
      ∧ r.2.sem = fun _ => 0)

def quiescent_Kvp [hKvp : Cert.Kvp.Facts] : Prop :=
  ∀ (m : (ℓ : Loc Cert.Kvp.nD Cert.Kvp.τ Cert.Kvp.sig) → Buf (Elt Bits) ℓ) (g : Dev Cert.Kvp.nD → PrngReg), Pre_Kvp m →
    θ_run (Cert.Kvp.defs (F := Bits)) (onTc (τ := Cert.Kvp.τ) (Cert.Kvp.main (F := Bits))) ⟨m, fun _ => 0, g⟩ (fun r => (∀ c : Dev Cert.Kvp.nD,
      r.2.mem ((c.tc : Thread Cert.Kvp.nD Cert.Kvp.τ).loc Cert.Kvp.main_arg0) = m ((c.tc : Thread Cert.Kvp.nD Cert.Kvp.τ).loc Cert.Kvp.main_arg0)
      ∧ r.2.mem ((c.tc : Thread Cert.Kvp.nD Cert.Kvp.τ).loc Cert.Kvp.main_arg1) = m ((c.tc : Thread Cert.Kvp.nD Cert.Kvp.τ).loc Cert.Kvp.main_arg1))
      ∧ r.2.sem = fun _ => 0)

def quiescent_KvpIdeal [hKvpIdeal : Cert.KvpIdeal.Facts] : Prop :=
  ∀ (m : (ℓ : Loc Cert.KvpIdeal.nD Cert.KvpIdeal.τ Cert.KvpIdeal.sig) → Buf (Elt Ideal) ℓ) (g : Dev Cert.KvpIdeal.nD → PrngReg), Pre_KvpIdeal m →
    θ_run (Cert.KvpIdeal.defs (F := Ideal)) (onTc (τ := Cert.KvpIdeal.τ) (Cert.KvpIdeal.main (F := Ideal))) ⟨m, fun _ => 0, g⟩ (fun r => (∀ c : Dev Cert.KvpIdeal.nD,
      r.2.mem ((c.tc : Thread Cert.KvpIdeal.nD Cert.KvpIdeal.τ).loc Cert.KvpIdeal.main_arg0) = m ((c.tc : Thread Cert.KvpIdeal.nD Cert.KvpIdeal.τ).loc Cert.KvpIdeal.main_arg0)
      ∧ r.2.mem ((c.tc : Thread Cert.KvpIdeal.nD Cert.KvpIdeal.τ).loc Cert.KvpIdeal.main_arg1) = m ((c.tc : Thread Cert.KvpIdeal.nD Cert.KvpIdeal.τ).loc Cert.KvpIdeal.main_arg1))
      ∧ r.2.sem = fun _ => 0)

def quiescent_KvpRefIdeal [hKvpRefIdeal : Cert.KvpRefIdeal.Facts] : Prop :=
  ∀ (m : (ℓ : Loc Cert.KvpRefIdeal.nD Cert.KvpRefIdeal.τ Cert.KvpRefIdeal.sig) → Buf (Elt Ideal) ℓ) (g : Dev Cert.KvpRefIdeal.nD → PrngReg), Pre_KvpRefIdeal m →
    θ_run (Cert.KvpRefIdeal.defs (F := Ideal)) (onTc (τ := Cert.KvpRefIdeal.τ) (Cert.KvpRefIdeal.main (F := Ideal))) ⟨m, fun _ => 0, g⟩ (fun r => (∀ c : Dev Cert.KvpRefIdeal.nD,
      r.2.mem ((c.tc : Thread Cert.KvpRefIdeal.nD Cert.KvpRefIdeal.τ).loc Cert.KvpRefIdeal.main_arg0) = m ((c.tc : Thread Cert.KvpRefIdeal.nD Cert.KvpRefIdeal.τ).loc Cert.KvpRefIdeal.main_arg0)
      ∧ r.2.mem ((c.tc : Thread Cert.KvpRefIdeal.nD Cert.KvpRefIdeal.τ).loc Cert.KvpRefIdeal.main_arg1) = m ((c.tc : Thread Cert.KvpRefIdeal.nD Cert.KvpRefIdeal.τ).loc Cert.KvpRefIdeal.main_arg1))
      ∧ r.2.sem = fun _ => 0)

def quiescent_CmpK [hCmpK : Cert.CmpK.Facts] : Prop :=
  ∀ (m : (ℓ : Loc Cert.CmpK.nD Cert.CmpK.τ Cert.CmpK.sig) → Buf (Elt Bits) ℓ) (g : Dev Cert.CmpK.nD → PrngReg), Pre_CmpK m →
    θ_run (Cert.CmpK.defs (F := Bits)) (onTc (τ := Cert.CmpK.τ) (Cert.CmpK.main (F := Bits))) ⟨m, fun _ => 0, g⟩ (fun r => (∀ c : Dev Cert.CmpK.nD,
      r.2.mem ((c.tc : Thread Cert.CmpK.nD Cert.CmpK.τ).loc Cert.CmpK.main_arg0) = m ((c.tc : Thread Cert.CmpK.nD Cert.CmpK.τ).loc Cert.CmpK.main_arg0)
      ∧ r.2.mem ((c.tc : Thread Cert.CmpK.nD Cert.CmpK.τ).loc Cert.CmpK.main_arg1) = m ((c.tc : Thread Cert.CmpK.nD Cert.CmpK.τ).loc Cert.CmpK.main_arg1)
      ∧ r.2.mem ((c.tc : Thread Cert.CmpK.nD Cert.CmpK.τ).loc Cert.CmpK.main_arg2) = m ((c.tc : Thread Cert.CmpK.nD Cert.CmpK.τ).loc Cert.CmpK.main_arg2)
      ∧ r.2.mem ((c.tc : Thread Cert.CmpK.nD Cert.CmpK.τ).loc Cert.CmpK.main_arg3) = m ((c.tc : Thread Cert.CmpK.nD Cert.CmpK.τ).loc Cert.CmpK.main_arg3)
      ∧ r.2.mem ((c.tc : Thread Cert.CmpK.nD Cert.CmpK.τ).loc Cert.CmpK.main_arg4) = m ((c.tc : Thread Cert.CmpK.nD Cert.CmpK.τ).loc Cert.CmpK.main_arg4))
      ∧ r.2.sem = fun _ => 0)

def quiescent_CmpKIdeal [hCmpKIdeal : Cert.CmpKIdeal.Facts] : Prop :=
  ∀ (m : (ℓ : Loc Cert.CmpKIdeal.nD Cert.CmpKIdeal.τ Cert.CmpKIdeal.sig) → Buf (Elt Ideal) ℓ) (g : Dev Cert.CmpKIdeal.nD → PrngReg), Pre_CmpKIdeal m →
    θ_run (Cert.CmpKIdeal.defs (F := Ideal)) (onTc (τ := Cert.CmpKIdeal.τ) (Cert.CmpKIdeal.main (F := Ideal))) ⟨m, fun _ => 0, g⟩ (fun r => (∀ c : Dev Cert.CmpKIdeal.nD,
      r.2.mem ((c.tc : Thread Cert.CmpKIdeal.nD Cert.CmpKIdeal.τ).loc Cert.CmpKIdeal.main_arg0) = m ((c.tc : Thread Cert.CmpKIdeal.nD Cert.CmpKIdeal.τ).loc Cert.CmpKIdeal.main_arg0)
      ∧ r.2.mem ((c.tc : Thread Cert.CmpKIdeal.nD Cert.CmpKIdeal.τ).loc Cert.CmpKIdeal.main_arg1) = m ((c.tc : Thread Cert.CmpKIdeal.nD Cert.CmpKIdeal.τ).loc Cert.CmpKIdeal.main_arg1)
      ∧ r.2.mem ((c.tc : Thread Cert.CmpKIdeal.nD Cert.CmpKIdeal.τ).loc Cert.CmpKIdeal.main_arg2) = m ((c.tc : Thread Cert.CmpKIdeal.nD Cert.CmpKIdeal.τ).loc Cert.CmpKIdeal.main_arg2)
      ∧ r.2.mem ((c.tc : Thread Cert.CmpKIdeal.nD Cert.CmpKIdeal.τ).loc Cert.CmpKIdeal.main_arg3) = m ((c.tc : Thread Cert.CmpKIdeal.nD Cert.CmpKIdeal.τ).loc Cert.CmpKIdeal.main_arg3)
      ∧ r.2.mem ((c.tc : Thread Cert.CmpKIdeal.nD Cert.CmpKIdeal.τ).loc Cert.CmpKIdeal.main_arg4) = m ((c.tc : Thread Cert.CmpKIdeal.nD Cert.CmpKIdeal.τ).loc Cert.CmpKIdeal.main_arg4))
      ∧ r.2.sem = fun _ => 0)

def quiescent_CmpKRefIdeal [hCmpKRefIdeal : Cert.CmpKRefIdeal.Facts] : Prop :=
  ∀ (m : (ℓ : Loc Cert.CmpKRefIdeal.nD Cert.CmpKRefIdeal.τ Cert.CmpKRefIdeal.sig) → Buf (Elt Ideal) ℓ) (g : Dev Cert.CmpKRefIdeal.nD → PrngReg), Pre_CmpKRefIdeal m →
    θ_run (Cert.CmpKRefIdeal.defs (F := Ideal)) (onTc (τ := Cert.CmpKRefIdeal.τ) (Cert.CmpKRefIdeal.main (F := Ideal))) ⟨m, fun _ => 0, g⟩ (fun r => (∀ c : Dev Cert.CmpKRefIdeal.nD,
      r.2.mem ((c.tc : Thread Cert.CmpKRefIdeal.nD Cert.CmpKRefIdeal.τ).loc Cert.CmpKRefIdeal.main_arg0) = m ((c.tc : Thread Cert.CmpKRefIdeal.nD Cert.CmpKRefIdeal.τ).loc Cert.CmpKRefIdeal.main_arg0)
      ∧ r.2.mem ((c.tc : Thread Cert.CmpKRefIdeal.nD Cert.CmpKRefIdeal.τ).loc Cert.CmpKRefIdeal.main_arg1) = m ((c.tc : Thread Cert.CmpKRefIdeal.nD Cert.CmpKRefIdeal.τ).loc Cert.CmpKRefIdeal.main_arg1)
      ∧ r.2.mem ((c.tc : Thread Cert.CmpKRefIdeal.nD Cert.CmpKRefIdeal.τ).loc Cert.CmpKRefIdeal.main_arg2) = m ((c.tc : Thread Cert.CmpKRefIdeal.nD Cert.CmpKRefIdeal.τ).loc Cert.CmpKRefIdeal.main_arg2)
      ∧ r.2.mem ((c.tc : Thread Cert.CmpKRefIdeal.nD Cert.CmpKRefIdeal.τ).loc Cert.CmpKRefIdeal.main_arg3) = m ((c.tc : Thread Cert.CmpKRefIdeal.nD Cert.CmpKRefIdeal.τ).loc Cert.CmpKRefIdeal.main_arg3)
      ∧ r.2.mem ((c.tc : Thread Cert.CmpKRefIdeal.nD Cert.CmpKRefIdeal.τ).loc Cert.CmpKRefIdeal.main_arg4) = m ((c.tc : Thread Cert.CmpKRefIdeal.nD Cert.CmpKRefIdeal.τ).loc Cert.CmpKRefIdeal.main_arg4))
      ∧ r.2.sem = fun _ => 0)

def quiescent_CmpV [hCmpV : Cert.CmpV.Facts] : Prop :=
  ∀ (m : (ℓ : Loc Cert.CmpV.nD Cert.CmpV.τ Cert.CmpV.sig) → Buf (Elt Bits) ℓ) (g : Dev Cert.CmpV.nD → PrngReg), Pre_CmpV m →
    θ_run (Cert.CmpV.defs (F := Bits)) (onTc (τ := Cert.CmpV.τ) (Cert.CmpV.main (F := Bits))) ⟨m, fun _ => 0, g⟩ (fun r => (∀ c : Dev Cert.CmpV.nD,
      r.2.mem ((c.tc : Thread Cert.CmpV.nD Cert.CmpV.τ).loc Cert.CmpV.main_arg0) = m ((c.tc : Thread Cert.CmpV.nD Cert.CmpV.τ).loc Cert.CmpV.main_arg0)
      ∧ r.2.mem ((c.tc : Thread Cert.CmpV.nD Cert.CmpV.τ).loc Cert.CmpV.main_arg1) = m ((c.tc : Thread Cert.CmpV.nD Cert.CmpV.τ).loc Cert.CmpV.main_arg1)
      ∧ r.2.mem ((c.tc : Thread Cert.CmpV.nD Cert.CmpV.τ).loc Cert.CmpV.main_arg2) = m ((c.tc : Thread Cert.CmpV.nD Cert.CmpV.τ).loc Cert.CmpV.main_arg2)
      ∧ r.2.mem ((c.tc : Thread Cert.CmpV.nD Cert.CmpV.τ).loc Cert.CmpV.main_arg3) = m ((c.tc : Thread Cert.CmpV.nD Cert.CmpV.τ).loc Cert.CmpV.main_arg3)
      ∧ r.2.mem ((c.tc : Thread Cert.CmpV.nD Cert.CmpV.τ).loc Cert.CmpV.main_arg4) = m ((c.tc : Thread Cert.CmpV.nD Cert.CmpV.τ).loc Cert.CmpV.main_arg4))
      ∧ r.2.sem = fun _ => 0)

def quiescent_CmpVIdeal [hCmpVIdeal : Cert.CmpVIdeal.Facts] : Prop :=
  ∀ (m : (ℓ : Loc Cert.CmpVIdeal.nD Cert.CmpVIdeal.τ Cert.CmpVIdeal.sig) → Buf (Elt Ideal) ℓ) (g : Dev Cert.CmpVIdeal.nD → PrngReg), Pre_CmpVIdeal m →
    θ_run (Cert.CmpVIdeal.defs (F := Ideal)) (onTc (τ := Cert.CmpVIdeal.τ) (Cert.CmpVIdeal.main (F := Ideal))) ⟨m, fun _ => 0, g⟩ (fun r => (∀ c : Dev Cert.CmpVIdeal.nD,
      r.2.mem ((c.tc : Thread Cert.CmpVIdeal.nD Cert.CmpVIdeal.τ).loc Cert.CmpVIdeal.main_arg0) = m ((c.tc : Thread Cert.CmpVIdeal.nD Cert.CmpVIdeal.τ).loc Cert.CmpVIdeal.main_arg0)
      ∧ r.2.mem ((c.tc : Thread Cert.CmpVIdeal.nD Cert.CmpVIdeal.τ).loc Cert.CmpVIdeal.main_arg1) = m ((c.tc : Thread Cert.CmpVIdeal.nD Cert.CmpVIdeal.τ).loc Cert.CmpVIdeal.main_arg1)
      ∧ r.2.mem ((c.tc : Thread Cert.CmpVIdeal.nD Cert.CmpVIdeal.τ).loc Cert.CmpVIdeal.main_arg2) = m ((c.tc : Thread Cert.CmpVIdeal.nD Cert.CmpVIdeal.τ).loc Cert.CmpVIdeal.main_arg2)
      ∧ r.2.mem ((c.tc : Thread Cert.CmpVIdeal.nD Cert.CmpVIdeal.τ).loc Cert.CmpVIdeal.main_arg3) = m ((c.tc : Thread Cert.CmpVIdeal.nD Cert.CmpVIdeal.τ).loc Cert.CmpVIdeal.main_arg3)
      ∧ r.2.mem ((c.tc : Thread Cert.CmpVIdeal.nD Cert.CmpVIdeal.τ).loc Cert.CmpVIdeal.main_arg4) = m ((c.tc : Thread Cert.CmpVIdeal.nD Cert.CmpVIdeal.τ).loc Cert.CmpVIdeal.main_arg4))
      ∧ r.2.sem = fun _ => 0)

def quiescent_CmpVRefIdeal [hCmpVRefIdeal : Cert.CmpVRefIdeal.Facts] : Prop :=
  ∀ (m : (ℓ : Loc Cert.CmpVRefIdeal.nD Cert.CmpVRefIdeal.τ Cert.CmpVRefIdeal.sig) → Buf (Elt Ideal) ℓ) (g : Dev Cert.CmpVRefIdeal.nD → PrngReg), Pre_CmpVRefIdeal m →
    θ_run (Cert.CmpVRefIdeal.defs (F := Ideal)) (onTc (τ := Cert.CmpVRefIdeal.τ) (Cert.CmpVRefIdeal.main (F := Ideal))) ⟨m, fun _ => 0, g⟩ (fun r => (∀ c : Dev Cert.CmpVRefIdeal.nD,
      r.2.mem ((c.tc : Thread Cert.CmpVRefIdeal.nD Cert.CmpVRefIdeal.τ).loc Cert.CmpVRefIdeal.main_arg0) = m ((c.tc : Thread Cert.CmpVRefIdeal.nD Cert.CmpVRefIdeal.τ).loc Cert.CmpVRefIdeal.main_arg0)
      ∧ r.2.mem ((c.tc : Thread Cert.CmpVRefIdeal.nD Cert.CmpVRefIdeal.τ).loc Cert.CmpVRefIdeal.main_arg1) = m ((c.tc : Thread Cert.CmpVRefIdeal.nD Cert.CmpVRefIdeal.τ).loc Cert.CmpVRefIdeal.main_arg1)
      ∧ r.2.mem ((c.tc : Thread Cert.CmpVRefIdeal.nD Cert.CmpVRefIdeal.τ).loc Cert.CmpVRefIdeal.main_arg2) = m ((c.tc : Thread Cert.CmpVRefIdeal.nD Cert.CmpVRefIdeal.τ).loc Cert.CmpVRefIdeal.main_arg2)
      ∧ r.2.mem ((c.tc : Thread Cert.CmpVRefIdeal.nD Cert.CmpVRefIdeal.τ).loc Cert.CmpVRefIdeal.main_arg3) = m ((c.tc : Thread Cert.CmpVRefIdeal.nD Cert.CmpVRefIdeal.τ).loc Cert.CmpVRefIdeal.main_arg3)
      ∧ r.2.mem ((c.tc : Thread Cert.CmpVRefIdeal.nD Cert.CmpVRefIdeal.τ).loc Cert.CmpVRefIdeal.main_arg4) = m ((c.tc : Thread Cert.CmpVRefIdeal.nD Cert.CmpVRefIdeal.τ).loc Cert.CmpVRefIdeal.main_arg4))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v71) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v20) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v27)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v27) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v38) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v33) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8))

def preserves_Dn_DnIdeal : Prop :=
  True

def algebraic_DnIdeal_DnRefIdeal_pre_finite_dn [hDnIdeal : Cert.DnIdeal.Facts] [hDnRefIdeal : Cert.DnRefIdeal.Facts] [hPre_finite_dn : Cert.Pre_finite_dn.Facts] : Prop :=
  ∀ (m : (ℓ : Loc Cert.DnIdeal.nD Cert.DnIdeal.τ Cert.DnIdeal.sig) → Buf (Elt Ideal) ℓ) (g : Dev Cert.DnIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnIdeal_finite_dn m →
    (∀ c : Dev Cert.DnIdeal.nD,
      m' ((c.tc : Thread Cert.DnRefIdeal.nD Cert.DnRefIdeal.τ).loc Cert.DnRefIdeal.main_arg0) = m ((c.tc : Thread Cert.DnIdeal.nD Cert.DnIdeal.τ).loc Cert.DnIdeal.main_arg0)
      ∧ m' ((c.tc : Thread Cert.DnRefIdeal.nD Cert.DnRefIdeal.τ).loc Cert.DnRefIdeal.main_arg1) = m ((c.tc : Thread Cert.DnIdeal.nD Cert.DnIdeal.τ).loc Cert.DnIdeal.main_arg1)
      ∧ m' ((c.tc : Thread Cert.DnRefIdeal.nD Cert.DnRefIdeal.τ).loc Cert.DnRefIdeal.main_arg2) = m ((c.tc : Thread Cert.DnIdeal.nD Cert.DnIdeal.τ).loc Cert.DnIdeal.main_arg2)
      ∧ m' ((c.tc : Thread Cert.DnRefIdeal.nD Cert.DnRefIdeal.τ).loc Cert.DnRefIdeal.main_arg3) = m ((c.tc : Thread Cert.DnIdeal.nD Cert.DnIdeal.τ).loc Cert.DnIdeal.main_arg3)
      ∧ m' ((c.tc : Thread Cert.DnRefIdeal.nD Cert.DnRefIdeal.τ).loc Cert.DnRefIdeal.main_arg4) = m ((c.tc : Thread Cert.DnIdeal.nD Cert.DnIdeal.τ).loc Cert.DnIdeal.main_arg4)) →
    ∃ (v0 : (c : Dev Cert.DnIdeal.nD) → Buf (Elt Ideal) ((c.tc : Thread Cert.DnIdeal.nD Cert.DnIdeal.τ).loc Cert.DnIdeal.main_v5)),
      θ_run (Cert.DnIdeal.defs (F := Ideal)) (onTc (τ := Cert.DnIdeal.τ) (Cert.DnIdeal.main (F := Ideal))) ⟨m, fun _ => 0, g⟩ (fun r => ∀ c : Dev Cert.DnIdeal.nD,
          r.2.mem ((c.tc : Thread Cert.DnIdeal.nD Cert.DnIdeal.τ).loc Cert.DnIdeal.main_v5) = v0 c
          ∧ r.2.mem ((c.tc : Thread Cert.DnIdeal.nD Cert.DnIdeal.τ).loc Cert.DnIdeal.main_arg0) = m ((c.tc : Thread Cert.DnIdeal.nD Cert.DnIdeal.τ).loc Cert.DnIdeal.main_arg0)
          ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
          ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
          ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
          ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v101) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2)
          ∧ r.2.mem ((c.tc : Thread Cert.DnRefIdeal.nD Cert.DnRefIdeal.τ).loc Cert.DnRefIdeal.main_arg3) = m' ((c.tc : Thread Cert.DnRefIdeal.nD Cert.DnRefIdeal.τ).loc Cert.DnRefIdeal.main_arg3)
          ∧ r.2.mem ((c.tc : Thread Cert.DnRefIdeal.nD Cert.DnRefIdeal.τ).loc Cert.DnRefIdeal.main_arg4) = m' ((c.tc : Thread Cert.DnRefIdeal.nD Cert.DnRefIdeal.τ).loc Cert.DnRefIdeal.main_arg4))

def preserves_Kvp_KvpIdeal : Prop :=
  True

def algebraic_KvpIdeal_KvpRefIdeal [hKvpIdeal : Cert.KvpIdeal.Facts] [hKvpRefIdeal : Cert.KvpRefIdeal.Facts] : Prop :=
  ∀ (m : (ℓ : Loc Cert.KvpIdeal.nD Cert.KvpIdeal.τ Cert.KvpIdeal.sig) → Buf (Elt Ideal) ℓ) (g : Dev Cert.KvpIdeal.nD → PrngReg)
    (m' : (ℓ : Loc Cert.KvpRefIdeal.nD Cert.KvpRefIdeal.τ Cert.KvpRefIdeal.sig) → Buf (Elt Ideal) ℓ) (g' : Dev Cert.KvpRefIdeal.nD → PrngReg), Pre_KvpIdeal m →
    (∀ c : Dev Cert.KvpIdeal.nD,
      m' ((c.tc : Thread Cert.KvpRefIdeal.nD Cert.KvpRefIdeal.τ).loc Cert.KvpRefIdeal.main_arg0) = m ((c.tc : Thread Cert.KvpIdeal.nD Cert.KvpIdeal.τ).loc Cert.KvpIdeal.main_arg0)
      ∧ m' ((c.tc : Thread Cert.KvpRefIdeal.nD Cert.KvpRefIdeal.τ).loc Cert.KvpRefIdeal.main_arg1) = m ((c.tc : Thread Cert.KvpIdeal.nD Cert.KvpIdeal.τ).loc Cert.KvpIdeal.main_arg1)) →
    ∃ (v0 : (c : Dev Cert.KvpIdeal.nD) → Buf (Elt Ideal) ((c.tc : Thread Cert.KvpIdeal.nD Cert.KvpIdeal.τ).loc Cert.KvpIdeal.main_v0)),
      θ_run (Cert.KvpIdeal.defs (F := Ideal)) (onTc (τ := Cert.KvpIdeal.τ) (Cert.KvpIdeal.main (F := Ideal))) ⟨m, fun _ => 0, g⟩ (fun r => ∀ c : Dev Cert.KvpIdeal.nD,
          r.2.mem ((c.tc : Thread Cert.KvpIdeal.nD Cert.KvpIdeal.τ).loc Cert.KvpIdeal.main_v0) = v0 c
          ∧ r.2.mem ((c.tc : Thread Cert.KvpIdeal.nD Cert.KvpIdeal.τ).loc Cert.KvpIdeal.main_arg0) = m ((c.tc : Thread Cert.KvpIdeal.nD Cert.KvpIdeal.τ).loc Cert.KvpIdeal.main_arg0)
          ∧ r.2.mem ((c.tc : Thread Cert.KvpIdeal.nD Cert.KvpIdeal.τ).loc Cert.KvpIdeal.main_arg1) = m ((c.tc : Thread Cert.KvpIdeal.nD Cert.KvpIdeal.τ).loc Cert.KvpIdeal.main_arg1))
      ∧ θ_run (Cert.KvpRefIdeal.defs (F := Ideal)) (onTc (τ := Cert.KvpRefIdeal.τ) (Cert.KvpRefIdeal.main (F := Ideal))) ⟨m', fun _ => 0, g'⟩ (fun r => ∀ c : Dev Cert.KvpRefIdeal.nD,
          r.2.mem ((c.tc : Thread Cert.KvpRefIdeal.nD Cert.KvpRefIdeal.τ).loc Cert.KvpRefIdeal.main_v46) = v0 c
          ∧ r.2.mem ((c.tc : Thread Cert.KvpRefIdeal.nD Cert.KvpRefIdeal.τ).loc Cert.KvpRefIdeal.main_arg0) = m' ((c.tc : Thread Cert.KvpRefIdeal.nD Cert.KvpRefIdeal.τ).loc Cert.KvpRefIdeal.main_arg0)
          ∧ r.2.mem ((c.tc : Thread Cert.KvpRefIdeal.nD Cert.KvpRefIdeal.τ).loc Cert.KvpRefIdeal.main_arg1) = m' ((c.tc : Thread Cert.KvpRefIdeal.nD Cert.KvpRefIdeal.τ).loc Cert.KvpRefIdeal.main_arg1))

def preserves_CmpK_CmpKIdeal : Prop :=
  True

def algebraic_CmpKIdeal_CmpKRefIdeal [hCmpKIdeal : Cert.CmpKIdeal.Facts] [hCmpKRefIdeal : Cert.CmpKRefIdeal.Facts] : Prop :=
  ∀ (m : (ℓ : Loc Cert.CmpKIdeal.nD Cert.CmpKIdeal.τ Cert.CmpKIdeal.sig) → Buf (Elt Ideal) ℓ) (g : Dev Cert.CmpKIdeal.nD → PrngReg)
    (m' : (ℓ : Loc Cert.CmpKRefIdeal.nD Cert.CmpKRefIdeal.τ Cert.CmpKRefIdeal.sig) → Buf (Elt Ideal) ℓ) (g' : Dev Cert.CmpKRefIdeal.nD → PrngReg), Pre_CmpKIdeal m →
    (∀ c : Dev Cert.CmpKIdeal.nD,
      m' ((c.tc : Thread Cert.CmpKRefIdeal.nD Cert.CmpKRefIdeal.τ).loc Cert.CmpKRefIdeal.main_arg0) = m ((c.tc : Thread Cert.CmpKIdeal.nD Cert.CmpKIdeal.τ).loc Cert.CmpKIdeal.main_arg0)
      ∧ m' ((c.tc : Thread Cert.CmpKRefIdeal.nD Cert.CmpKRefIdeal.τ).loc Cert.CmpKRefIdeal.main_arg1) = m ((c.tc : Thread Cert.CmpKIdeal.nD Cert.CmpKIdeal.τ).loc Cert.CmpKIdeal.main_arg1)
      ∧ m' ((c.tc : Thread Cert.CmpKRefIdeal.nD Cert.CmpKRefIdeal.τ).loc Cert.CmpKRefIdeal.main_arg2) = m ((c.tc : Thread Cert.CmpKIdeal.nD Cert.CmpKIdeal.τ).loc Cert.CmpKIdeal.main_arg2)
      ∧ m' ((c.tc : Thread Cert.CmpKRefIdeal.nD Cert.CmpKRefIdeal.τ).loc Cert.CmpKRefIdeal.main_arg3) = m ((c.tc : Thread Cert.CmpKIdeal.nD Cert.CmpKIdeal.τ).loc Cert.CmpKIdeal.main_arg3)
      ∧ m' ((c.tc : Thread Cert.CmpKRefIdeal.nD Cert.CmpKRefIdeal.τ).loc Cert.CmpKRefIdeal.main_arg4) = m ((c.tc : Thread Cert.CmpKIdeal.nD Cert.CmpKIdeal.τ).loc Cert.CmpKIdeal.main_arg4)) →
    ∃ (v0 : (c : Dev Cert.CmpKIdeal.nD) → Buf (Elt Ideal) ((c.tc : Thread Cert.CmpKIdeal.nD Cert.CmpKIdeal.τ).loc Cert.CmpKIdeal.main_v10)),
      θ_run (Cert.CmpKIdeal.defs (F := Ideal)) (onTc (τ := Cert.CmpKIdeal.τ) (Cert.CmpKIdeal.main (F := Ideal))) ⟨m, fun _ => 0, g⟩ (fun r => ∀ c : Dev Cert.CmpKIdeal.nD,
          r.2.mem ((c.tc : Thread Cert.CmpKIdeal.nD Cert.CmpKIdeal.τ).loc Cert.CmpKIdeal.main_v10) = v0 c
          ∧ r.2.mem ((c.tc : Thread Cert.CmpKIdeal.nD Cert.CmpKIdeal.τ).loc Cert.CmpKIdeal.main_arg0) = m ((c.tc : Thread Cert.CmpKIdeal.nD Cert.CmpKIdeal.τ).loc Cert.CmpKIdeal.main_arg0)
          ∧ r.2.mem ((c.tc : Thread Cert.CmpKIdeal.nD Cert.CmpKIdeal.τ).loc Cert.CmpKIdeal.main_arg1) = m ((c.tc : Thread Cert.CmpKIdeal.nD Cert.CmpKIdeal.τ).loc Cert.CmpKIdeal.main_arg1)
          ∧ r.2.mem ((c.tc : Thread Cert.CmpKIdeal.nD Cert.CmpKIdeal.τ).loc Cert.CmpKIdeal.main_arg2) = m ((c.tc : Thread Cert.CmpKIdeal.nD Cert.CmpKIdeal.τ).loc Cert.CmpKIdeal.main_arg2)
          ∧ r.2.mem ((c.tc : Thread Cert.CmpKIdeal.nD Cert.CmpKIdeal.τ).loc Cert.CmpKIdeal.main_arg3) = m ((c.tc : Thread Cert.CmpKIdeal.nD Cert.CmpKIdeal.τ).loc Cert.CmpKIdeal.main_arg3)
          ∧ r.2.mem ((c.tc : Thread Cert.CmpKIdeal.nD Cert.CmpKIdeal.τ).loc Cert.CmpKIdeal.main_arg4) = m ((c.tc : Thread Cert.CmpKIdeal.nD Cert.CmpKIdeal.τ).loc Cert.CmpKIdeal.main_arg4))
      ∧ θ_run (Cert.CmpKRefIdeal.defs (F := Ideal)) (onTc (τ := Cert.CmpKRefIdeal.τ) (Cert.CmpKRefIdeal.main (F := Ideal))) ⟨m', fun _ => 0, g'⟩ (fun r => ∀ c : Dev Cert.CmpKRefIdeal.nD,
          r.2.mem ((c.tc : Thread Cert.CmpKRefIdeal.nD Cert.CmpKRefIdeal.τ).loc Cert.CmpKRefIdeal.main_v30) = v0 c
          ∧ r.2.mem ((c.tc : Thread Cert.CmpKRefIdeal.nD Cert.CmpKRefIdeal.τ).loc Cert.CmpKRefIdeal.main_arg0) = m' ((c.tc : Thread Cert.CmpKRefIdeal.nD Cert.CmpKRefIdeal.τ).loc Cert.CmpKRefIdeal.main_arg0)
          ∧ r.2.mem ((c.tc : Thread Cert.CmpKRefIdeal.nD Cert.CmpKRefIdeal.τ).loc Cert.CmpKRefIdeal.main_arg1) = m' ((c.tc : Thread Cert.CmpKRefIdeal.nD Cert.CmpKRefIdeal.τ).loc Cert.CmpKRefIdeal.main_arg1)
          ∧ r.2.mem ((c.tc : Thread Cert.CmpKRefIdeal.nD Cert.CmpKRefIdeal.τ).loc Cert.CmpKRefIdeal.main_arg2) = m' ((c.tc : Thread Cert.CmpKRefIdeal.nD Cert.CmpKRefIdeal.τ).loc Cert.CmpKRefIdeal.main_arg2)
          ∧ r.2.mem ((c.tc : Thread Cert.CmpKRefIdeal.nD Cert.CmpKRefIdeal.τ).loc Cert.CmpKRefIdeal.main_arg3) = m' ((c.tc : Thread Cert.CmpKRefIdeal.nD Cert.CmpKRefIdeal.τ).loc Cert.CmpKRefIdeal.main_arg3)
          ∧ r.2.mem ((c.tc : Thread Cert.CmpKRefIdeal.nD Cert.CmpKRefIdeal.τ).loc Cert.CmpKRefIdeal.main_arg4) = m' ((c.tc : Thread Cert.CmpKRefIdeal.nD Cert.CmpKRefIdeal.τ).loc Cert.CmpKRefIdeal.main_arg4))

def preserves_CmpV_CmpVIdeal : Prop :=
  True

def algebraic_CmpVIdeal_CmpVRefIdeal [hCmpVIdeal : Cert.CmpVIdeal.Facts] [hCmpVRefIdeal : Cert.CmpVRefIdeal.Facts] : Prop :=
  ∀ (m : (ℓ : Loc Cert.CmpVIdeal.nD Cert.CmpVIdeal.τ Cert.CmpVIdeal.sig) → Buf (Elt Ideal) ℓ) (g : Dev Cert.CmpVIdeal.nD → PrngReg)
    (m' : (ℓ : Loc Cert.CmpVRefIdeal.nD Cert.CmpVRefIdeal.τ Cert.CmpVRefIdeal.sig) → Buf (Elt Ideal) ℓ) (g' : Dev Cert.CmpVRefIdeal.nD → PrngReg), Pre_CmpVIdeal m →
    (∀ c : Dev Cert.CmpVIdeal.nD,
      m' ((c.tc : Thread Cert.CmpVRefIdeal.nD Cert.CmpVRefIdeal.τ).loc Cert.CmpVRefIdeal.main_arg0) = m ((c.tc : Thread Cert.CmpVIdeal.nD Cert.CmpVIdeal.τ).loc Cert.CmpVIdeal.main_arg0)
      ∧ m' ((c.tc : Thread Cert.CmpVRefIdeal.nD Cert.CmpVRefIdeal.τ).loc Cert.CmpVRefIdeal.main_arg1) = m ((c.tc : Thread Cert.CmpVIdeal.nD Cert.CmpVIdeal.τ).loc Cert.CmpVIdeal.main_arg1)
      ∧ m' ((c.tc : Thread Cert.CmpVRefIdeal.nD Cert.CmpVRefIdeal.τ).loc Cert.CmpVRefIdeal.main_arg2) = m ((c.tc : Thread Cert.CmpVIdeal.nD Cert.CmpVIdeal.τ).loc Cert.CmpVIdeal.main_arg2)
      ∧ m' ((c.tc : Thread Cert.CmpVRefIdeal.nD Cert.CmpVRefIdeal.τ).loc Cert.CmpVRefIdeal.main_arg3) = m ((c.tc : Thread Cert.CmpVIdeal.nD Cert.CmpVIdeal.τ).loc Cert.CmpVIdeal.main_arg3)
      ∧ m' ((c.tc : Thread Cert.CmpVRefIdeal.nD Cert.CmpVRefIdeal.τ).loc Cert.CmpVRefIdeal.main_arg4) = m ((c.tc : Thread Cert.CmpVIdeal.nD Cert.CmpVIdeal.τ).loc Cert.CmpVIdeal.main_arg4)) →
    ∃ (v0 : (c : Dev Cert.CmpVIdeal.nD) → Buf (Elt Ideal) ((c.tc : Thread Cert.CmpVIdeal.nD Cert.CmpVIdeal.τ).loc Cert.CmpVIdeal.main_v10)),
      θ_run (Cert.CmpVIdeal.defs (F := Ideal)) (onTc (τ := Cert.CmpVIdeal.τ) (Cert.CmpVIdeal.main (F := Ideal))) ⟨m, fun _ => 0, g⟩ (fun r => ∀ c : Dev Cert.CmpVIdeal.nD,
          r.2.mem ((c.tc : Thread Cert.CmpVIdeal.nD Cert.CmpVIdeal.τ).loc Cert.CmpVIdeal.main_v10) = v0 c
          ∧ r.2.mem ((c.tc : Thread Cert.CmpVIdeal.nD Cert.CmpVIdeal.τ).loc Cert.CmpVIdeal.main_arg0) = m ((c.tc : Thread Cert.CmpVIdeal.nD Cert.CmpVIdeal.τ).loc Cert.CmpVIdeal.main_arg0)
          ∧ r.2.mem ((c.tc : Thread Cert.CmpVIdeal.nD Cert.CmpVIdeal.τ).loc Cert.CmpVIdeal.main_arg1) = m ((c.tc : Thread Cert.CmpVIdeal.nD Cert.CmpVIdeal.τ).loc Cert.CmpVIdeal.main_arg1)
          ∧ r.2.mem ((c.tc : Thread Cert.CmpVIdeal.nD Cert.CmpVIdeal.τ).loc Cert.CmpVIdeal.main_arg2) = m ((c.tc : Thread Cert.CmpVIdeal.nD Cert.CmpVIdeal.τ).loc Cert.CmpVIdeal.main_arg2)
          ∧ r.2.mem ((c.tc : Thread Cert.CmpVIdeal.nD Cert.CmpVIdeal.τ).loc Cert.CmpVIdeal.main_arg3) = m ((c.tc : Thread Cert.CmpVIdeal.nD Cert.CmpVIdeal.τ).loc Cert.CmpVIdeal.main_arg3)
          ∧ r.2.mem ((c.tc : Thread Cert.CmpVIdeal.nD Cert.CmpVIdeal.τ).loc Cert.CmpVIdeal.main_arg4) = m ((c.tc : Thread Cert.CmpVIdeal.nD Cert.CmpVIdeal.τ).loc Cert.CmpVIdeal.main_arg4))
      ∧ θ_run (Cert.CmpVRefIdeal.defs (F := Ideal)) (onTc (τ := Cert.CmpVRefIdeal.τ) (Cert.CmpVRefIdeal.main (F := Ideal))) ⟨m', fun _ => 0, g'⟩ (fun r => ∀ c : Dev Cert.CmpVRefIdeal.nD,
          r.2.mem ((c.tc : Thread Cert.CmpVRefIdeal.nD Cert.CmpVRefIdeal.τ).loc Cert.CmpVRefIdeal.main_v15) = v0 c
          ∧ r.2.mem ((c.tc : Thread Cert.CmpVRefIdeal.nD Cert.CmpVRefIdeal.τ).loc Cert.CmpVRefIdeal.main_arg0) = m' ((c.tc : Thread Cert.CmpVRefIdeal.nD Cert.CmpVRefIdeal.τ).loc Cert.CmpVRefIdeal.main_arg0)
          ∧ r.2.mem ((c.tc : Thread Cert.CmpVRefIdeal.nD Cert.CmpVRefIdeal.τ).loc Cert.CmpVRefIdeal.main_arg1) = m' ((c.tc : Thread Cert.CmpVRefIdeal.nD Cert.CmpVRefIdeal.τ).loc Cert.CmpVRefIdeal.main_arg1)
          ∧ r.2.mem ((c.tc : Thread Cert.CmpVRefIdeal.nD Cert.CmpVRefIdeal.τ).loc Cert.CmpVRefIdeal.main_arg2) = m' ((c.tc : Thread Cert.CmpVRefIdeal.nD Cert.CmpVRefIdeal.τ).loc Cert.CmpVRefIdeal.main_arg2)
          ∧ r.2.mem ((c.tc : Thread Cert.CmpVRefIdeal.nD Cert.CmpVRefIdeal.τ).loc Cert.CmpVRefIdeal.main_arg3) = m' ((c.tc : Thread Cert.CmpVRefIdeal.nD Cert.CmpVRefIdeal.τ).loc Cert.CmpVRefIdeal.main_arg3)
          ∧ r.2.mem ((c.tc : Thread Cert.CmpVRefIdeal.nD Cert.CmpVRefIdeal.τ).loc Cert.CmpVRefIdeal.main_arg4) = m' ((c.tc : Thread Cert.CmpVRefIdeal.nD Cert.CmpVRefIdeal.τ).loc Cert.CmpVRefIdeal.main_arg4))

def Claim : Prop :=
  ∃ (hSgu : Cert.Sgu.Facts) (hSguIdeal : Cert.SguIdeal.Facts) (hSguRefIdeal : Cert.SguRefIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hDn : Cert.Dn.Facts) (hDnIdeal : Cert.DnIdeal.Facts) (hDnRefIdeal : Cert.DnRefIdeal.Facts) (hKvp : Cert.Kvp.Facts) (hKvpIdeal : Cert.KvpIdeal.Facts) (hKvpRefIdeal : Cert.KvpRefIdeal.Facts) (hCmpK : Cert.CmpK.Facts) (hCmpKIdeal : Cert.CmpKIdeal.Facts) (hCmpKRefIdeal : Cert.CmpKRefIdeal.Facts) (hCmpV : Cert.CmpV.Facts) (hCmpVIdeal : Cert.CmpVIdeal.Facts) (hCmpVRefIdeal : Cert.CmpVRefIdeal.Facts) (hPre_finite_dn : Cert.Pre_finite_dn.Facts),
    quiescent_Sgu (hSgu := hSgu)
    ∧ quiescent_SguIdeal (hSguIdeal := hSguIdeal)
    ∧ quiescent_SguRefIdeal (hSguRefIdeal := hSguRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Dn (hDn := hDn)
    ∧ quiescent_DnIdeal (hDnIdeal := hDnIdeal)
    ∧ quiescent_DnIdeal_pre_finite_dn (hDnIdeal := hDnIdeal) (hPre_finite_dn := hPre_finite_dn)
    ∧ quiescent_DnRefIdeal (hDnRefIdeal := hDnRefIdeal)
    ∧ quiescent_DnRefIdeal_pre_finite_dn (hDnRefIdeal := hDnRefIdeal) (hPre_finite_dn := hPre_finite_dn)
    ∧ quiescent_Kvp (hKvp := hKvp)
    ∧ quiescent_KvpIdeal (hKvpIdeal := hKvpIdeal)
    ∧ quiescent_KvpRefIdeal (hKvpRefIdeal := hKvpRefIdeal)
    ∧ quiescent_CmpK (hCmpK := hCmpK)
    ∧ quiescent_CmpKIdeal (hCmpKIdeal := hCmpKIdeal)
    ∧ quiescent_CmpKRefIdeal (hCmpKRefIdeal := hCmpKRefIdeal)
    ∧ quiescent_CmpV (hCmpV := hCmpV)
    ∧ quiescent_CmpVIdeal (hCmpVIdeal := hCmpVIdeal)
    ∧ quiescent_CmpVRefIdeal (hCmpVRefIdeal := hCmpVRefIdeal)
    ∧ preserves_Sgu_SguIdeal
    ∧ algebraic_SguIdeal_SguRefIdeal (hSguIdeal := hSguIdeal) (hSguRefIdeal := hSguRefIdeal)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Dn_DnIdeal
    ∧ algebraic_DnIdeal_DnRefIdeal_pre_finite_dn (hDnIdeal := hDnIdeal) (hDnRefIdeal := hDnRefIdeal) (hPre_finite_dn := hPre_finite_dn)
    ∧ preserves_Kvp_KvpIdeal
    ∧ algebraic_KvpIdeal_KvpRefIdeal (hKvpIdeal := hKvpIdeal) (hKvpRefIdeal := hKvpRefIdeal)
    ∧ preserves_CmpK_CmpKIdeal
    ∧ algebraic_CmpKIdeal_CmpKRefIdeal (hCmpKIdeal := hCmpKIdeal) (hCmpKRefIdeal := hCmpKRefIdeal)
    ∧ preserves_CmpV_CmpVIdeal
    ∧ algebraic_CmpVIdeal_CmpVRefIdeal (hCmpVIdeal := hCmpVIdeal) (hCmpVRefIdeal := hCmpVRefIdeal)
-- ==== Pre_finite_dn.lean ====
abbrev S32768x15360 : Shape := ⟨2, ![32768, 15360]⟩
abbrev S4x3072 : Shape := ⟨2, ![4, 3072]⟩
abbrev S8 : Shape := ⟨1, ![8]⟩
abbrev S128 : Shape := ⟨1, ![128]⟩
abbrev S32768x1024 : Shape := ⟨2, ![32768, 1024]⟩
abbrev S_ : Shape := ⟨0, ![]⟩
abbrev S4x1024 : Shape := ⟨2, ![4, 1024]⟩
abbrev S32768x8 : Shape := ⟨2, ![32768, 8]⟩

class Facts : Prop where
  slices_S32768x15360_S32768x1024_0_2048 : S32768x15360.Slices ![0, 2048] S32768x1024
  bcast_S_S32768x1024 : S_.BroadcastsInDim S32768x1024 (![] : Fin 0 → Fin S32768x1024.rank)
  slices_S4x3072_S4x1024_0_2048 : S4x3072.Slices ![0, 2048] S4x1024
  bcast_S_S4x1024 : S_.BroadcastsInDim S4x1024 (![] : Fin 0 → Fin S4x1024.rank)
  slices_S32768x15360_S32768x8_0_13824 : S32768x15360.Slices ![0, 13824] S32768x8
  bcast_S_S32768x8 : S_.BroadcastsInDim S32768x8 (![] : Fin 0 → Fin S32768x8.rank)
  bcast_S_S8 : S_.BroadcastsInDim S8 (![] : Fin 0 → Fin S8.rank)

variable [Facts]

def fn {F : FTy → Type} [FloatOps F] (main_arg0 : FVec F S32768x15360 .f32) (main_arg1 : FVec F S4x3072 .f32) (main_arg2 : FVec F S8 .f32) (main_arg3 : FVec F S8 .f32) (main_arg4 : FVec F S128 .f32) : IVec S32768x1024 1 × IVec S4x1024 1 × IVec S32768x8 1 × IVec S8 1 × IVec S8 1 :=
  let main_v0 : FVec F S32768x1024 .f32 := (extractStridedSlice S32768x1024 ![0, 2048] · slices_S32768x15360_S32768x1024_0_2048) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  let main_v4 : FVec F S4x1024 .f32 := (extractStridedSlice S4x1024 ![0, 2048] · slices_S4x3072_S4x1024_0_2048) main_arg1
  let main_v5 : FVec F S4x1024 .f32 := Host.absf main_v4
  let main_cst_0 : FVec F S_ .f32 := constant S_ .f32 0x7F800000#32
  let main_v6 : FVec F S4x1024 .f32 := broadcastInDim S4x1024 ![] bcast_S_S4x1024 main_cst_0
  let main_v7 : IVec S4x1024 1 := cmpf .olt main_v5 main_v6
  let main_v8 : FVec F S32768x8 .f32 := (extractStridedSlice S32768x8 ![0, 13824] · slices_S32768x15360_S32768x8_0_13824) main_arg0
  let main_cst_1 : FVec F S_ .f32 := constant S_ .f32 0x7F800000#32
  let main_v9 : FVec F S32768x8 .f32 := broadcastInDim S32768x8 ![] bcast_S_S32768x8 main_cst_1
  let main_v10 : IVec S32768x8 1 := cmpf .olt main_v8 main_v9
  let main_cst_2 : FVec F S_ .f32 := constant S_ .f32 0x7F800000#32
  let main_v11 : FVec F S8 .f32 := broadcastInDim S8 ![] bcast_S_S8 main_cst_2
  let main_v12 : IVec S8 1 := cmpf .olt main_arg2 main_v11
  let main_cst_3 : FVec F S_ .f32 := constant S_ .f32 0x7F800000#32
  let main_v13 : FVec F S8 .f32 := broadcastInDim S8 ![] bcast_S_S8 main_cst_3
  let main_v14 : IVec S8 1 := cmpf .olt main_arg3 main_v13
  (main_v3, main_v7, main_v10, main_v12, main_v14)
-- ==== Sgu.lean ====
abbrev S32768x15360 : Shape := ⟨2, ![32768, 15360]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S128x8 : Shape := ⟨2, ![128, 8]⟩
abbrev S32768x1024 : Shape := ⟨2, ![32768, 1024]⟩
abbrev S256x1024 : Shape := ⟨2, ![256, 1024]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x1 : Shape := ⟨2, ![128, 1]⟩

abbrev nBuf : Space → Nat
  | .hbm => 9
  | .vmem => 10
  | .smem => 0
  | _ => 0

abbrev bufTy : (tb : Table) → Fin (tcTables nBuf tb) → BufTy
  | .hbm, ⟨0, _⟩ => ⟨S32768x15360, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S1x1024, .f32⟩
  | .hbm, ⟨6, _⟩ => ⟨S1x1024, .f32⟩
  | .hbm, ⟨7, _⟩ => ⟨S128x8, .f32⟩
  | .hbm, ⟨8, _⟩ => ⟨S32768x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x8, .f32⟩
  | .local _ .vmem, ⟨8, _⟩ => ⟨S256x1024, .bf16⟩
  | .local _ .vmem, ⟨9, _⟩ => ⟨S256x1024, .bf16⟩
  | _, _ => ⟨S32768x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S32768x15360 : Shape := ⟨2, ![32768, 15360]⟩
abbrev S1024 : Shape := ⟨1, ![1024]⟩
abbrev S8x128x128 : Shape := ⟨3, ![8, 128, 128]⟩
abbrev S8x128 : Shape := ⟨2, ![8, 128]⟩
abbrev S32768x1024 : Shape := ⟨2, ![32768, 1024]⟩
abbrev S4x8192x1024 : Shape := ⟨3, ![4, 8192, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x64x128x8x128 : Shape := ⟨5, ![4, 64, 128, 8, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x4x64x128x128 : Shape := ⟨5, ![8, 4, 64, 128, 128]⟩
abbrev S128x8 : Shape := ⟨2, ![128, 8]⟩
abbrev S1x1x128x8x1 : Shape := ⟨5, ![1, 1, 128, 8, 1]⟩

abbrev nBuf : Space → Nat
  | .hbm => 94
  | .vmem => 0
  | .smem => 0
  | _ => 0

abbrev bufTy : (tb : Table) → Fin (tcTables nBuf tb) → BufTy
  | .hbm, ⟨0, _⟩ => ⟨S32768x15360, .f32⟩
  | .hbm, ⟨1, _⟩ => ⟨S1024, .f32⟩
  | .hbm, ⟨2, _⟩ => ⟨S1024, .f32⟩
  | .hbm, ⟨3, _⟩ => ⟨S8x128x128, .f32⟩
  | .hbm, ⟨4, _⟩ => ⟨S8x128, .f32⟩
  | .hbm, ⟨5, _⟩ => ⟨S32768x1024, .f32⟩
  | .hbm, ⟨6, _⟩ => ⟨S4x8192x1024, .f32⟩
  | .hbm, ⟨7, _⟩ => ⟨S32768x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192x1024, .f32⟩
  | .hbm, ⟨17, _⟩ => ⟨S4x8192x1024, .f32⟩
  | .hbm, ⟨18, _⟩ => ⟨S4x8192x1024, .f32⟩
  | .hbm, ⟨19, _⟩ => ⟨S_, .f32⟩
  | .hbm, ⟨20, _⟩ => ⟨S4x8192x1024, .f32⟩
  | .hbm, ⟨21, _⟩ => ⟨S4x8192x1024, .f32⟩
  | .hbm, ⟨22, _⟩ => ⟨S_, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S_, .f32⟩
  | .hbm, ⟨29, _⟩ => ⟨S4x8192x1024, .f32⟩
  | .hbm, ⟨30, _⟩ => ⟨S4x8192x1024, .f32⟩
  | .hbm, ⟨31, _⟩ => ⟨S4x8192x1024, .f32⟩
  | .hbm, ⟨32, _⟩ => ⟨S_, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S4x8192x1024, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S_, .f32⟩
  | .hbm, ⟨47, _⟩ => ⟨S4x8192x1, .f32⟩
  | .hbm, ⟨48, _⟩ => ⟨S4x8192x1, .f32⟩
  | .hbm, ⟨49, _⟩ => ⟨S4x8192x1024, .f32⟩
  | .hbm, ⟨50, _⟩ => ⟨S4x8192x1024, .f32⟩
  | .hbm, ⟨51, _⟩ => ⟨S4x8192x1024, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S4x8192x1024, .f32⟩
  | .hbm, ⟨59, _⟩ => ⟨S4x8192x1024, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x8192x1, .f32⟩
  | .hbm, ⟨64, _⟩ => ⟨S4x8192x1024, .f32⟩
  | .hbm, ⟨65, _⟩ => ⟨S4x8192x1024, .f32⟩
  | .hbm, ⟨66, _⟩ => ⟨S1x1x1024, .f32⟩
  | .hbm, ⟨67, _⟩ => ⟨S4x8192x1024, .f32⟩
  | .hbm, ⟨68, _⟩ => ⟨S4x8192x1024, .f32⟩
  | .hbm, ⟨69, _⟩ => ⟨S1x1x1024, .f32⟩
  | .hbm, ⟨70, _⟩ => ⟨S4x8192x1024, .f32⟩
  | .hbm, ⟨71, _⟩ => ⟨S4x8192x1024, .f32⟩
  | .hbm, ⟨72, _⟩ => ⟨S4x64x128x8x128, .f32⟩
  | .hbm, ⟨73, _⟩ => ⟨S128, .i32⟩
  | .hbm, ⟨74, _⟩ => ⟨S128x1, .i32⟩
  | .hbm, ⟨75, _⟩ => ⟨S1x128, .i32⟩
  | .hbm, ⟨76, _⟩ => ⟨S128x128, .i32⟩
  | .hbm, ⟨77, _⟩ => ⟨S128x128, .i32⟩
  | .hbm, ⟨78, _⟩ => ⟨S128x128, .i1⟩
  | .hbm, ⟨79, _⟩ => ⟨S_, .f32⟩
  | .hbm, ⟨80, _⟩ => ⟨S_, .f32⟩
  | .hbm, ⟨81, _⟩ => ⟨S8x128x128, .i1⟩
  | .hbm, ⟨82, _⟩ => ⟨S8x128x128, .f32⟩
  | .hbm, ⟨83, _⟩ => ⟨S8x128x128, .f32⟩
  | .hbm, ⟨84, _⟩ => ⟨S8x4x64x128x128, .f32⟩
  | .hbm, ⟨85, _⟩ => ⟨S4x64x128x8x128, .f32⟩
  | .hbm, ⟨86, _⟩ => ⟨S128x8, .f32⟩
  | .hbm, ⟨87, _⟩ => ⟨S1x1x128x8x1, .f32⟩
  | .hbm, ⟨88, _⟩ => ⟨S4x64x128x8x128, .f32⟩
  | .hbm, ⟨89, _⟩ => ⟨S4x64x128x8x128, .f32⟩
  | .hbm, ⟨90, _⟩ => ⟨S4x8192x1024, .f32⟩
  | .hbm, ⟨91, _⟩ => ⟨S4x8192x1024, .f32⟩
  | .hbm, ⟨92, _⟩ => ⟨S4x8192x1024, .bf16⟩
  | .hbm, ⟨93, _⟩ => ⟨S32768x1024, .bf16⟩
  | _, _ => ⟨S32768x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_11 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_12 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩

abbrev nD : Nat := 1
abbrev τ : Topo := Topo.v7x

variable {F : FTy → Type} [FloatOps F]
-- ==== Ffn.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 19
  | .vmem => 13
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S2048x5504, .bf16⟩
  | .hbm, ⟨6, _⟩ => ⟨S_, .i32⟩
  | .hbm, ⟨7, _⟩ => ⟨S_, .bf16⟩
  | .hbm, ⟨8, _⟩ => ⟨S2048x5632, .bf16⟩
  | .hbm, ⟨9, _⟩ => ⟨S2048x5504, .bf16⟩
  | .hbm, ⟨10, _⟩ => ⟨S_, .i32⟩
  | .hbm, ⟨11, _⟩ => ⟨S_, .bf16⟩
  | .hbm, ⟨12, _⟩ => ⟨S2048x5632, .bf16⟩
  | .hbm, ⟨13, _⟩ => ⟨S5504x2048, .bf16⟩
  | .hbm, ⟨14, _⟩ => ⟨S_, .i32⟩
  | .hbm, ⟨15, _⟩ => ⟨S_, .bf16⟩
  | .hbm, ⟨16, _⟩ => ⟨S5632x2048, .bf16⟩
  | .hbm, ⟨17, _⟩ => ⟨S1x2048, .f32⟩
  | .hbm, ⟨18, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S32768x2048 : Shape := ⟨2, ![32768, 2048]⟩
abbrev S2048 : Shape := ⟨1, ![2048]⟩
abbrev S2048x5504 : Shape := ⟨2, ![2048, 5504]⟩
abbrev S5504x2048 : Shape := ⟨2, ![5504, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x5504 : Shape := ⟨2, ![32768, 5504]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x5504, .f32⟩
  | .hbm, ⟨3, _⟩ => ⟨S2048x5504, .f32⟩
  | .hbm, ⟨4, _⟩ => ⟨S5504x2048, .f32⟩
  | .hbm, ⟨5, _⟩ => ⟨S32768x2048, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x2048, .f32⟩
  | .hbm, ⟨17, _⟩ => ⟨S32768x2048, .f32⟩
  | .hbm, ⟨18, _⟩ => ⟨S1x2048, .f32⟩
  | .hbm, ⟨19, _⟩ => ⟨S32768x2048, .f32⟩
  | .hbm, ⟨20, _⟩ => ⟨S32768x2048, .f32⟩
  | .hbm, ⟨21, _⟩ => ⟨S32768x5504, .f32⟩
  | .hbm, ⟨22, _⟩ => ⟨S32768x5504, .f32⟩
  | .hbm, ⟨23, _⟩ => ⟨S32768x5504, .f32⟩
  | .hbm, ⟨24, _⟩ => ⟨S_, .f32⟩
  | .hbm, ⟨25, _⟩ => ⟨S32768x5504, .f32⟩
  | .hbm, ⟨26, _⟩ => ⟨S32768x5504, .f32⟩
  | .hbm, ⟨27, _⟩ => ⟨S_, .f32⟩
  | .hbm, ⟨28, _⟩ => ⟨S32768x5504, .f32⟩
  | .hbm, ⟨29, _⟩ => ⟨S32768x5504, .f32⟩
  | .hbm, ⟨30, _⟩ => ⟨S32768x5504, .f32⟩
  | .hbm, ⟨31, _⟩ => ⟨S32768x5504, .f32⟩
  | .hbm, ⟨32, _⟩ => ⟨S32768x5504, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩

abbrev nD : Nat := 1
abbrev τ : Topo := Topo.v7x

variable {F : FTy → Type} [FloatOps F]
-- ==== Proj.lean ====
abbrev S32768x2048 : Shape := ⟨2, ![32768, 2048]⟩
abbrev S2048 : Shape := ⟨1, ![2048]⟩
abbrev S2048x14888 : Shape := ⟨2, ![2048, 14888]⟩
abbrev S2048x1024 : Shape := ⟨2, ![2048, 1024]⟩
abbrev S2048x8 : Shape := ⟨2, ![2048, 8]⟩
abbrev S2048x256 : Shape := ⟨2, ![2048, 256]⟩
abbrev S2048x24 : Shape := ⟨2, ![2048, 24]⟩
abbrev S2048x2048 : Shape := ⟨2, ![2048, 2048]⟩
abbrev S_ : Shape := ⟨0, ![]⟩
abbrev S2048x112 : Shape := ⟨2, ![2048, 112]⟩
abbrev S2048x104 : Shape := ⟨2, ![2048, 104]⟩
abbrev S2048x13976 : Shape := ⟨2, ![2048, 13976]⟩
abbrev S2048x1384 : Shape := ⟨2, ![2048, 1384]⟩
abbrev S2048x15360 : Shape := ⟨2, ![2048, 15360]⟩
abbrev S1x2048 : Shape := ⟨2, ![1, 2048]⟩
abbrev S32768x15360 : Shape := ⟨2, ![32768, 15360]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 34
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x14888, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x8, .f32⟩
  | .hbm, ⟨8, _⟩ => ⟨S2048x8, .f32⟩
  | .hbm, ⟨9, _⟩ => ⟨S2048x1024, .f32⟩
  | .hbm, ⟨10, _⟩ => ⟨S2048x256, .f32⟩
  | .hbm, ⟨11, _⟩ => ⟨S2048x256, .f32⟩
  | .hbm, ⟨12, _⟩ => ⟨S2048x256, .f32⟩
  | .hbm, ⟨13, _⟩ => ⟨S2048x256, .f32⟩
  | .hbm, ⟨14, _⟩ => ⟨S2048x256, .f32⟩
  | .hbm, ⟨15, _⟩ => ⟨S2048x256, .f32⟩
  | .hbm, ⟨16, _⟩ => ⟨S2048x24, .f32⟩
  | .hbm, ⟨17, _⟩ => ⟨S2048x1024, .f32⟩
  | .hbm, ⟨18, _⟩ => ⟨S2048x1024, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x112, .f32⟩
  | .hbm, ⟨24, _⟩ => ⟨S_, .f32⟩
  | .hbm, ⟨25, _⟩ => ⟨S2048x104, .f32⟩
  | .hbm, ⟨26, _⟩ => ⟨S_, .f32⟩
  | .hbm, ⟨27, _⟩ => ⟨S2048x256, .f32⟩
  | .hbm, ⟨28, _⟩ => ⟨S2048x13976, .f32⟩
  | .hbm, ⟨29, _⟩ => ⟨S2048x1384, .f32⟩
  | .hbm, ⟨30, _⟩ => ⟨S2048x15360, .f32⟩
  | .hbm, ⟨31, _⟩ => ⟨S2048x15360, .bf16⟩
  | .hbm, ⟨32, _⟩ => ⟨S1x2048, .f32⟩
  | .hbm, ⟨33, _⟩ => ⟨S32768x15360, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![64, 30], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S32768x2048 : Shape := ⟨2, ![32768, 2048]⟩
abbrev S2048 : Shape := ⟨1, ![2048]⟩
abbrev S2048x14888 : Shape := ⟨2, ![2048, 14888]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x14888 : Shape := ⟨2, ![32768, 14888]⟩
abbrev S32768x1024 : Shape := ⟨2, ![32768, 1024]⟩
abbrev S32768x8 : Shape := ⟨2, ![32768, 8]⟩
abbrev S32768x256 : Shape := ⟨2, ![32768, 256]⟩
abbrev S32768x24 : Shape := ⟨2, ![32768, 24]⟩
abbrev S32768x112 : Shape := ⟨2, ![32768, 112]⟩
abbrev S32768x104 : Shape := ⟨2, ![32768, 104]⟩
abbrev S32768x13976 : Shape := ⟨2, ![32768, 13976]⟩
abbrev S32768x1384 : Shape := ⟨2, ![32768, 1384]⟩
abbrev S32768x15360 : Shape := ⟨2, ![32768, 15360]⟩

abbrev nBuf : Space → Nat
  | .hbm => 48
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x14888, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x14888, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x8, .f32⟩
  | .hbm, ⟨25, _⟩ => ⟨S32768x8, .f32⟩
  | .hbm, ⟨26, _⟩ => ⟨S32768x1024, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x24, .f32⟩
  | .hbm, ⟨34, _⟩ => ⟨S32768x1024, .f32⟩
  | .hbm, ⟨35, _⟩ => ⟨S32768x1024, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x112, .f32⟩
  | .hbm, ⟨41, _⟩ => ⟨S_, .f32⟩
  | .hbm, ⟨42, _⟩ => ⟨S32768x104, .f32⟩
  | .hbm, ⟨43, _⟩ => ⟨S_, .f32⟩
  | .hbm, ⟨44, _⟩ => ⟨S32768x256, .f32⟩
  | .hbm, ⟨45, _⟩ => ⟨S32768x13976, .f32⟩
  | .hbm, ⟨46, _⟩ => ⟨S32768x1384, .f32⟩
  | .hbm, ⟨47, _⟩ => ⟨S32768x15360, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_cst_3 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩

abbrev nD : Nat := 1
abbrev τ : Topo := Topo.v7x

variable {F : FTy → Type} [FloatOps F]
-- ==== Merge.lean ====
abbrev S32768x2048 : Shape := ⟨2, ![32768, 2048]⟩
abbrev S32768x15360 : Shape := ⟨2, ![32768, 15360]⟩
abbrev S32768x1024 : Shape := ⟨2, ![32768, 1024]⟩
abbrev S1024x2048 : Shape := ⟨2, ![1024, 2048]⟩
abbrev S2048x2048 : Shape := ⟨2, ![2048, 2048]⟩
abbrev S512x2048 : Shape := ⟨2, ![512, 2048]⟩
abbrev S512x1024 : Shape := ⟨2, ![512, 1024]⟩
abbrev S512x512 : Shape := ⟨2, ![512, 512]⟩
abbrev S1024x512 : Shape := ⟨2, ![1024, 512]⟩

abbrev nBuf : Space → Nat
  | .hbm => 14
  | .vmem => 25
  | .smem => 0
  | _ => 0

abbrev bufTy : (tb : Table) → Fin (tcTables nBuf tb) → BufTy
  | .hbm, ⟨0, _⟩ => ⟨S32768x2048, .f32⟩
  | .hbm, ⟨1, _⟩ => ⟨S32768x15360, .f32⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S1024x2048, .bf16⟩
  | .hbm, ⟨10, _⟩ => ⟨S1024x2048, .bf16⟩
  | .hbm, ⟨11, _⟩ => ⟨S1024x2048, .bf16⟩
  | .hbm, ⟨12, _⟩ => ⟨S2048x2048, .bf16⟩
  | .hbm, ⟨13, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | .local _ .vmem, ⟨20, _⟩ => ⟨S512x2048, .bf16⟩
  | .local _ .vmem, ⟨21, _⟩ => ⟨S512x2048, .bf16⟩
  | .local _ .vmem, ⟨22, _⟩ => ⟨S512x2048, .f32⟩
  | .local _ .vmem, ⟨23, _⟩ => ⟨S512x2048, .f32⟩
  | .local _ .vmem, ⟨24, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![64, 4], ![false, false]⟩

def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_27 : BitVec 32 := 0#32
  let v37 : BitVec 1 := Scalar.cmpi .ne v36 c0_i32_27
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== MergeRefIdeal.lean ====
abbrev S32768x2048 : Shape := ⟨2, ![32768, 2048]⟩
abbrev S32768x15360 : Shape := ⟨2, ![32768, 15360]⟩
abbrev S32768x1024 : Shape := ⟨2, ![32768, 1024]⟩
abbrev S1024x2048 : Shape := ⟨2, ![1024, 2048]⟩
abbrev S2048x2048 : Shape := ⟨2, ![2048, 2048]⟩
abbrev S_ : Shape := ⟨0, ![]⟩

abbrev nBuf : Space → Nat
  | .hbm => 49
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x15360, .f32⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x1024, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x1024, .f32⟩
  | .hbm, ⟨32, _⟩ => ⟨S32768x2048, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S_, .f32⟩
  | .hbm, ⟨38, _⟩ => ⟨S32768x2048, .f32⟩
  | .hbm, ⟨39, _⟩ => ⟨S32768x2048, .f32⟩
  | .hbm, ⟨40, _⟩ => ⟨S_, .f32⟩
  | .hbm, ⟨41, _⟩ => ⟨S32768x2048, .f32⟩
  | .hbm, ⟨42, _⟩ => ⟨S32768x2048, .f32⟩
  | .hbm, ⟨43, _⟩ => ⟨S32768x1024, .f32⟩
  | .hbm, ⟨44, _⟩ => ⟨S32768x2048, .f32⟩
  | .hbm, ⟨45, _⟩ => ⟨S32768x2048, .f32⟩
  | .hbm, ⟨46, _⟩ => ⟨S32768x2048, .f32⟩
  | .hbm, ⟨47, _⟩ => ⟨S32768x2048, .f32⟩
  | .hbm, ⟨48, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== Dn.lean ====
abbrev S32768x15360 : Shape := ⟨2, ![32768, 15360]⟩
abbrev S4x3072 : Shape := ⟨2, ![4, 3072]⟩
abbrev S8 : Shape := ⟨1, ![8]⟩
abbrev S128 : Shape := ⟨1, ![128]⟩
abbrev S_ : Shape := ⟨0, ![]⟩
abbrev S1x128 : Shape := ⟨2, ![1, 128]⟩
abbrev S32768x1024 : Shape := ⟨2, ![32768, 1024]⟩
abbrev S256x128 : Shape := ⟨2, ![256, 128]⟩
abbrev S4x128 : Shape := ⟨2, ![4, 128]⟩
abbrev S264x128 : Shape := ⟨2, ![264, 128]⟩
abbrev S128x128 : Shape := ⟨2, ![128, 128]⟩
abbrev S8x128 : Shape := ⟨2, ![8, 128]⟩
abbrev S256 : Shape := ⟨1, ![256]⟩
abbrev S256x1 : Shape := ⟨2, ![256, 1]⟩
abbrev S128x1 : Shape := ⟨2, ![128, 1]⟩
abbrev S64x128 : Shape := ⟨2, ![64, 128]⟩

abbrev nBuf : Space → Nat
  | .hbm => 15
  | .vmem => 25
  | .smem => 0
  | _ => 0

abbrev bufTy : (tb : Table) → Fin (tcTables nBuf tb) → BufTy
  | .hbm, ⟨0, _⟩ => ⟨S32768x15360, .f32⟩
  | .hbm, ⟨1, _⟩ => ⟨S4x3072, .f32⟩
  | .hbm, ⟨2, _⟩ => ⟨S8, .f32⟩
  | .hbm, ⟨3, _⟩ => ⟨S8, .f32⟩
  | .hbm, ⟨4, _⟩ => ⟨S128, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S1x128, .f32⟩
  | .hbm, ⟨13, _⟩ => ⟨S1x128, .f32⟩
  | .hbm, ⟨14, _⟩ => ⟨S32768x1024, .bf16⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S4x128, .f32⟩
  | .local _ .vmem, ⟨11, _⟩ => ⟨S4x128, .f32⟩
  | .local _ .vmem, ⟨12, _⟩ => ⟨S4x128, .f32⟩
  | .local _ .vmem, ⟨13, _⟩ => ⟨S4x128, .f32⟩
  | .local _ .vmem, ⟨14, _⟩ => ⟨S4x128, .f32⟩
  | .local _ .vmem, ⟨15, _⟩ => ⟨S4x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S256x128, .bf16⟩
  | .local _ .vmem, ⟨20, _⟩ => ⟨S256x128, .bf16⟩
  | .local _ .vmem, ⟨21, _⟩ => ⟨S264x128, .f32⟩
  | .local _ .vmem, ⟨22, _⟩ => ⟨S264x128, .f32⟩
  | .local _ .vmem, ⟨23, _⟩ => ⟨S264x128, .f32⟩
  | .local _ .vmem, ⟨24, _⟩ => ⟨S128x128, .f32⟩
  | _, _ => ⟨S32768x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨3, ![4, 8, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c108_i32 : BitVec 32 := 108#32
  let c0_i32 : BitVec 32 := 0#32
  ![v1.toNat, c108_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let v1 : BitVec 32 := Scalar.addi v0 arg2
  let c0_i32 : BitVec 32 := 0#32
  ![v1.toNat, arg1.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== DnRefIdeal.lean ====
abbrev S32768x15360 : Shape := ⟨2, ![32768, 15360]⟩
abbrev S4x3072 : Shape := ⟨2, ![4, 3072]⟩
abbrev S8 : Shape := ⟨1, ![8]⟩
abbrev S128 : Shape := ⟨1, ![128]⟩
abbrev S4x8192x15360 : Shape := ⟨3, ![4, 8192, 15360]⟩
abbrev S4x8192x3072 : Shape := ⟨3, ![4, 8192, 3072]⟩
abbrev S4x8192x8 : Shape := ⟨3, ![4, 8192, 8]⟩
abbrev S_ : Shape := ⟨0, ![]⟩
abbrev S4x8195x3072 : Shape := ⟨3, ![4, 8195, 3072]⟩
abbrev S1x3072 : Shape := ⟨2, ![1, 3072]⟩
abbrev S3072 : Shape := ⟨1, ![3072]⟩
abbrev S1x1x3072 : Shape := ⟨3, ![1, 1, 3072]⟩
abbrev S4x8192x1024 : Shape := ⟨3, ![4, 8192, 1024]⟩
abbrev S4x8192x8x128 : Shape := ⟨4, ![4, 8192, 8, 128]⟩
abbrev S4x8192x8x1 : Shape := ⟨4, ![4, 8192, 8, 1]⟩
abbrev S1x1x8 : Shape := ⟨3, ![1, 1, 8]⟩
abbrev S4x8x128x128 : Shape := ⟨4, ![4, 8, 128, 128]⟩
abbrev S8192x4x8x128 : Shape := ⟨4, ![8192, 4, 8, 128]⟩
abbrev S8192x4x8 : Shape := ⟨3, ![8192, 4, 8]⟩
abbrev S1x4x8x128 : Shape := ⟨4, ![1, 4, 8, 128]⟩
abbrev S4x8x128 : Shape := ⟨3, ![4, 8, 128]⟩
abbrev S1x4x8 : Shape := ⟨3, ![1, 4, 8]⟩
abbrev S4x8 : Shape := ⟨2, ![4, 8]⟩
abbrev S4x8x1x1 : Shape := ⟨4, ![4, 8, 1, 1]⟩
abbrev S4x8x128x1 : Shape := ⟨4, ![4, 8, 128, 1]⟩
abbrev S4x8x1 : Shape := ⟨3, ![4, 8, 1]⟩
abbrev S4x8x1x128 : Shape := ⟨4, ![4, 8, 1, 128]⟩
abbrev S32768x1024 : Shape := ⟨2, ![32768, 1024]⟩
abbrev S1x1x1x128 : Shape := ⟨4, ![1, 1, 1, 128]⟩

abbrev nBuf : Space → Nat
  | .hbm => 207
  | .vmem => 0
  | .smem => 0
  | _ => 0

abbrev hbmTy0_0 (i : Nat) : BufTy := match i % 128 with
  | 0 => ⟨S32768x15360, .f32⟩
  | 1 => ⟨S4x3072, .f32⟩
  | 2 => ⟨S8, .f32⟩
  | 3 => ⟨S8, .f32⟩
  | 4 => ⟨S128, .f32⟩
  | 5 => ⟨S4x8192x15360, .f32⟩
  | 6 => ⟨S4x8192x3072, .f32⟩
  | 7 => ⟨S4x8192x8, .f32⟩
  | 8 => ⟨S4x8192x8, .f32⟩
  | 9 => ⟨S_, .i32⟩
  | 10 => ⟨S_, .f32⟩
  | 11 => ⟨S4x8195x3072, .f32⟩
  | 12 => ⟨S1x3072, .f32⟩
  | 13 => ⟨S3072, .f32⟩
  | 14 => ⟨S4x8192x3072, .f32⟩
  | 15 => ⟨S1x1x3072, .f32⟩
  | 16 => ⟨S4x8192x3072, .f32⟩
  | 17 => ⟨S4x8192x3072, .f32⟩
  | 18 => ⟨S_, .f32⟩
  | 19 => ⟨S4x8192x3072, .f32⟩
  | 20 => ⟨S4x8192x3072, .f32⟩
  | 21 => ⟨S1x3072, .f32⟩
  | 22 => ⟨S3072, .f32⟩
  | 23 => ⟨S4x8192x3072, .f32⟩
  | 24 => ⟨S1x1x3072, .f32⟩
  | 25 => ⟨S4x8192x3072, .f32⟩
  | 26 => ⟨S4x8192x3072, .f32⟩
  | 27 => ⟨S4x8192x3072, .f32⟩
  | 28 => ⟨S1x3072, .f32⟩
  | 29 => ⟨S3072, .f32⟩
  | 30 => ⟨S4x8192x3072, .f32⟩
  | 31 => ⟨S1x1x3072, .f32⟩
  | 32 => ⟨S4x8192x3072, .f32⟩
  | 33 => ⟨S4x8192x3072, .f32⟩
  | 34 => ⟨S4x8192x3072, .f32⟩
  | 35 => ⟨S1x3072, .f32⟩
  | 36 => ⟨S3072, .f32⟩
  | 37 => ⟨S4x8192x3072, .f32⟩
  | 38 => ⟨S1x1x3072, .f32⟩
  | 39 => ⟨S4x8192x3072, .f32⟩
  | 40 => ⟨S4x8192x3072, .f32⟩
  | 41 => ⟨S4x8192x3072, .f32⟩
  | 42 => ⟨S4x8192x3072, .f32⟩
  | 43 => ⟨S4x8192x3072, .f32⟩
  | 44 => ⟨S_, .f32⟩
  | 45 => ⟨S4x8192x3072, .f32⟩
  | 46 => ⟨S4x8192x3072, .f32⟩
  | 47 => ⟨S_, .f32⟩
  | 48 => ⟨S4x8192x3072, .f32⟩
  | 49 => ⟨S4x8192x3072, .f32⟩
  | 50 => ⟨S4x8192x3072, .f32⟩
  | 51 => ⟨S4x8192x1024, .f32⟩
  | 52 => ⟨S4x8192x1024, .f32⟩
  | 53 => ⟨S4x8192x1024, .f32⟩
  | 54 => ⟨S4x8192x8x128, .f32⟩
  | 55 => ⟨S4x8192x8x128, .f32⟩
  | 56 => ⟨S_, .f32⟩
  | 57 => ⟨S4x8192x8, .f32⟩
  | 58 => ⟨S4x8192x8x1, .f32⟩
  | 59 => ⟨S_, .f32⟩
  | 60 => ⟨S4x8192x8x1, .f32⟩
  | 61 => ⟨S4x8192x8x1, .f32⟩
  | 62 => ⟨S4x8192x8x1, .f32⟩
  | 63 => ⟨S4x8192x8x128, .f32⟩
  | 64 => ⟨S4x8192x8x128, .f32⟩
  | 65 => ⟨S_, .f32⟩
  | 66 => ⟨S4x8192x8x128, .f32⟩
  | 67 => ⟨S4x8192x8x128, .f32⟩
  | 68 => ⟨S4x8192x8x128, .f32⟩
  | 69 => ⟨S4x8192x8x128, .f32⟩
  | 70 => ⟨S_, .f32⟩
  | 71 => ⟨S4x8192x8, .f32⟩
  | 72 => ⟨S4x8192x8x1, .f32⟩
  | 73 => ⟨S_, .f32⟩
  | 74 => ⟨S4x8192x8x1, .f32⟩
  | 75 => ⟨S4x8192x8x1, .f32⟩
  | 76 => ⟨S4x8192x8x1, .f32⟩
  | 77 => ⟨S4x8192x8x128, .f32⟩
  | 78 => ⟨S4x8192x8x128, .f32⟩
  | 79 => ⟨S4x8192x8x128, .f32⟩
  | 80 => ⟨S4x8192x8, .f32⟩
  | 81 => ⟨S4x8192x8, .f32⟩
  | 82 => ⟨S_, .f32⟩
  | 83 => ⟨S4x8192x8, .f32⟩
  | 84 => ⟨S4x8192x8, .f32⟩
  | 85 => ⟨S_, .f32⟩
  | 86 => ⟨S4x8192x8, .f32⟩
  | 87 => ⟨S4x8192x8, .f32⟩
  | 88 => ⟨S8, .f32⟩
  | 89 => ⟨S8, .f32⟩
  | 90 => ⟨S1x1x8, .f32⟩
  | 91 => ⟨S4x8192x8, .f32⟩
  | 92 => ⟨S4x8192x8, .f32⟩
  | 93 => ⟨S_, .f32⟩
  | 94 => ⟨S4x8192x8, .f32⟩
  | 95 => ⟨S4x8192x8, .f32⟩
  | 96 => ⟨S4x8192x8, .f32⟩
  | 97 => ⟨S4x8192x8, .f32⟩
  | 98 => ⟨S4x8192x8, .i1⟩
  | 99 => ⟨S4x8192x8, .f32⟩
  | 100 => ⟨S4x8192x8, .f32⟩
  | 101 => ⟨S4x8192x8, .f32⟩
  | 102 => ⟨S4x8192x8, .f32⟩
  | 103 => ⟨S4x8192x8, .f32⟩
  | 104 => ⟨S4x8192x8, .f32⟩
  | 105 => ⟨S4x8192x8, .f32⟩
  | 106 => ⟨S4x8192x8, .f32⟩
  | 107 => ⟨S1x1x8, .f32⟩
  | 108 => ⟨S4x8192x8, .f32⟩
  | 109 => ⟨S4x8192x8, .f32⟩
  | 110 => ⟨S_, .f32⟩
  | 111 => ⟨S4x8x128x128, .f32⟩
  | 112 => ⟨S8192x4x8x128, .f32⟩
  | 113 => ⟨S8192x4x8x128, .f32⟩
  | 114 => ⟨S8192x4x8x128, .f32⟩
  | 115 => ⟨S8192x4x8, .f32⟩
  | 116 => ⟨S8192x4x8, .f32⟩
  | 117 => ⟨S_, .f32⟩
  | 118 => ⟨S8192x4x8x128, .f32⟩
  | 119 => ⟨S_, .i32⟩
  | 120 => ⟨S8192x4x8x128, .f32⟩
  | 121 => ⟨S8192x4x8x128, .f32⟩
  | 122 => ⟨S8192x4x8x128, .f32⟩
  | 123 => ⟨S8192x4x8, .f32⟩
  | 124 => ⟨S8192x4x8, .f32⟩
  | 125 => ⟨S_, .i32⟩
  | 126 => ⟨S4x8x128x128, .f32⟩
  | 127 => ⟨S8192x4x8x128, .f32⟩
  | _ => ⟨S32768x15360, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1x4x8x128, .f32⟩
  | 6 => ⟨S4x8x128, .f32⟩
  | 7 => ⟨S_, .i32⟩
  | 8 => ⟨S_, .i32⟩
  | 9 => ⟨S_, .i32⟩
  | 10 => ⟨S1x4x8x128, .f32⟩
  | 11 => ⟨S4x8x128, .f32⟩
  | 12 => ⟨S_, .i32⟩
  | 13 => ⟨S_, .i32⟩
  | 14 => ⟨S_, .i32⟩
  | 15 => ⟨S1x4x8x128, .f32⟩
  | 16 => ⟨S4x8x128, .f32⟩
  | 17 => ⟨S_, .i32⟩
  | 18 => ⟨S_, .i32⟩
  | 19 => ⟨S1x4x8, .f32⟩
  | 20 => ⟨S4x8, .f32⟩
  | 21 => ⟨S_, .i32⟩
  | 22 => ⟨S_, .i32⟩
  | 23 => ⟨S1x4x8, .f32⟩
  | 24 => ⟨S4x8, .f32⟩
  | 25 => ⟨S4x8, .f32⟩
  | 26 => ⟨S4x8x1x1, .f32⟩
  | 27 => ⟨S4x8x128x128, .f32⟩
  | 28 => ⟨S4x8x128x128, .f32⟩
  | 29 => ⟨S4x8x128, .f32⟩
  | 30 => ⟨S4x8x128x1, .f32⟩
  | 31 => ⟨S4x8x1, .f32⟩
  | 32 => ⟨S4x8x128, .f32⟩
  | 33 => ⟨S4x8x128, .f32⟩
  | 34 => ⟨S4x8x128, .f32⟩
  | 35 => ⟨S4x8x1x128, .f32⟩
  | 36 => ⟨S4x8x128x128, .f32⟩
  | 37 => ⟨S4x8x128x128, .f32⟩
  | 38 => ⟨S4x8x128x128, .f32⟩
  | 39 => ⟨S4x8x128x128, .f32⟩
  | 40 => ⟨S4x8x128, .f32⟩
  | 41 => ⟨S1x4x8x128, .f32⟩
  | 42 => ⟨S_, .i32⟩
  | 43 => ⟨S_, .i32⟩
  | 44 => ⟨S_, .i32⟩
  | 45 => ⟨S8192x4x8x128, .f32⟩
  | 46 => ⟨S_, .i32⟩
  | 47 => ⟨S_, .i32⟩
  | 48 => ⟨S4x8192x8x128, .f32⟩
  | 49 => ⟨S32768x1024, .f32⟩
  | 50 => ⟨S4x8192x8x128, .f32⟩
  | 51 => ⟨S4x8192x8x128, .f32⟩
  | 52 => ⟨S4x8192x8x128, .f32⟩
  | 53 => ⟨S_, .f32⟩
  | 54 => ⟨S4x8192x8x128, .f32⟩
  | 55 => ⟨S4x8192x8x128, .f32⟩
  | 56 => ⟨S_, .f32⟩
  | 57 => ⟨S4x8192x8x128, .f32⟩
  | 58 => ⟨S4x8192x8x128, .f32⟩
  | 59 => ⟨S4x8192x8x128, .f32⟩
  | 60 => ⟨S4x8192x8x128, .f32⟩
  | 61 => ⟨S_, .f32⟩
  | 62 => ⟨S4x8192x8, .f32⟩
  | 63 => ⟨S4x8192x8x1, .f32⟩
  | 64 => ⟨S_, .f32⟩
  | 65 => ⟨S4x8192x8x1, .f32⟩
  | 66 => ⟨S4x8192x8x1, .f32⟩
  | 67 => ⟨S_, .f32⟩
  | 68 => ⟨S4x8192x8x1, .f32⟩
  | 69 => ⟨S4x8192x8x1, .f32⟩
  | 70 => ⟨S4x8192x8x1, .f32⟩
  | 71 => ⟨S4x8192x8x128, .f32⟩
  | 72 => ⟨S4x8192x8x128, .f32⟩
  | 73 => ⟨S1x1x1x128, .f32⟩
  | 74 => ⟨S4x8192x8x128, .f32⟩
  | 75 => ⟨S4x8192x8x128, .f32⟩
  | 76 => ⟨S4x8192x8x128, .f32⟩
  | 77 => ⟨S4x8192x8x128, .bf16⟩
  | 78 => ⟨S32768x1024, .bf16⟩
  | _ => ⟨S32768x15360, .f32⟩

abbrev hbmTy (i : Nat) : BufTy := match i / 128 with
  | 0 => hbmTy0_0 i
  | 1 => hbmTy0_1 i
  | _ => ⟨S32768x15360, .f32⟩

abbrev bufTy : (tb : Table) → Fin (tcTables nBuf tb) → BufTy
  | .hbm, ⟨i, _⟩ => hbmTy i
  | _, _ => ⟨S32768x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_0 : Ref sig .tc := ⟨.hbm, 56, rfl⟩
abbrev main_v40 : Ref sig .tc := ⟨.hbm, 57, rfl⟩
abbrev main_v41 : Ref sig .tc := ⟨.hbm, 58, rfl⟩
abbrev main_cst_1 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_2 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_3 : Ref sig .tc := ⟨.hbm, 70, rfl⟩
abbrev main_v51 : Ref sig .tc := ⟨.hbm, 71, rfl⟩
abbrev main_v52 : Ref sig .tc := ⟨.hbm, 72, rfl⟩
abbrev main_cst_4 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_5 : Ref sig .tc := ⟨.hbm, 82, rfl⟩
abbrev main_v61 : Ref sig .tc := ⟨.hbm, 83, rfl⟩
abbrev main_v62 : Ref sig .tc := ⟨.hbm, 84, rfl⟩
abbrev main_cst_6 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_call2_cst : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_call2_v5 : Ref sig .tc := ⟨.hbm, 99, rfl⟩
abbrev main_call2_v6 : Ref sig .tc := ⟨.hbm, 100, rfl⟩
abbrev main_call2_v7 : Ref sig .tc := ⟨.hbm, 101, rfl⟩
abbrev main_call2_v8 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_7 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_cst_8 : Ref sig .tc := ⟨.hbm, 117, rfl⟩
abbrev main_v80 : Ref sig .tc := ⟨.hbm, 118, rfl⟩
abbrev main_c_9 : Ref sig .tc := ⟨.hbm, 119, rfl⟩
abbrev main_v81_0 : Ref sig .tc := ⟨.hbm, 120, rfl⟩
abbrev main_v81_1 : Ref sig .tc := ⟨.hbm, 121, rfl⟩
abbrev main_v81_2 : Ref sig .tc := ⟨.hbm, 122, rfl⟩
abbrev main_v81_3 : Ref sig .tc := ⟨.hbm, 123, rfl⟩
abbrev main_v81_4 : Ref sig .tc := ⟨.hbm, 124, rfl⟩
abbrev main_v81_5 : Ref sig .tc := ⟨.hbm, 125, rfl⟩
abbrev main_v81_6 : Ref sig .tc := ⟨.hbm, 126, rfl⟩
abbrev main_v81_7 : Ref sig .tc := ⟨.hbm, 127, rfl⟩
abbrev main_while0c_c_20 : Ref sig .tc := ⟨.hbm, 128, rfl⟩
abbrev main_while0c_v102 : Ref sig .tc := ⟨.hbm, 129, rfl⟩
abbrev main_while0b_call3_c : Ref sig .tc := ⟨.hbm, 130, rfl⟩
abbrev main_while0b_call3_c_0 : Ref sig .tc := ⟨.hbm, 131, rfl⟩
abbrev main_while0b_call3_c_1 : Ref sig .tc := ⟨.hbm, 132, rfl⟩
abbrev main_while0b_call3_v0 : Ref sig .tc := ⟨.hbm, 133, rfl⟩
abbrev main_while0b_v102 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_call4_c_1 : Ref sig .tc := ⟨.hbm, 137, rfl⟩
abbrev main_while0b_call4_v0 : Ref sig .tc := ⟨.hbm, 138, rfl⟩
abbrev main_while0b_v103 : Ref sig .tc := ⟨.hbm, 139, rfl⟩
abbrev main_while0b_call5_c : Ref sig .tc := ⟨.hbm, 140, rfl⟩
abbrev main_while0b_call5_c_0 : Ref sig .tc := ⟨.hbm, 141, rfl⟩
abbrev main_while0b_call5_c_1 : Ref sig .tc := ⟨.hbm, 142, rfl⟩
abbrev main_while0b_call5_v0 : Ref sig .tc := ⟨.hbm, 143, rfl⟩
abbrev main_while0b_v104 : Ref sig .tc := ⟨.hbm, 144, rfl⟩
abbrev main_while0b_call6_c : Ref sig .tc := ⟨.hbm, 145, rfl⟩
abbrev main_while0b_call6_c_0 : Ref sig .tc := ⟨.hbm, 146, rfl⟩
abbrev main_while0b_call6_v0 : Ref sig .tc := ⟨.hbm, 147, rfl⟩
abbrev main_while0b_v105 : Ref sig .tc := ⟨.hbm, 148, rfl⟩
abbrev main_while0b_call7_c : Ref sig .tc := ⟨.hbm, 149, rfl⟩
abbrev main_while0b_call7_c_0 : Ref sig .tc := ⟨.hbm, 150, rfl⟩
abbrev main_while0b_call7_v0 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_v109 : Ref sig .tc := ⟨.hbm, 155, rfl⟩
abbrev main_while0b_v110 : Ref sig .tc := ⟨.hbm, 156, rfl⟩
abbrev main_while0b_v111 : Ref sig .tc := ⟨.hbm, 157, rfl⟩
abbrev main_while0b_v112 : Ref sig .tc := ⟨.hbm, 158, rfl⟩
abbrev main_while0b_v113 : Ref sig .tc := ⟨.hbm, 159, rfl⟩
abbrev main_while0b_v114 : Ref sig .tc := ⟨.hbm, 160, rfl⟩
abbrev main_while0b_v115 : Ref sig .tc := ⟨.hbm, 161, rfl⟩
abbrev main_while0b_v116 : Ref sig .tc := ⟨.hbm, 162, rfl⟩
abbrev main_while0b_v117 : Ref sig .tc := ⟨.hbm, 163, rfl⟩
abbrev main_while0b_v118 : Ref sig .tc := ⟨.hbm, 164, rfl⟩
abbrev main_while0b_v119 : Ref sig .tc := ⟨.hbm, 165, rfl⟩
abbrev main_while0b_v120 : Ref sig .tc := ⟨.hbm, 166, rfl⟩
abbrev main_while0b_v121 : Ref sig .tc := ⟨.hbm, 167, rfl⟩
abbrev main_while0b_v122 : Ref sig .tc := ⟨.hbm, 168, rfl⟩
abbrev main_while0b_call8_v0 : Ref sig .tc := ⟨.hbm, 169, rfl⟩
abbrev main_while0b_call8_c : Ref sig .tc := ⟨.hbm, 170, rfl⟩
abbrev main_while0b_call8_c_0 : Ref sig .tc := ⟨.hbm, 171, rfl⟩
abbrev main_while0b_call8_c_1 : Ref sig .tc := ⟨.hbm, 172, rfl⟩
abbrev main_while0b_v123 : Ref sig .tc := ⟨.hbm, 173, rfl⟩
abbrev main_while0b_c_20 : Ref sig .tc := ⟨.hbm, 174, rfl⟩
abbrev main_while0b_v124 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_call9_v0 : Ref sig .tc := ⟨.hbm, 179, rfl⟩
abbrev main_call9_v1 : Ref sig .tc := ⟨.hbm, 180, rfl⟩
abbrev main_call9_cst : Ref sig .tc := ⟨.hbm, 181, rfl⟩
abbrev main_call9_v2 : Ref sig .tc := ⟨.hbm, 182, rfl⟩
abbrev main_call9_v3 : Ref sig .tc := ⟨.hbm, 183, rfl⟩
abbrev main_call9_cst_0 : Ref sig .tc := ⟨.hbm, 184, rfl⟩
abbrev main_call9_v4 : Ref sig .tc := ⟨.hbm, 185, rfl⟩
abbrev main_call9_v5 : Ref sig .tc := ⟨.hbm, 186, rfl⟩
abbrev main_v85 : Ref sig .tc := ⟨.hbm, 187, rfl⟩
abbrev main_v86 : Ref sig .tc := ⟨.hbm, 188, rfl⟩
abbrev main_cst_10 : Ref sig .tc := ⟨.hbm, 189, rfl⟩
abbrev main_v87 : Ref sig .tc := ⟨.hbm, 190, rfl⟩
abbrev main_v88 : Ref sig .tc := ⟨.hbm, 191, rfl⟩
abbrev main_cst_11 : Ref sig .tc := ⟨.hbm, 192, rfl⟩
abbrev main_v89 : Ref sig .tc := ⟨.hbm, 193, rfl⟩
abbrev main_v90 : Ref sig .tc := ⟨.hbm, 194, rfl⟩
abbrev main_cst_12 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_v97 : Ref sig .tc := ⟨.hbm, 202, rfl⟩
abbrev main_v98 : Ref sig .tc := ⟨.hbm, 203, rfl⟩
abbrev main_v99 : Ref sig .tc := ⟨.hbm, 204, rfl⟩
abbrev main_v100 : Ref sig .tc := ⟨.hbm, 205, rfl⟩
abbrev main_v101 : Ref sig .tc := ⟨.hbm, 206, rfl⟩

abbrev nD : Nat := 1
abbrev τ : Topo := Topo.v7x

variable {F : FTy → Type} [FloatOps F]

abbrev main_while0_count : Scf.Loop 32 := ⟨0#32, 8192#32, 1#32⟩
-- ==== Kvp.lean ====
abbrev S32768x15360 : Shape := ⟨2, ![32768, 15360]⟩
abbrev S3x128 : Shape := ⟨2, ![3, 128]⟩
abbrev S32768x1024 : Shape := ⟨2, ![32768, 1024]⟩
abbrev S512x1024 : Shape := ⟨2, ![512, 1024]⟩
abbrev S512x128 : Shape := ⟨2, ![512, 128]⟩
abbrev S1x128 : Shape := ⟨2, ![1, 128]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S32768x15360, .f32⟩
  | .hbm, ⟨1, _⟩ => ⟨S3x128, .f32⟩
  | .hbm, ⟨2, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S3x128, .f32⟩
  | .local _ .vmem, ⟨3, _⟩ => ⟨S512x1024, .bf16⟩
  | .local _ .vmem, ⟨4, _⟩ => ⟨S512x1024, .bf16⟩
  | _, _ => ⟨S32768x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvpRefIdeal.lean ====
abbrev S32768x15360 : Shape := ⟨2, ![32768, 15360]⟩
abbrev S3x128 : Shape := ⟨2, ![3, 128]⟩
abbrev S32768x1024 : Shape := ⟨2, ![32768, 1024]⟩
abbrev S32768x4x2x128 : Shape := ⟨4, ![32768, 4, 2, 128]⟩
abbrev S32768x1x2x128 : Shape := ⟨4, ![32768, 1, 2, 128]⟩
abbrev S32768x2x128 : Shape := ⟨3, ![32768, 2, 128]⟩
abbrev S1x128 : Shape := ⟨2, ![1, 128]⟩
abbrev S128 : Shape := ⟨1, ![128]⟩
abbrev S_ : Shape := ⟨0, ![]⟩
abbrev S32768x2 : Shape := ⟨2, ![32768, 2]⟩
abbrev S32768x2x1 : Shape := ⟨3, ![32768, 2, 1]⟩
abbrev S1x1x128 : Shape := ⟨3, ![1, 1, 128]⟩

abbrev nBuf : Space → Nat
  | .hbm => 55
  | .vmem => 0
  | .smem => 0
  | _ => 0

abbrev bufTy : (tb : Table) → Fin (tcTables nBuf tb) → BufTy
  | .hbm, ⟨0, _⟩ => ⟨S32768x15360, .f32⟩
  | .hbm, ⟨1, _⟩ => ⟨S3x128, .f32⟩
  | .hbm, ⟨2, _⟩ => ⟨S32768x1024, .f32⟩
  | .hbm, ⟨3, _⟩ => ⟨S32768x4x2x128, .f32⟩
  | .hbm, ⟨4, _⟩ => ⟨S32768x1x2x128, .f32⟩
  | .hbm, ⟨5, _⟩ => ⟨S32768x2x128, .f32⟩
  | .hbm, ⟨6, _⟩ => ⟨S32768x1x2x128, .f32⟩
  | .hbm, ⟨7, _⟩ => ⟨S32768x2x128, .f32⟩
  | .hbm, ⟨8, _⟩ => ⟨S32768x1x2x128, .f32⟩
  | .hbm, ⟨9, _⟩ => ⟨S32768x2x128, .f32⟩
  | .hbm, ⟨10, _⟩ => ⟨S32768x1x2x128, .f32⟩
  | .hbm, ⟨11, _⟩ => ⟨S32768x2x128, .f32⟩
  | .hbm, ⟨12, _⟩ => ⟨S1x128, .f32⟩
  | .hbm, ⟨13, _⟩ => ⟨S128, .f32⟩
  | .hbm, ⟨14, _⟩ => ⟨S32768x2x128, .f32⟩
  | .hbm, ⟨15, _⟩ => ⟨S_, .f32⟩
  | .hbm, ⟨16, _⟩ => ⟨S32768x2, .f32⟩
  | .hbm, ⟨17, _⟩ => ⟨S32768x2x1, .f32⟩
  | .hbm, ⟨18, _⟩ => ⟨S_, .f32⟩
  | .hbm, ⟨19, _⟩ => ⟨S32768x2x1, .f32⟩
  | .hbm, ⟨20, _⟩ => ⟨S32768x2x1, .f32⟩
  | .hbm, ⟨21, _⟩ => ⟨S_, .f32⟩
  | .hbm, ⟨22, _⟩ => ⟨S32768x2x1, .f32⟩
  | .hbm, ⟨23, _⟩ => ⟨S32768x2x1, .f32⟩
  | .hbm, ⟨24, _⟩ => ⟨S32768x2x1, .f32⟩
  | .hbm, ⟨25, _⟩ => ⟨S32768x2x128, .f32⟩
  | .hbm, ⟨26, _⟩ => ⟨S32768x2x128, .f32⟩
  | .hbm, ⟨27, _⟩ => ⟨S1x1x128, .f32⟩
  | .hbm, ⟨28, _⟩ => ⟨S32768x2x128, .f32⟩
  | .hbm, ⟨29, _⟩ => ⟨S32768x2x128, .f32⟩
  | .hbm, ⟨30, _⟩ => ⟨S1x128, .f32⟩
  | .hbm, ⟨31, _⟩ => ⟨S128, .f32⟩
  | .hbm, ⟨32, _⟩ => ⟨S32768x2x128, .f32⟩
  | .hbm, ⟨33, _⟩ => ⟨S_, .f32⟩
  | .hbm, ⟨34, _⟩ => ⟨S32768x2, .f32⟩
  | .hbm, ⟨35, _⟩ => ⟨S32768x2x1, .f32⟩
  | .hbm, ⟨36, _⟩ => ⟨S_, .f32⟩
  | .hbm, ⟨37, _⟩ => ⟨S32768x2x1, .f32⟩
  | .hbm, ⟨38, _⟩ => ⟨S32768x2x1, .f32⟩
  | .hbm, ⟨39, _⟩ => ⟨S_, .f32⟩
  | .hbm, ⟨40, _⟩ => ⟨S32768x2x1, .f32⟩
  | .hbm, ⟨41, _⟩ => ⟨S32768x2x1, .f32⟩
  | .hbm, ⟨42, _⟩ => ⟨S32768x2x1, .f32⟩
  | .hbm, ⟨43, _⟩ => ⟨S32768x2x128, .f32⟩
  | .hbm, ⟨44, _⟩ => ⟨S32768x2x128, .f32⟩
  | .hbm, ⟨45, _⟩ => ⟨S1x1x128, .f32⟩
  | .hbm, ⟨46, _⟩ => ⟨S32768x2x128, .f32⟩
  | .hbm, ⟨47, _⟩ => ⟨S32768x2x128, .f32⟩
  | .hbm, ⟨48, _⟩ => ⟨S32768x1x2x128, .f32⟩
  | .hbm, ⟨49, _⟩ => ⟨S32768x1x2x128, .f32⟩
  | .hbm, ⟨50, _⟩ => ⟨S32768x1x2x128, .f32⟩
  | .hbm, ⟨51, _⟩ => ⟨S32768x1x2x128, .f32⟩
  | .hbm, ⟨52, _⟩ => ⟨S32768x4x2x128, .f32⟩
  | .hbm, ⟨53, _⟩ => ⟨S32768x1024, .f32⟩
  | .hbm, ⟨54, _⟩ => ⟨S32768x1024, .bf16⟩
  | _, _ => ⟨S32768x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_cst_0 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_2 : Ref sig .tc := ⟨.hbm, 33, rfl⟩
abbrev main_v28 : Ref sig .tc := ⟨.hbm, 34, rfl⟩
abbrev main_v29 : Ref sig .tc := ⟨.hbm, 35, rfl⟩
abbrev main_cst_3 : Ref sig .tc := ⟨.hbm, 36, rfl⟩
abbrev main_v30 : Ref sig .tc := ⟨.hbm, 37, rfl⟩
abbrev main_v31 : Ref sig .tc := ⟨.hbm, 38, rfl⟩
abbrev main_cst_4 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩

abbrev nD : Nat := 1
abbrev τ : Topo := Topo.v7x

variable {F : FTy → Type} [FloatOps F]
-- ==== CmpK.lean ====
abbrev S32768x15360 : Shape := ⟨2, ![32768, 15360]⟩
abbrev S32x128 : Shape := ⟨2, ![32, 128]⟩
abbrev S4096x256 : Shape := ⟨2, ![4096, 256]⟩
abbrev S256x128 : Shape := ⟨2, ![256, 128]⟩
abbrev S3x128 : Shape := ⟨2, ![3, 128]⟩
abbrev S32768x256 : Shape := ⟨2, ![32768, 256]⟩
abbrev S4x512x16x2x128 : Shape := ⟨5, ![4, 512, 16, 2, 128]⟩
abbrev S4x2x512x16x128 : Shape := ⟨5, ![4, 2, 512, 16, 128]⟩
abbrev S4x2x512x2048 : Shape := ⟨4, ![4, 2, 512, 2048]⟩
abbrev S1x128 : Shape := ⟨2, ![1, 128]⟩
abbrev S128 : Shape := ⟨1, ![128]⟩
abbrev S1x4096 : Shape := ⟨2, ![1, 4096]⟩
abbrev S4x2x512x128 : Shape := ⟨4, ![4, 2, 512, 128]⟩
abbrev S1x1x512x2048 : Shape := ⟨4, ![1, 1, 512, 2048]⟩
abbrev S1x1x512x128 : Shape := ⟨4, ![1, 1, 512, 128]⟩
abbrev S512x2048 : Shape := ⟨2, ![512, 2048]⟩
abbrev S1x2048 : Shape := ⟨2, ![1, 2048]⟩
abbrev S2048x256 : Shape := ⟨2, ![2048, 256]⟩
abbrev S512x256 : Shape := ⟨2, ![512, 256]⟩
abbrev S512x128 : Shape := ⟨2, ![512, 128]⟩
abbrev S512 : Shape := ⟨1, ![512]⟩
abbrev S512x1 : Shape := ⟨2, ![512, 1]⟩

abbrev nBuf : Space → Nat
  | .hbm => 16
  | .vmem => 8
  | .smem => 0
  | _ => 0

abbrev bufTy : (tb : Table) → Fin (tcTables nBuf tb) → BufTy
  | .hbm, ⟨0, _⟩ => ⟨S32768x15360, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S3x128, .f32⟩
  | .hbm, ⟨5, _⟩ => ⟨S32768x256, .f32⟩
  | .hbm, ⟨6, _⟩ => ⟨S4x512x16x2x128, .f32⟩
  | .hbm, ⟨7, _⟩ => ⟨S4x2x512x16x128, .f32⟩
  | .hbm, ⟨8, _⟩ => ⟨S4x2x512x2048, .f32⟩
  | .hbm, ⟨9, _⟩ => ⟨S1x128, .f32⟩
  | .hbm, ⟨10, _⟩ => ⟨S128, .f32⟩
  | .hbm, ⟨11, _⟩ => ⟨S1x4096, .f32⟩
  | .hbm, ⟨12, _⟩ => ⟨S4096x256, .bf16⟩
  | .hbm, ⟨13, _⟩ => ⟨S256x128, .bf16⟩
  | .hbm, ⟨14, _⟩ => ⟨S1x128, .f32⟩
  | .hbm, ⟨15, _⟩ => ⟨S4x2x512x128, .bf16⟩
  | .local _ .vmem, ⟨0, _⟩ => ⟨S1x1x512x2048, .f32⟩
  | .local _ .vmem, ⟨1, _⟩ => ⟨S1x1x512x2048, .f32⟩
  | .local _ .vmem, ⟨2, _⟩ => ⟨S1x4096, .f32⟩
  | .local _ .vmem, ⟨3, _⟩ => ⟨S4096x256, .bf16⟩
  | .local _ .vmem, ⟨4, _⟩ => ⟨S256x128, .bf16⟩
  | .local _ .vmem, ⟨5, _⟩ => ⟨S1x128, .f32⟩
  | .local _ .vmem, ⟨6, _⟩ => ⟨S1x1x512x128, .bf16⟩
  | .local _ .vmem, ⟨7, _⟩ => ⟨S1x1x512x128, .bf16⟩
  | _, _ => ⟨S32768x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpKRefIdeal.lean ====
abbrev S32768x15360 : Shape := ⟨2, ![32768, 15360]⟩
abbrev S32x128 : Shape := ⟨2, ![32, 128]⟩
abbrev S4096x256 : Shape := ⟨2, ![4096, 256]⟩
abbrev S256x128 : Shape := ⟨2, ![256, 128]⟩
abbrev S3x128 : Shape := ⟨2, ![3, 128]⟩
abbrev S32768x256 : Shape := ⟨2, ![32768, 256]⟩
abbrev S4x512x16x2x128 : Shape := ⟨5, ![4, 512, 16, 2, 128]⟩
abbrev S4x511x16x2x128 : Shape := ⟨5, ![4, 511, 16, 2, 128]⟩
abbrev S4x511x32x2x128 : Shape := ⟨5, ![4, 511, 32, 2, 128]⟩
abbrev S1x1x32x1x128 : Shape := ⟨5, ![1, 1, 32, 1, 128]⟩
abbrev S4x511x2x32x128 : Shape := ⟨5, ![4, 511, 2, 32, 128]⟩
abbrev S4x511x2x4096 : Shape := ⟨4, ![4, 511, 2, 4096]⟩
abbrev S4x511x2x256 : Shape := ⟨4, ![4, 511, 2, 256]⟩
abbrev S_ : Shape := ⟨0, ![]⟩
abbrev S4x511x2x128 : Shape := ⟨4, ![4, 511, 2, 128]⟩
abbrev S1x128 : Shape := ⟨2, ![1, 128]⟩
abbrev S128 : Shape := ⟨1, ![128]⟩
abbrev S4x511x2 : Shape := ⟨3, ![4, 511, 2]⟩
abbrev S4x511x2x1 : Shape := ⟨4, ![4, 511, 2, 1]⟩
abbrev S1x1x1x128 : Shape := ⟨4, ![1, 1, 1, 128]⟩
abbrev S4x2x511x128 : Shape := ⟨4, ![4, 2, 511, 128]⟩
abbrev S4x2x512x128 : Shape := ⟨4, ![4, 2, 512, 128]⟩

abbrev nBuf : Space → Nat
  | .hbm => 49
  | .vmem => 0
  | .smem => 0
  | _ => 0

abbrev bufTy : (tb : Table) → Fin (tcTables nBuf tb) → BufTy
  | .hbm, ⟨0, _⟩ => ⟨S32768x15360, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S3x128, .f32⟩
  | .hbm, ⟨5, _⟩ => ⟨S32768x256, .f32⟩
  | .hbm, ⟨6, _⟩ => ⟨S4x512x16x2x128, .f32⟩
  | .hbm, ⟨7, _⟩ => ⟨S4x511x16x2x128, .f32⟩
  | .hbm, ⟨8, _⟩ => ⟨S4x511x16x2x128, .f32⟩
  | .hbm, ⟨9, _⟩ => ⟨S4x511x32x2x128, .f32⟩
  | .hbm, ⟨10, _⟩ => ⟨S1x1x32x1x128, .f32⟩
  | .hbm, ⟨11, _⟩ => ⟨S4x511x32x2x128, .f32⟩
  | .hbm, ⟨12, _⟩ => ⟨S4x511x32x2x128, .f32⟩
  | .hbm, ⟨13, _⟩ => ⟨S4x511x2x32x128, .f32⟩
  | .hbm, ⟨14, _⟩ => ⟨S4x511x2x4096, .f32⟩
  | .hbm, ⟨15, _⟩ => ⟨S4x511x2x256, .f32⟩
  | .hbm, ⟨16, _⟩ => ⟨S4x511x2x256, .f32⟩
  | .hbm, ⟨17, _⟩ => ⟨S4x511x2x256, .f32⟩
  | .hbm, ⟨18, _⟩ => ⟨S_, .f32⟩
  | .hbm, ⟨19, _⟩ => ⟨S4x511x2x256, .f32⟩
  | .hbm, ⟨20, _⟩ => ⟨S4x511x2x256, .f32⟩
  | .hbm, ⟨21, _⟩ => ⟨S_, .f32⟩
  | .hbm, ⟨22, _⟩ => ⟨S4x511x2x256, .f32⟩
  | .hbm, ⟨23, _⟩ => ⟨S4x511x2x256, .f32⟩
  | .hbm, ⟨24, _⟩ => ⟨S4x511x2x256, .f32⟩
  | .hbm, ⟨25, _⟩ => ⟨S4x511x2x128, .f32⟩
  | .hbm, ⟨26, _⟩ => ⟨S1x128, .f32⟩
  | .hbm, ⟨27, _⟩ => ⟨S128, .f32⟩
  | .hbm, ⟨28, _⟩ => ⟨S4x511x2x128, .f32⟩
  | .hbm, ⟨29, _⟩ => ⟨S_, .f32⟩
  | .hbm, ⟨30, _⟩ => ⟨S4x511x2, .f32⟩
  | .hbm, ⟨31, _⟩ => ⟨S4x511x2x1, .f32⟩
  | .hbm, ⟨32, _⟩ => ⟨S_, .f32⟩
  | .hbm, ⟨33, _⟩ => ⟨S4x511x2x1, .f32⟩
  | .hbm, ⟨34, _⟩ => ⟨S4x511x2x1, .f32⟩
  | .hbm, ⟨35, _⟩ => ⟨S_, .f32⟩
  | .hbm, ⟨36, _⟩ => ⟨S4x511x2x1, .f32⟩
  | .hbm, ⟨37, _⟩ => ⟨S4x511x2x1, .f32⟩
  | .hbm, ⟨38, _⟩ => ⟨S4x511x2x1, .f32⟩
  | .hbm, ⟨39, _⟩ => ⟨S4x511x2x128, .f32⟩
  | .hbm, ⟨40, _⟩ => ⟨S4x511x2x128, .f32⟩
  | .hbm, ⟨41, _⟩ => ⟨S1x1x1x128, .f32⟩
  | .hbm, ⟨42, _⟩ => ⟨S4x511x2x128, .f32⟩
  | .hbm, ⟨43, _⟩ => ⟨S4x511x2x128, .f32⟩
  | .hbm, ⟨44, _⟩ => ⟨S4x2x511x128, .f32⟩
  | .hbm, ⟨45, _⟩ => ⟨S_, .i32⟩
  | .hbm, ⟨46, _⟩ => ⟨S_, .f32⟩
  | .hbm, ⟨47, _⟩ => ⟨S4x2x512x128, .f32⟩
  | .hbm, ⟨48, _⟩ => ⟨S4x2x512x128, .bf16⟩
  | _, _ => ⟨S32768x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst : Ref sig .tc := ⟨.hbm, 29, rfl⟩
abbrev main_v16 : Ref sig .tc := ⟨.hbm, 30, rfl⟩
abbrev main_v17 : Ref sig .tc := ⟨.hbm, 31, rfl⟩
abbrev main_cst_0 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== CmpV.lean ====
abbrev S32768x15360 : Shape := ⟨2, ![32768, 15360]⟩
abbrev S32x128 : Shape := ⟨2, ![32, 128]⟩
abbrev S4096x256 : Shape := ⟨2, ![4096, 256]⟩
abbrev S256x128 : Shape := ⟨2, ![256, 128]⟩
abbrev S3x128 : Shape := ⟨2, ![3, 128]⟩
abbrev S32768x256 : Shape := ⟨2, ![32768, 256]⟩
abbrev S4x512x16x2x128 : Shape := ⟨5, ![4, 512, 16, 2, 128]⟩
abbrev S4x2x512x16x128 : Shape := ⟨5, ![4, 2, 512, 16, 128]⟩
abbrev S4x2x512x2048 : Shape := ⟨4, ![4, 2, 512, 2048]⟩
abbrev S1x128 : Shape := ⟨2, ![1, 128]⟩
abbrev S128 : Shape := ⟨1, ![128]⟩
abbrev S1x4096 : Shape := ⟨2, ![1, 4096]⟩
abbrev S4x2x512x128 : Shape := ⟨4, ![4, 2, 512, 128]⟩
abbrev S1x1x512x2048 : Shape := ⟨4, ![1, 1, 512, 2048]⟩
abbrev S1x1x512x128 : Shape := ⟨4, ![1, 1, 512, 128]⟩
abbrev S512x2048 : Shape := ⟨2, ![512, 2048]⟩
abbrev S1x2048 : Shape := ⟨2, ![1, 2048]⟩
abbrev S2048x256 : Shape := ⟨2, ![2048, 256]⟩
abbrev S512x256 : Shape := ⟨2, ![512, 256]⟩
abbrev S512x128 : Shape := ⟨2, ![512, 128]⟩

abbrev nBuf : Space → Nat
  | .hbm => 16
  | .vmem => 8
  | .smem => 0
  | _ => 0

abbrev bufTy : (tb : Table) → Fin (tcTables nBuf tb) → BufTy
  | .hbm, ⟨0, _⟩ => ⟨S32768x15360, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S3x128, .f32⟩
  | .hbm, ⟨5, _⟩ => ⟨S32768x256, .f32⟩
  | .hbm, ⟨6, _⟩ => ⟨S4x512x16x2x128, .f32⟩
  | .hbm, ⟨7, _⟩ => ⟨S4x2x512x16x128, .f32⟩
  | .hbm, ⟨8, _⟩ => ⟨S4x2x512x2048, .f32⟩
  | .hbm, ⟨9, _⟩ => ⟨S1x128, .f32⟩
  | .hbm, ⟨10, _⟩ => ⟨S128, .f32⟩
  | .hbm, ⟨11, _⟩ => ⟨S1x4096, .f32⟩
  | .hbm, ⟨12, _⟩ => ⟨S4096x256, .bf16⟩
  | .hbm, ⟨13, _⟩ => ⟨S256x128, .bf16⟩
  | .hbm, ⟨14, _⟩ => ⟨S1x128, .f32⟩
  | .hbm, ⟨15, _⟩ => ⟨S4x2x512x128, .bf16⟩
  | .local _ .vmem, ⟨0, _⟩ => ⟨S1x1x512x2048, .f32⟩
  | .local _ .vmem, ⟨1, _⟩ => ⟨S1x1x512x2048, .f32⟩
  | .local _ .vmem, ⟨2, _⟩ => ⟨S1x4096, .f32⟩
  | .local _ .vmem, ⟨3, _⟩ => ⟨S4096x256, .bf16⟩
  | .local _ .vmem, ⟨4, _⟩ => ⟨S256x128, .bf16⟩
  | .local _ .vmem, ⟨5, _⟩ => ⟨S1x128, .f32⟩
  | .local _ .vmem, ⟨6, _⟩ => ⟨S1x1x512x128, .bf16⟩
  | .local _ .vmem, ⟨7, _⟩ => ⟨S1x1x512x128, .bf16⟩
  | _, _ => ⟨S32768x15360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== CmpVRefIdeal.lean ====
abbrev S32768x15360 : Shape := ⟨2, ![32768, 15360]⟩
abbrev S32x128 : Shape := ⟨2, ![32, 128]⟩
abbrev S4096x256 : Shape := ⟨2, ![4096, 256]⟩
abbrev S256x128 : Shape := ⟨2, ![256, 128]⟩
abbrev S3x128 : Shape := ⟨2, ![3, 128]⟩
abbrev S32768x256 : Shape := ⟨2, ![32768, 256]⟩
abbrev S4x512x16x2x128 : Shape := ⟨5, ![4, 512, 16, 2, 128]⟩
abbrev S4x511x16x2x128 : Shape := ⟨5, ![4, 511, 16, 2, 128]⟩
abbrev S4x511x32x2x128 : Shape := ⟨5, ![4, 511, 32, 2, 128]⟩
abbrev S1x1x32x1x128 : Shape := ⟨5, ![1, 1, 32, 1, 128]⟩
abbrev S4x511x2x32x128 : Shape := ⟨5, ![4, 511, 2, 32, 128]⟩
abbrev S4x511x2x4096 : Shape := ⟨4, ![4, 511, 2, 4096]⟩
abbrev S4x511x2x256 : Shape := ⟨4, ![4, 511, 2, 256]⟩
abbrev S_ : Shape := ⟨0, ![]⟩
abbrev S4x511x2x128 : Shape := ⟨4, ![4, 511, 2, 128]⟩
abbrev S4x2x511x128 : Shape := ⟨4, ![4, 2, 511, 128]⟩
abbrev S4x2x512x128 : Shape := ⟨4, ![4, 2, 512, 128]⟩

abbrev nBuf : Space → Nat
  | .hbm => 31
  | .vmem => 0
  | .smem => 0
  | _ => 0

abbrev bufTy : (tb : Table) → Fin (tcTables nBuf tb) → BufTy
  | .hbm, ⟨0, _⟩ => ⟨S32768x15360, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S3x128, .f32⟩
  | .hbm, ⟨5, _⟩ => ⟨S32768x256, .f32⟩
  | .hbm, ⟨6, _⟩ => ⟨S4x512x16x2x128, .f32⟩
  | .hbm, ⟨7, _⟩ => ⟨S4x511x16x2x128, .f32⟩
  | .hbm, ⟨8, _⟩ => ⟨S4x511x16x2x128, .f32⟩
  | .hbm, ⟨9, _⟩ => ⟨S4x511x32x2x128, .f32⟩
  | .hbm, ⟨10, _⟩ => ⟨S1x1x32x1x128, .f32⟩
  | .hbm, ⟨11, _⟩ => ⟨S4x511x32x2x128, .f32⟩
  | .hbm, ⟨12, _⟩ => ⟨S4x511x32x2x128, .f32⟩
  | .hbm, ⟨13, _⟩ => ⟨S4x511x2x32x128, .f32⟩
  | .hbm, ⟨14, _⟩ => ⟨S4x511x2x4096, .f32⟩
  | .hbm, ⟨15, _⟩ => ⟨S4x511x2x256, .f32⟩
  | .hbm, ⟨16, _⟩ => ⟨S4x511x2x256, .f32⟩
  | .hbm, ⟨17, _⟩ => ⟨S4x511x2x256, .f32⟩
  | .hbm, ⟨18, _⟩ => ⟨S_, .f32⟩
  | .hbm, ⟨19, _⟩ => ⟨S4x511x2x256, .f32⟩
  | .hbm, ⟨20, _⟩ => ⟨S4x511x2x256, .f32⟩
  | .hbm, ⟨21, _⟩ => ⟨S_, .f32⟩
  | .hbm, ⟨22, _⟩ => ⟨S4x511x2x256, .f32⟩
  | .hbm, ⟨23, _⟩ => ⟨S4x511x2x256, .f32⟩
  | .hbm, ⟨24, _⟩ => ⟨S4x511x2x256, .f32⟩
  | .hbm, ⟨25, _⟩ => ⟨S4x511x2x128, .f32⟩
  | .hbm, ⟨26, _⟩ => ⟨S4x2x511x128, .f32⟩
  | .hbm, ⟨27, _⟩ => ⟨S_, .i32⟩
  | .hbm, ⟨28, _⟩ => ⟨S_, .f32⟩
  | .hbm, ⟨29, _⟩ => ⟨S4x2x512x128, .f32⟩
  | .hbm, ⟨30, _⟩ => ⟨S4x2x512x128, .bf16⟩
  | _, _ => ⟨S32768x15360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_call1_v0 : Ref sig .tc := ⟨.hbm, 28, rfl⟩
abbrev main_v14 : Ref sig .tc := ⟨.hbm, 29, rfl⟩
abbrev main_v15 : Ref sig .tc := ⟨.hbm, 30, rfl⟩

abbrev nD : Nat := 1
abbrev τ : Topo := Topo.v7x

variable {F : FTy → Type} [FloatOps F]
-- ==== Proof.SguPure.lean ====
/- The spatial gating call: the reference's operations and the kernel's payloads, read at an index. -/
module

public import proofs.«01_k».proof.Proof.Gen.SguIdeal.Frame
public import proofs.«01_k».proof.Proof.Gen.SguRefIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SguRefIdeal.Value

open Cert.SguRefIdeal Cert.SguRefIdeal.Gen

/-- The gelu of one entry, in its hyperbolic tangent form. -/
def gelu (x : EReal) : EReal :=
  x * (Ideal.ofBits .f32 0x3F000000#32 * (Ideal.ofBits .f32 0x3F800000#32 + Ideal.tanh (Ideal.ofBits .f32 0x3F4C422A#32 * (x + Ideal.ofBits .f32 0x3D372713#32 * (x * (x * x))))))

/-- One entry less its row's mean. -/
def off (f : Fin 1024 → EReal) (k : Fin 1024) : EReal :=
  f k - Ideal.div (∑ l, f l) (Ideal.ofBits .f32 0x44800000#32)

/-- One entry of a row's layer norm, before its weight and bias. -/
def lnorm (f : Fin 1024 → EReal) (k : Fin 1024) : EReal :=
  off f k * Ideal.rsqrt (Ideal.div (∑ l, off f l * off f l) (Ideal.ofBits .f32 0x44800000#32) + Ideal.ofBits .f32 0x358637BD#32)

/-- The gating half of the input columns, by batch and token. -/
def sliceU (X : FVec Ideal S32768x15360 .f32) : FVec Ideal S4x8192x1024 .f32 :=
  shapeCast _ (extractStridedSlice S32768x1024 ![0, 5120] X slices_S32768x15360_S32768x1024_0_5120) shapeCasts_S32768x1024_S4x8192x1024

/-- The mixed half of the input columns, by batch and token. -/
def sliceV (X : FVec Ideal S32768x15360 .f32) : FVec Ideal S4x8192x1024 .f32 :=
  shapeCast _ (extractStridedSlice S32768x1024 ![0, 6144] X slices_S32768x15360_S32768x1024_0_6144) shapeCasts_S32768x1024_S4x8192x1024

/-- The gelu of every entry. -/
def geluOf (Y : FVec Ideal S4x8192x1024 .f32) : FVec Ideal S4x8192x1024 .f32 :=
  mulf Y (mulf (broadcastInDim S4x8192x1024 ![] bcast_S_S4x8192x1024 (constant S_ .f32 0x3F000000#32)) (addf (broadcastInDim S4x8192x1024 ![] bcast_S_S4x8192x1024 (constant S_ .f32 0x3F800000#32)) (Host.tanh (mulf (broadcastInDim S4x8192x1024 ![] bcast_S_S4x8192x1024 (constant S_ .f32 0x3F4C422A#32)) (addf Y (mulf (broadcastInDim S4x8192x1024 ![] bcast_S_S4x8192x1024 (constant S_ .f32 0x3D372713#32)) (mulf (mulf Y Y) Y)))))))

/-- Every entry less its row's mean. -/
def centred (Y : FVec Ideal S4x8192x1024 .f32) : FVec Ideal S4x8192x1024 .f32 :=
  subf Y (broadcastInDim S4x8192x1024 ![0, 1, 2] bcast_S4x8192x1_S4x8192x1024_0_1_2 (Host.divf (broadcastInDim S4x8192x1 ![0, 1] bcast_S4x8192_S4x8192x1_0_1 (Host.reduceAdd Y (constant S_ .f32 0x00000000#32) reducesTo_S4x8192x1024_S4x8192_d2 h_S_)) (broadcastInDim S4x8192x1 ![] bcast_S_S4x8192x1 (constant S_ .f32 0x44800000#32))))

/-- The layer-normed rows of the mixed half. -/
def rows (X : FVec Ideal S32768x15360 .f32) (nw nb : FVec Ideal S1024 .f32) : FVec Ideal S4x8192x1024 .f32 :=
  addf (mulf (mulf (centred (geluOf (sliceV X))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (centred (geluOf (sliceV X))) (centred (geluOf (sliceV X)))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 nw))) (broadcastInDim S4x8192x1024 ![0, 1, 2] bcast_S1x1x1024_S4x8192x1024_0_1_2 (broadcastInDim S1x1x1024 ![2] bcast_S1024_S1x1x1024_2 nb))

/-- The layer-normed rows, by batch, chunk, token of the chunk, head and channel. -/
def normed (X : FVec Ideal S32768x15360 .f32) (nw nb : FVec Ideal S1024 .f32) : FVec Ideal S4x64x128x8x128 .f32 :=
  shapeCast _ (rows X nw nb) shapeCasts_S4x8192x1024_S4x64x128x8x128

/-- The mixing weights, zero above the diagonal. -/
def masked (w : FVec Ideal S8x128x128 .f32) : FVec Ideal S8x128x128 .f32 :=
  select (broadcastInDim S8x128x128 ![1, 2] bcast_S128x128_S8x128x128_1_2 (cmpi .sge (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))) w (broadcastInDim S8x128x128 ![] bcast_S_S8x128x128 (id (constant S_ .f32 0x00000000#32)))

/-- The mixed rows: each chunk's tokens under its head's weights, plus the bias. -/
def mixed (X : FVec Ideal S32768x15360 .f32) (nw nb : FVec Ideal S1024 .f32) (w : FVec Ideal S8x128x128 .f32) (b : FVec Ideal S8x128 .f32) : FVec Ideal S4x8192x1024 .f32 :=
  shapeCast _ (addf (transpose S4x64x128x8x128 [1, 2, 4, 0, 3] (Host.dotGeneral dot_S4x64x128x8x128_S8x128x128_S8x4x64x128x128_2_2_014_1_3_0 none (normed X nw nb) (masked w)) transposes_S8x4x64x128x128_S4x64x128x8x128_1_2_4_0_3) (broadcastInDim S4x64x128x8x128 ![0, 1, 2, 3, 4] bcast_S1x1x128x8x1_S4x64x128x8x128_0_1_2_3_4 (broadcastInDim S1x1x128x8x1 ![2, 3] bcast_S128x8_S1x1x128x8x1_2_3 (transpose S128x8 [1, 0] b transposes_S8x128_S128x8_1_0)))) shapeCasts_S4x64x128x8x128_S4x8192x1024

/-- The reference's result, over its arguments. -/
def REF (X : FVec Ideal S32768x15360 .f32) (nw nb : FVec Ideal S1024 .f32) (w : FVec Ideal S8x128x128 .f32) (b : FVec Ideal S8x128 .f32) : FVec Ideal S32768x1024 .bf16 :=
  shapeCast _ (truncf .bf16 (mulf (geluOf (sliceU X)) (mixed X nw nb w b)) bitsLt_bf16_f32) shapeCasts_S4x8192x1024_S32768x1024

theorem slice_u_at (X : FVec Ideal S32768x15360 .f32) (a : Fin 4) (s : Fin 8192) (k : Fin 1024) :
    sliceU X (ix3 a s k) = X (ix2 ⟨a.val * 8192 + s.val, by omega⟩ ⟨5120 + k.val, by omega⟩) := by
  pointwise [sliceU]
  blk_ext []

theorem slice_v_at (X : FVec Ideal S32768x15360 .f32) (a : Fin 4) (s : Fin 8192) (k : Fin 1024) :
    sliceV X (ix3 a s k) = X (ix2 ⟨a.val * 8192 + s.val, by omega⟩ ⟨6144 + k.val, by omega⟩) := by
  pointwise [sliceV]
  blk_ext []

theorem gelu_at (Y : FVec Ideal S4x8192x1024 .f32) (j : S4x8192x1024.Idx) : geluOf Y j = gelu (Y j) := by
  pointwise [geluOf, gelu]
  rw [mul_comm (Y j * Y j) (Y j)]

theorem centred_at (Y : FVec Ideal S4x8192x1024 .f32) (a : Fin 4) (s : Fin 8192) (k : Fin 1024) :
    centred Y (ix3 a s k) = off (fun l => Y (ix3 a s l)) k := by
  pointwise [centred, off]

theorem rows_at (X : FVec Ideal S32768x15360 .f32) (nw nb : FVec Ideal S1024 .f32) (a : Fin 4) (s : Fin 8192) (k : Fin 1024) :
    rows X nw nb (ix3 a s k) = lnorm (fun l => gelu (sliceV X (ix3 a s l))) k * nw (ix1 k) + nb (ix1 k) := by
  pointwise [rows, lnorm]
  simp only [centred_at, gelu_at]

/-- The comparison of two token numbers of a chunk, as the operations compute it. -/
theorem compare_tokens : ∀ p q : Fin 128, IntOp.cmpi CmpIPredicate.sge (BitVec.ofNat 32 p.val) (BitVec.ofNat 32 q.val) = if q.val ≤ p.val then 1#1 else 0#1 := by
  decide +kernel

theorem masked_at (w : FVec Ideal S8x128x128 .f32) (g : Fin 8) (p q : Fin 128) :
    masked w (ix3 g p q) = if q.val ≤ p.val then w (ix3 g p q) else 0 := by
  pointwise [masked]
  rw [compare_tokens]
  by_cases h : q.val ≤ p.val
  · rw [if_pos h, if_pos h]
    rfl
  · rw [if_neg h, if_neg h]
    exact Ideal.ofBits_zero_f32

theorem mixed_at (X : FVec Ideal S32768x15360 .f32) (nw nb : FVec Ideal S1024 .f32) (w : FVec Ideal S8x128x128 .f32) (b : FVec Ideal S8x128 .f32)
    (a : Fin 4) (s : Fin 8192) (k : Fin 1024) :
    mixed X nw nb w b (ix3 a s k) = ∑ q : Fin 128, masked w (ix3 ⟨k.val / 128, by omega⟩ ⟨s.val % 128, by omega⟩ q) * rows X nw nb (ix3 a ⟨s.val / 128 * 128 + q.val, by omega⟩ k)
      + b (ix2 ⟨k.val / 128, by omega⟩ ⟨s.val % 128, by omega⟩) := by
  pointwise [mixed, normed]
  refine Ideal.add_congr (Fin.sum_fin_congr fun q => mul_comm _ _) rfl

theorem ref_at (X : FVec Ideal S32768x15360 .f32) (nw nb : FVec Ideal S1024 .f32) (w : FVec Ideal S8x128x128 .f32) (b : FVec Ideal S8x128 .f32)
    (r : Fin 32768) (k : Fin 1024) :
    REF X nw nb w b (ix2 r k) = gelu (X (ix2 r ⟨5120 + k.val, by omega⟩)) * mixed X nw nb w b (ix3 ⟨r.val / 8192, by omega⟩ ⟨r.val % 8192, by omega⟩ k) := by
  pointwise [REF]
  rw [gelu_at, slice_u_at]
  refine Ideal.mul_congr (congrArg gelu ?_) rfl
  blk_ext

end Cert.SguRefIdeal.Value

namespace Cert.SguIdeal.Value

open Cert.SguIdeal Cert.SguIdeal.Gen
open Cert.SguRefIdeal.Value (gelu off lnorm)

theorem norm_at (v : FVec Ideal S256x1024 .f32) (nw nb : FVec Ideal S1x1024 .f32) (r : Fin 256) (k : Fin 1024) :
    k0_pay2 (F := Ideal) v nw nb (ix2 r k) = lnorm (fun l => gelu (v (ix2 r l))) k * nw (ix2 0 k) + nb (ix2 0 k) := by
  pointwise [k0_pay2, lnorm, off, gelu]

theorem mask_at (p q : Fin 128) : k0_pay3 (ix2 p q) = if q.val ≤ p.val then 1#1 else 0#1 := by
  pointwise [k0_pay3]
  exact Cert.SguRefIdeal.Value.compare_tokens p q

/-- One entry of a point's block: the gelu of the gating entry times the chunk's mixed rows plus the bias. -/
def tile (u : FVec Ideal S256x1024 .f32) (n : FVec Ideal S256x1024 .bf16) (w : FVec Ideal S8x128x128 .f32) (b : FVec Ideal S128x8 .f32) (r : Fin 256) (k : Fin 1024) : EReal :=
  gelu (u (ix2 r k)) * (∑ q : Fin 128, Scalar.select (k0_pay3 (ix2 ⟨r.val % 128, by omega⟩ q)) (w (ix3 ⟨k.val / 128, by omega⟩ ⟨r.val % 128, by omega⟩ q)) (Ideal.ofBits .f32 0x00000000#32)
    * n (ix2 ⟨r.val / 128 * 128 + q.val, by omega⟩ k) + b (ix2 ⟨r.val % 128, by omega⟩ ⟨k.val / 128, by omega⟩))

theorem tile_at (x0 x1 : Vec Ideal S256x1024 .f32) (x2 x3 : Vec Ideal S1x1024 .f32) (x4 : Vec Ideal S8x128x128 .f32) (x5 : Vec Ideal S128x8 .f32) (y : S256x1024.Idx) :
    out0_6 (F := Ideal) x0 x1 x2 x3 x4 x5 y = tile x0 (k0_pay52 x0 x1 x2 x3 x4 x5) x4 x5 (y 0) (y 1) := by
  unfold out0_6
  generalize k0_pay52 (F := Ideal) x0 x1 x2 x3 x4 x5 = n
  unfold k0_pay53
  canon_tiles x h
  all_goals
    open_payloads
    pointwise [tile, gelu, k0_pay3]
    blk_point []
    exact congrArg (BitVec.ofNat 32) (by omega)

end Cert.SguIdeal.Value

end
-- ==== Proof.SguValue.lean ====
/- The spatial gating call: the array the kernel leaves is the reference's result. -/
module

public import proofs.«01_k».proof.Proof.SguPure
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SguIdeal.Value

open Cert.SguIdeal Cert.SguIdeal.Gen
open Cert.SguRefIdeal.Value (gelu off lnorm)

variable (m : (ℓ : Loc nD τ sig) → Buf (Elt Ideal) ℓ)

/-- The windows' block indices at every grid point: row block `t`. -/
theorem idx : ∀ t : Fin cfg0.N, win0_0.index t = ![t.val, 5] ∧ win0_1.index t = ![t.val, 6] ∧ win0_2.index t = ![0, 0]
    ∧ win0_3.index t = ![0, 0] ∧ win0_4.index t = ![0, 0, 0] ∧ win0_5.index t = ![0, 0] ∧ win0_6.index t = ![t.val, 0] ∧ t.val < 128 :=
  (by decide +kernel : ∀ t : Fin grid0.N, _)

/-- The blocks of a point, at their shapes. -/
def blk0 (c : Dev nD) (p : Fin cfg0.N) : FVec Ideal S256x1024 .f32 := iblk m c 0 p
def blk1 (c : Dev nD) (p : Fin cfg0.N) : FVec Ideal S256x1024 .f32 := iblk m c 1 p
def blk2 (c : Dev nD) (p : Fin cfg0.N) : FVec Ideal S1x1024 .f32 := iblk m c 2 p
def blk3 (c : Dev nD) (p : Fin cfg0.N) : FVec Ideal S1x1024 .f32 := iblk m c 3 p
def blk4 (c : Dev nD) (p : Fin cfg0.N) : FVec Ideal S8x128x128 .f32 := iblk m c 4 p
def blk5 (c : Dev nD) (p : Fin cfg0.N) : FVec Ideal S128x8 .f32 := iblk m c 5 p

/-- The arguments, at their shapes. -/
def arg0 (c : Dev nD) : FVec Ideal S32768x15360 .f32 := m ((c : Thread nD τ).loc main_arg0)
def arg1 (c : Dev nD) : FVec Ideal S1024 .f32 := m ((c : Thread nD τ).loc main_arg1)
def arg2 (c : Dev nD) : FVec Ideal S1024 .f32 := m ((c : Thread nD τ).loc main_arg2)
def arg3 (c : Dev nD) : FVec Ideal S8x128x128 .f32 := m ((c : Thread nD τ).loc main_arg3)
def arg4 (c : Dev nD) : FVec Ideal S8x128 .f32 := m ((c : Thread nD τ).loc main_arg4)

theorem blk0_at (c : Dev nD) (t : Fin cfg0.N) (r : Fin 256) (k : Fin 1024) (i : Fin 32768) (hi : i.val = t.val * 256 + r.val) :
    blk0 m c t (ix2 r k) = arg0 m c (ix2 i ⟨5120 + k.val, by omega⟩) := by
  blk_ext [blk0, arg0, iblk, V, idx t]

theorem blk1_at (c : Dev nD) (t : Fin cfg0.N) (r : Fin 256) (k : Fin 1024) (i : Fin 32768) (hi : i.val = t.val * 256 + r.val) :
    blk1 m c t (ix2 r k) = arg0 m c (ix2 i ⟨6144 + k.val, by omega⟩) := by
  blk_ext [blk1, arg0, iblk, V, idx t]

theorem blk2_at (c : Dev nD) (t : Fin cfg0.N) (k : Fin 1024) : blk2 m c t (ix2 0 k) = arg1 m c (ix1 k) := by
  have e : V m c main_v0 = shapeCast S1x1024 (arg1 m c) shapeCasts_S1024_S1x1024 := by
    simp only [V, List.flatten_cons, List.flatten_nil, List.append_nil, List.cons_append, List.nil_append, hostOps0]
    after_results
    try rfl
  refine Eq.trans (b := (show FVec Ideal S1x1024 .f32 from V m c main_v0) (ix2 0 k)) ?_ ?_
  · unfold blk2
    blk_ext [iblk, idx t]
  · rw [e]
    pointwise

theorem blk3_at (c : Dev nD) (t : Fin cfg0.N) (k : Fin 1024) : blk3 m c t (ix2 0 k) = arg2 m c (ix1 k) := by
  have e : V m c main_v1 = shapeCast S1x1024 (arg2 m c) shapeCasts_S1024_S1x1024 := by
    simp only [V, List.flatten_cons, List.flatten_nil, List.append_nil, List.cons_append, List.nil_append, hostOps0]
    after_results
    try rfl
  refine Eq.trans (b := (show FVec Ideal S1x1024 .f32 from V m c main_v1) (ix2 0 k)) ?_ ?_
  · unfold blk3
    blk_ext [iblk, idx t]
  · rw [e]
    pointwise

theorem blk4_at (c : Dev nD) (t : Fin cfg0.N) (g : Fin 8) (p q : Fin 128) : blk4 m c t (ix3 g p q) = arg3 m c (ix3 g p q) := by
  blk_ext [blk4, arg3, iblk, V, idx t]

theorem blk5_at (c : Dev nD) (t : Fin cfg0.N) (p : Fin 128) (g : Fin 8) : blk5 m c t (ix2 p g) = arg4 m c (ix2 g p) := by
  have e : V m c main_v2 = transpose S128x8 [1, 0] (arg4 m c) transposes_S8x128_S128x8_1_0 := by
    simp only [V, List.flatten_cons, List.flatten_nil, List.append_nil, List.cons_append, List.nil_append, hostOps0]
    after_results
    try rfl
  refine Eq.trans (b := (show FVec Ideal S128x8 .f32 from V m c main_v2) (ix2 p g)) ?_ ?_
  · unfold blk5
    blk_ext [iblk, idx t]
  · rw [e]
    pointwise

/-- The layer-normed rows of a point are the reference's. -/
theorem rows_ref (c : Dev nD) (t : Fin cfg0.N) (r : Fin 256) (k : Fin 1024) (a : Fin 4) (s : Fin 8192) (h : a.val * 8192 + s.val = t.val * 256 + r.val) :
    k0_pay2 (F := Ideal) (blk1 m c t) (blk2 m c t) (blk3 m c t) (ix2 r k)
      = Cert.SguRefIdeal.Value.rows (arg0 m c) (arg1 m c) (arg2 m c) (ix3 a s k) := by
  rw [norm_at, Cert.SguRefIdeal.Value.rows_at, blk2_at, blk3_at]
  have e : (fun l => gelu (blk1 m c t (ix2 r l))) = fun l => gelu (Cert.SguRefIdeal.Value.sliceV (arg0 m c) (ix3 a s l)) := by
    funext l
    rw [Cert.SguRefIdeal.Value.slice_v_at, blk1_at m c t r l ⟨a.val * 8192 + s.val, by omega⟩ h]
  rw [e]

/-- One entry of a point's block is the reference's. -/
theorem point (c : Dev nD) (t : Fin cfg0.N) (y : S256x1024.Idx) (i : S32768x1024.Idx)
    (hi0 : (i 0).val = t.val * 256 + (y 0).val) (hi1 : (i 1).val = (y 1).val) :
    out0_6 (F := Ideal) (iblk m c 0 t) (iblk m c 1 t) (iblk m c 2 t) (iblk m c 3 t) (iblk m c 4 t) (iblk m c 5 t) y
      = Cert.SguRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) i := by
  refine (tile_at _ _ _ _ _ _ y).trans ?_
  idx_vars y
  idx_vars i
  have hy : y1 = i1 := Fin.ext hi1.symm
  subst hy
  have ht := (idx t).2.2.2.2.2.2.2
  have hy0 : y0.val < 256 := y0.isLt
  have hy1 : y1.val < 1024 := y1.isLt
  have hi2 : i0.val < 32768 := i0.isLt
  refine Eq.trans ?_ (Cert.SguRefIdeal.Value.ref_at (arg0 m c) (arg1 m c) (arg2 m c) (arg3 m c) (arg4 m c) i0 y1).symm
  rw [Cert.SguRefIdeal.Value.mixed_at]
  have e : k0_pay52 (F := Ideal) (iblk m c 0 t) (iblk m c 1 t) (iblk m c 2 t) (iblk m c 3 t) (iblk m c 4 t) (iblk m c 5 t)
      = k0_pay2 (blk1 m c t) (blk2 m c t) (blk3 m c t) := by
    unfold k0_pay52
    frame_out
    rfl
  rw [e]
  unfold tile
  refine Ideal.mul_congr (congrArg gelu (blk0_at m c t y0 y1 i0 hi0)) (Ideal.add_congr (Fin.sum_fin_congr fun q => Ideal.mul_congr ?_ ?_) ?_)
  · rw [mask_at, Cert.SguRefIdeal.Value.masked_at]
    have hm : i0.val % 8192 % 128 = y0.val % 128 := by omega
    have e4 := blk4_at m c t ⟨y1.val / 128, by omega⟩ ⟨y0.val % 128, by omega⟩ q
    simp only [hm]
    by_cases h : q.val ≤ y0.val % 128
    · rw [if_pos h, if_pos h]
      exact e4
    · rw [if_neg h, if_neg h]
      exact Ideal.ofBits_zero_f32
  · exact rows_ref m c t _ y1 _ _ (by dsimp only; omega)
  · refine (blk5_at m c t _ _).trans (congrArg (arg4 m c) ?_)
    have hm : i0.val % 8192 % 128 = y0.val % 128 := by omega
    simp only [hm]

/-- The output array is the reference's result. -/
theorem final (c : Dev nD) : (dats m 0 c).arrAt 6 (cfgs 0).N
    = Cert.SguRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t hf y => ?_
  blk_simp
  rw [after0_6]
  refine point m c t y _ ?_ ?_
  all_goals (blk_simp [idx t] <;> try omega)

end Cert.SguIdeal.Value

end
-- ==== Proof.FfnPure.lean ====
/- The feed-forward call: the arithmetic of the kernel's body and of the reference, read at an index. -/
module

public import proofs.«01_k».proof.Proof.Gen.FfnIdeal.Frame
public import proofs.«01_k».proof.Proof.Gen.FfnRefIdeal.Run
public import Idealize.ShloMosaic.Lib.Pointwise
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.FfnIdeal.Value

open Cert.FfnIdeal Cert.FfnIdeal.Gen

/-- One row of the RMS norm: `x · rsqrt(mean x² + ε)`, entry `k`. -/
def rms (x : Fin 2048 → EReal) (k : Fin 2048) : EReal :=
  x k * Ideal.rsqrt (Ideal.div (∑ l, x l * x l) (Ideal.ofBits .f32 0x45000000#32) + Ideal.ofBits .f32 0x358637BD#32)

/-- The swish of `a`, times `b`. -/
def gated (a b : EReal) : EReal := a * Ideal.div 1 (1 + Ideal.exp (-a)) * b

theorem norm_at (x : FVec Ideal S512x2048 .f32) (w : FVec Ideal S1x2048 .f32) (r : Fin 512) (k : Fin 2048) :
    k0_pay1 (F := Ideal) x w (ix2 r k) = rms (fun l => x (ix2 r l)) k * w (ix2 0 k) := by
  pointwise [k0_pay1, rms]

theorem zero_at (j : S512x2048.Idx) : k0_pay2 (F := Ideal) j = 0 := by
  pointwise [k0_pay2]

theorem step_at (h : FVec Ideal S512x2048 .bf16) (wa wb : FVec Ideal S2048x512 .bf16) (acc : FVec Ideal S512x2048 .f32)
    (wc : FVec Ideal S512x2048 .bf16) (j : S512x2048.Idx) :
    k0_pay3 (F := Ideal) h wa wb acc wc j
      = acc j + ∑ k : Fin 512, gated (∑ l : Fin 2048, h (ix2 (j 0) l) * wa (ix2 l k)) (∑ l : Fin 2048, h (ix2 (j 0) l) * wb (ix2 l k)) * wc (ix2 k (j 1)) := by
  pointwise [k0_pay3, gated]
  rfl

theorem out_at (x acc : FVec Ideal S512x2048 .f32) (j : S512x2048.Idx) :
    k0_pay4 (F := Ideal) x acc j = x j + Ideal.ofBits .f32 0x3F000000#32 * acc j := by
  pointwise [k0_pay4]

end Cert.FfnIdeal.Value

namespace Cert.FfnRefIdeal.Value

open Cert.FfnRefIdeal Cert.FfnRefIdeal.Gen

/-- The normalised rows, as the reference's operations give them. -/
def hidden (X : FVec Ideal S32768x2048 .f32) (nw : FVec Ideal S2048 .f32) : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 nw))

/-- The reference's result, over its arguments. -/
def REF (X : FVec Ideal S32768x2048 .f32) (nw : FVec Ideal S2048 .f32) (wa wb : FVec Ideal S2048x5504 .f32)
    (wc : FVec Ideal S5504x2048 .f32) : FVec Ideal S32768x2048 .f32 :=
  addf X (mulf (broadcastInDim S32768x2048 ![] bcast_S_S32768x2048 (constant S_ .f32 0x3F000000#32)) (Host.dotGeneral dot_S32768x5504_S5504x2048_S32768x2048_1_0_0_1_n_n none (mulf (mulf (Host.dotGeneral dot_S32768x2048_S2048x5504_S32768x5504_1_0_0_1_n_n none (hidden X nw) wa) (Host.divf (broadcastInDim S32768x5504 ![] bcast_S_S32768x5504 (constant S_ .f32 0x3F800000#32)) (addf (broadcastInDim S32768x5504 ![] bcast_S_S32768x5504 (constant S_ .f32 0x3F800000#32)) (Host.exp (Host.negf (Host.dotGeneral dot_S32768x2048_S2048x5504_S32768x5504_1_0_0_1_n_n none (hidden X nw) wa)))))) (Host.dotGeneral dot_S32768x2048_S2048x5504_S32768x5504_1_0_0_1_n_n none (hidden X nw) wb)) wc))

theorem hidden_at (X : FVec Ideal S32768x2048 .f32) (nw : FVec Ideal S2048 .f32) (r : Fin 32768) (k : Fin 2048) :
    hidden X nw (ix2 r k) = Cert.FfnIdeal.Value.rms (fun l => X (ix2 r l)) k * nw (ix1 k) := by
  pointwise [hidden, Cert.FfnIdeal.Value.rms]

theorem ref_at (X : FVec Ideal S32768x2048 .f32) (nw : FVec Ideal S2048 .f32) (wa wb : FVec Ideal S2048x5504 .f32)
    (wc : FVec Ideal S5504x2048 .f32) (r : Fin 32768) (o : Fin 2048) :
    REF X nw wa wb wc (ix2 r o) = X (ix2 r o) + Ideal.ofBits .f32 0x3F000000#32 *
      ∑ k : Fin 5504, Cert.FfnIdeal.Value.gated (∑ l : Fin 2048, hidden X nw (ix2 r l) * wa (ix2 l k))
        (∑ l : Fin 2048, hidden X nw (ix2 r l) * wb (ix2 l k)) * wc (ix2 k o) := by
  pointwise [REF, Cert.FfnIdeal.Value.gated]

end Cert.FfnRefIdeal.Value

end
-- ==== Proof.FfnValue.lean ====
/- The feed-forward call: the array the kernel leaves is the reference's result. -/
module

public import proofs.«01_k».proof.Proof.FfnPure
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The windows' block indices at every grid point: row block `t / 11`, hidden tile `t % 11`. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![t.val / 11, 0] ∧ t.val < 704 :=
  (by decide +kernel : ∀ t : Fin grid0.N, _)

/-- The blocks of a point, at their shapes. -/
def blk0 (c : Dev nD) (p : Fin cfg0.N) : FVec Ideal S512x2048 .f32 := iblk m c 0 p
def blk1 (c : Dev nD) (p : Fin cfg0.N) : FVec Ideal S1x2048 .f32 := iblk m c 1 p
def blk2 (c : Dev nD) (p : Fin cfg0.N) : FVec Ideal S2048x512 .bf16 := iblk m c 2 p
def blk3 (c : Dev nD) (p : Fin cfg0.N) : FVec Ideal S2048x512 .bf16 := iblk m c 3 p
def blk4 (c : Dev nD) (p : Fin cfg0.N) : FVec Ideal S512x2048 .bf16 := iblk m c 4 p

/-- Within a run of eleven points the row block and the norm's weights stay. -/
theorem rows_stay (c : Dev nD) (n : ℕ) (hn : n + 1 < cfg0.N) (h0 : ¬(n + 1) % 11 = 0) :
    (iblk m c 0 ⟨n + 1, hn⟩ : FVec Ideal S512x2048 .f32) = iblk m c 0 ⟨n, Nat.lt_of_succ_lt hn⟩
      ∧ (iblk m c 1 ⟨n + 1, hn⟩ : FVec Ideal S1x2048 .f32) = iblk m c 1 ⟨n, Nat.lt_of_succ_lt hn⟩ := by
  have hN : n + 1 < 704 := lt_of_lt_of_eq hn N_0
  constructor
  · funext x
    idx_vars x
    blk_ext [iblk, V, idx ⟨n + 1, hn⟩, idx ⟨n, Nat.lt_of_succ_lt hn⟩]
  · funext x
    idx_vars x
    blk_ext [iblk, V, idx ⟨n + 1, hn⟩, idx ⟨n, Nat.lt_of_succ_lt hn⟩]

/-- The normalised row block of a point. -/
def rowsAt (c : Dev nD) (p : Fin cfg0.N) (r : Fin 512) (k : Fin 2048) : EReal :=
  rms (fun l => blk0 m c p (ix2 r l)) k
    * blk1 m c p (ix2 0 k)

theorem rowsAt_stay (c : Dev nD) (n : ℕ) (hn : n + 1 < cfg0.N) (h0 : ¬(n + 1) % 11 = 0) (r : Fin 512) (k : Fin 2048) :
    rowsAt m c ⟨n + 1, hn⟩ r k = rowsAt m c ⟨n, Nat.lt_of_succ_lt hn⟩ r k := by
  unfold rowsAt blk0 blk1
  rw [(rows_stay m c n hn h0).1, (rows_stay m c n hn h0).2]

/-- What the first scratch holds after a point: its normalised row block. -/
theorem held (c : Dev nD) (n : ℕ) (hn : n < cfg0.N) (r : Fin 512) (k : Fin 2048) :
    ((outsAt0 m c n hn).2.1 : FVec Ideal S512x2048 .bf16) (ix2 r k) = rowsAt m c ⟨n, hn⟩ r k := by
  induction n with
  | zero =>
    rw [outsAt0_A m c ⟨0, hn⟩ (Nat.zero_mod _) (by show ¬ 0 % 11 = 10; decide)]
    frame_out
    exact norm_at _ _ r k
  | succ n ih =>
    by_cases h0 : (n + 1) % 11 = 0
    · rw [outsAt0_A m c ⟨n + 1, hn⟩ h0 (by dsimp only; omega)]
      frame_out
      exact norm_at _ _ r k
    · refine Eq.trans ?_ ((ih (Nat.lt_of_succ_lt hn)).trans (rowsAt_stay m c n hn h0 r k).symm)
      by_cases h1 : (n + 1) % 11 = 10
      · rw [outsAt0_C m c ⟨n + 1, hn⟩ h0 h1]
        rfl
      · rw [outsAt0_B m c ⟨n + 1, hn⟩ h0 h1]
        rfl

/-- Past a run's first point, what the point before left there is the point's own normalised row block. -/
theorem held_prev (c : Dev nD) (t : Fin cfg0.N) (h0 : ¬t.val % 11 = 0) (r : Fin 512) (k : Fin 2048) :
    ((outsAt0 m c (t.val - 1) (Nat.lt_of_le_of_lt (Nat.sub_le _ _) t.isLt)).2.1 : FVec Ideal S512x2048 .bf16) (ix2 r k) = rowsAt m c t r k := by
  obtain ⟨n, hn⟩ := t
  cases n with
  | zero => exact absurd (Nat.zero_mod _) h0
  | succ n => exact (held m c n (Nat.lt_of_succ_lt hn) r k).trans (rowsAt_stay m c n hn h0 r k).symm

/-- What a point adds to the accumulator, at an entry of the block. -/
def part (c : Dev nD) (p : Fin cfg0.N) (j : S512x2048.Idx) : EReal :=
  ∑ k : Fin 512, gated
    (∑ l : Fin 2048, rowsAt m c p (j 0) l * blk2 m c p (ix2 l k))
    (∑ l : Fin 2048, rowsAt m c p (j 0) l * blk3 m c p (ix2 l k))
    * blk4 m c p (ix2 k (j 1))

/-- The accumulating payload over a scratch that holds the normalised rows. -/
theorem step_part (c : Dev nD) (p : Fin cfg0.N) (h : FVec Ideal S512x2048 .bf16) (acc : FVec Ideal S512x2048 .f32) (j : S512x2048.Idx)
    (hh : ∀ (r : Fin 512) (k : Fin 2048), h (ix2 r k) = rowsAt m c p r k) :
    k0_pay3 (F := Ideal) h (iblk m c 2 p) (iblk m c 3 p) acc (iblk m c 4 p) j = acc j + part m c p j := by
  idx_vars j
  refine (step_at _ _ _ _ _ _).trans ?_
  have e : ∀ l : Fin 2048, h (ix2 ((ix2 j0 j1 : S512x2048.Idx) 0) l) = _ := fun l => hh j0 l
  simp only [e]
  rfl

/-- What the accumulator holds where the row block is written back: the sum of the run's parts. -/
theorem accumulated (c : Dev nD) (t : Fin cfg0.N) (ht : t.val % 11 = 10) (j : S512x2048.Idx) :
    ((outsAt0 m c t.val t.isLt).2.2 : FVec Ideal S512x2048 .f32) j
      = ∑ s : Fin 11, part m c ⟨11 * (t.val / 11) + s.val, Pipeline.run_point_lt_of_flush t ht s⟩ j := by
  have e := Pipeline.eq_sum_fin_of_reset_step_apply_of_flush (fun n h => ((outsAt0 m c n h).2.2 : S512x2048.Idx → EReal)) 11 (fun _ => 0) (part m c)
    (fun t h j => by
      rw [outsAt0_A m c t h (by omega)]
      frame_out
      refine (step_part m c t _ _ j fun r k => norm_at _ _ r k).trans ?_
      rw [zero_at])
    (fun t h j => by
      by_cases h1 : t.val % 11 = 10
      · rw [outsAt0_C m c t h h1]
        frame_out
        rw [Idealize.ShloMosaic.read_unread_whole, Idealize.ShloMosaic.read_unread_whole]
        exact step_part m c t _ _ j fun r k => held_prev m c t h r k
      · rw [outsAt0_B m c t h h1]
        frame_out
        rw [Idealize.ShloMosaic.read_unread_whole, Idealize.ShloMosaic.read_unread_whole]
        exact step_part m c t _ _ j fun r k => held_prev m c t h r k)
    t ht j
  rw [e, zero_add]

/-- A sum over the padded hidden axis whose terms vanish in the padding is the sum over the hidden axis. -/
theorem sum_padded (f : Fin 5504 → EReal) : ∑ l : Fin 5632, (if h : l.val < 5504 then f ⟨l.val, h⟩ else 0) = ∑ l : Fin 5504, f l := by
  rw [Fin.sum_univ_add (a := 5504) (b := 128) (fun l : Fin 5632 => if h : l.val < 5504 then f ⟨l.val, h⟩ else 0)]
  have e1 : ∑ i : Fin 128, (if h : (Fin.natAdd 5504 i : Fin 5632).val < 5504 then f ⟨_, h⟩ else 0) = 0 :=
    Finset.sum_eq_zero fun i _ => dif_neg (by rw [Fin.val_natAdd]; omega)
  rw [e1, add_zero]
  exact Finset.sum_congr rfl fun i _ => dif_pos i.isLt

/-- At a run's last point the row block written back is the input plus half the accumulator. -/
theorem written (c : Dev nD) (t : Fin cfg0.N) (ht : t.val % 11 = 10) (j : S512x2048.Idx) :
    ((outsAt0 m c t.val t.isLt).1 : FVec Ideal S512x2048 .f32) j
      = blk0 m c t j + Ideal.ofBits .f32 0x3F000000#32
        * ((outsAt0 m c t.val t.isLt).2.2 : FVec Ideal S512x2048 .f32) j := by
  have e : ((outsAt0 m c t.val t.isLt).1 : FVec Ideal S512x2048 .f32) j
      = k0_pay4 (F := Ideal) (iblk m c 0 t) (outsAt0 m c t.val t.isLt).2.2 j := by
    rw [outsAt0_C m c t (by omega) ht]
    frame_out
  rw [e]
  exact out_at _ _ _

/-- The integer the padding is converted from is the real zero. -/
theorem pad_word : (FloatOps.sitofp FTy.bf16 0#32 : Ideal .bf16) = (0 : EReal) := by
  show (((0#32 : BitVec 32).toInt : ℝ) : EReal) = 0
  simp

/-- The padded copy of argument 2, entry by entry. -/
theorem padded2 (c : Dev nD) (i : Fin 2048) (j : Fin 5632) :
    (show FVec Ideal S2048x5632 .bf16 from V m c main_v1) (ix2 i j)
      = if h : (j).val < 5504 then (show FVec Ideal S2048x5504 .f32 from m ((c : Thread nD τ).loc main_arg2)) (ix2 i ⟨j.val, h⟩) else 0 := by
  have e : V m c main_v1 = pad S2048x5632 ![0, 0] ![0, 128] ![0, 0] (truncf (F := Ideal) .bf16 (show FVec Ideal S2048x5504 .f32 from m ((c : Thread nD τ).loc main_arg2)) bitsLt_bf16_f32)
      (sitofp (F := Ideal) .bf16 (constantI S_ 32 0#32)) pads_S2048x5504_S2048x5632_000_01280 h_S_ := by
    simp only [V, List.flatten_cons, List.flatten_nil, List.append_nil, List.cons_append, List.nil_append, hostOps0, hostOps0_1, hostOps0_2, hostOps0_3,
      hostOps0_4, hostOps0_5, hostOps0_6, StableHlo.TRef.binary, StableHlo.TRef.nullary, StableHlo.TRef.unary, StableHlo.TRef.toBuf, StableHlo.TRef.ofBuf, cast_eq]
    after_results
    try rfl
  rw [e]
  pointwise
  rw [pad_word]

/-- The padded copy of argument 3, entry by entry. -/
theorem padded3 (c : Dev nD) (i : Fin 2048) (j : Fin 5632) :
    (show FVec Ideal S2048x5632 .bf16 from V m c main_v3) (ix2 i j)
      = if h : (j).val < 5504 then (show FVec Ideal S2048x5504 .f32 from m ((c : Thread nD τ).loc main_arg3)) (ix2 i ⟨j.val, h⟩) else 0 := by
  have e : V m c main_v3 = pad S2048x5632 ![0, 0] ![0, 128] ![0, 0] (truncf (F := Ideal) .bf16 (show FVec Ideal S2048x5504 .f32 from m ((c : Thread nD τ).loc main_arg3)) bitsLt_bf16_f32)
      (sitofp (F := Ideal) .bf16 (constantI S_ 32 0#32)) pads_S2048x5504_S2048x5632_000_01280 h_S_ := by
    simp only [V, List.flatten_cons, List.flatten_nil, List.append_nil, List.cons_append, List.nil_append, hostOps0, hostOps0_1, hostOps0_2, hostOps0_3,
      hostOps0_4, hostOps0_5, hostOps0_6, StableHlo.TRef.binary, StableHlo.TRef.nullary, StableHlo.TRef.unary, StableHlo.TRef.toBuf, StableHlo.TRef.ofBuf, cast_eq]
    after_results
    try rfl
  rw [e]
  pointwise
  rw [pad_word]

/-- The padded copy of argument 4, entry by entry. -/
theorem padded4 (c : Dev nD) (i : Fin 5632) (j : Fin 2048) :
    (show FVec Ideal S5632x2048 .bf16 from V m c main_v5) (ix2 i j)
      = if h : (i).val < 5504 then (show FVec Ideal S5504x2048 .f32 from m ((c : Thread nD τ).loc main_arg4)) (ix2 ⟨i.val, h⟩ j) else 0 := by
  have e : V m c main_v5 = pad S5632x2048 ![0, 0] ![128, 0] ![0, 0] (truncf (F := Ideal) .bf16 (show FVec Ideal S5504x2048 .f32 from m ((c : Thread nD τ).loc main_arg4)) bitsLt_bf16_f32)
      (sitofp (F := Ideal) .bf16 (constantI S_ 32 0#32)) pads_S5504x2048_S5632x2048_01280_000 h_S_ := by
    simp only [V, List.flatten_cons, List.flatten_nil, List.append_nil, List.cons_append, List.nil_append, hostOps0, hostOps0_1, hostOps0_2, hostOps0_3,
      hostOps0_4, hostOps0_5, hostOps0_6, StableHlo.TRef.binary, StableHlo.TRef.nullary, StableHlo.TRef.unary, StableHlo.TRef.toBuf, StableHlo.TRef.ofBuf, cast_eq]
    after_results
    try rfl
  rw [e]
  pointwise
  rw [pad_word]

theorem blk2_at (c : Dev nD) (p : Fin cfg0.N) (l : Fin 2048) (k : Fin 512) (x : Fin 5632) (hx : x.val = p.val % 11 * 512 + k.val) :
    blk2 m c p (ix2 l k) = (show FVec Ideal S2048x5632 .bf16 from V m c main_v1) (ix2 l x) := by
  unfold blk2
  blk_ext [iblk, idx p]

theorem blk3_at (c : Dev nD) (p : Fin cfg0.N) (l : Fin 2048) (k : Fin 512) (x : Fin 5632) (hx : x.val = p.val % 11 * 512 + k.val) :
    blk3 m c p (ix2 l k) = (show FVec Ideal S2048x5632 .bf16 from V m c main_v3) (ix2 l x) := by
  unfold blk3
  blk_ext [iblk, idx p]

theorem blk4_at (c : Dev nD) (p : Fin cfg0.N) (k : Fin 512) (l : Fin 2048) (x : Fin 5632) (hx : x.val = p.val % 11 * 512 + k.val) :
    blk4 m c p (ix2 k l) = (show FVec Ideal S5632x2048 .bf16 from V m c main_v5) (ix2 x l) := by
  unfold blk4
  blk_ext [iblk, idx p]

theorem blk1_at (c : Dev nD) (p : Fin cfg0.N) (l : Fin 2048) :
    blk1 m c p (ix2 0 l) = (show FVec Ideal S2048 .f32 from m ((c : Thread nD τ).loc main_arg1)) (ix1 l) := by
  have e : V m c main_v6 = shapeCast S1x2048 (show FVec Ideal S2048 .f32 from m ((c : Thread nD τ).loc main_arg1)) shapeCasts_S2048_S1x2048 := by
    simp only [V, List.flatten_cons, List.flatten_nil, List.append_nil, List.cons_append, List.nil_append, hostOps0, hostOps0_1, hostOps0_2, hostOps0_3,
      hostOps0_4, hostOps0_5, hostOps0_6, StableHlo.TRef.binary, StableHlo.TRef.nullary, StableHlo.TRef.unary, StableHlo.TRef.toBuf, StableHlo.TRef.ofBuf, cast_eq]
    after_results
    try rfl
  refine Eq.trans (b := (show FVec Ideal S1x2048 .f32 from V m c main_v6) (ix2 0 l)) ?_ ?_
  · unfold blk1
    blk_ext [iblk, idx p]
  · rw [e]
    pointwise

/-- A point's normalised rows are the reference's. -/
theorem rowsAt_ref (c : Dev nD) (p : Fin cfg0.N) (r : Fin 512) (l : Fin 2048) (i : Fin 32768) (hi : i.val = p.val / 11 * 512 + r.val) :
    rowsAt m c p r l = Cert.FfnRefIdeal.Value.hidden (m ((c : Thread nD τ).loc main_arg0)) (m ((c : Thread nD τ).loc main_arg1)) (ix2 i l) := by
  refine Eq.trans ?_ (Cert.FfnRefIdeal.Value.hidden_at _ _ i l).symm
  unfold rowsAt
  have e : (fun l => blk0 m c p (ix2 r l)) = fun l => (show FVec Ideal S32768x2048 .f32 from m ((c : Thread nD τ).loc main_arg0)) (ix2 i l) := by
    funext l
    unfold blk0
    blk_ext [iblk, V, idx p]
  rw [e, blk1_at]

/-- One entry: the block's accumulated parts are the reference's sum over the hidden axis. -/
theorem point (c : Dev nD) (t : Fin cfg0.N) (ht : t.val % 11 = 10) (y : S512x2048.Idx) (i : S32768x2048.Idx)
    (hi0 : (i 0).val = t.val / 11 * 512 + (y 0).val) (hi1 : (i 1).val = (y 1).val) :
    blk0 m c t y + Ideal.ofBits .f32 0x3F000000#32
        * ∑ s : Fin 11, part m c ⟨11 * (t.val / 11) + s.val, Pipeline.run_point_lt_of_flush t ht s⟩ y
      = Cert.FfnRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) i := by
  idx_vars y
  idx_vars i
  refine Eq.trans ?_ (Cert.FfnRefIdeal.Value.ref_at _ _ _ _ _ _ _).symm
  refine Ideal.add_congr ?_ (Ideal.mul_congr rfl ?_)
  · blk_ext [blk0, iblk, V, idx t]
  rw [← sum_padded]
  refine Fin.sum_mul_add_congr fun s k hl => ?_
  have hq : (11 * (t.val / 11) + s.val) / 11 = t.val / 11 ∧ (11 * (t.val / 11) + s.val) % 11 = s.val := by omega
  obtain ⟨i, hi⟩ : ∃ i : Fin 5632, i = ⟨s.val * 512 + k.val, hl⟩ := ⟨_, rfl⟩
  rw [← hi]
  have hiv : i.val = s.val * 512 + k.val := congrArg Fin.val hi
  set p : Fin cfg0.N := ⟨11 * (t.val / 11) + s.val, Pipeline.run_point_lt_of_flush t ht s⟩ with hp
  have hx : i.val = p.val % 11 * 512 + k.val := by rw [hiv, hp]; dsimp only; rw [hq.2]
  have e2 : ∀ l : Fin 2048, _ = _ := fun l => (blk2_at m c p l k i hx).trans (padded2 m c l i)
  have e3 : ∀ l : Fin 2048, _ = _ := fun l => (blk3_at m c p l k i hx).trans (padded3 m c l i)
  have e4 := (blk4_at m c p k y1 i hx).trans (padded4 m c i y1)
  have eh : ∀ l : Fin 2048, rowsAt m c p y0 l = _ := fun l => rowsAt_ref m c p y0 l i0 (by rw [hi0, hp]; dsimp only; rw [hq.1])
  have hy : y1 = i1 := Fin.ext hi1.symm
  subst hy
  show gated (∑ l : Fin 2048, rowsAt m c p y0 l * blk2 m c p (ix2 l k)) (∑ l : Fin 2048, rowsAt m c p y0 l * blk3 m c p (ix2 l k)) * blk4 m c p (ix2 k y1) = _
  by_cases h : i.val < 5504
  · rw [dif_pos h, e4, dif_pos h]
    refine Ideal.mul_congr ?_ rfl
    refine congrArg₂ gated ?_ ?_
    · exact Finset.sum_congr rfl fun l _ => by rw [e2 l, dif_pos h, eh l]
    · exact Finset.sum_congr rfl fun l _ => by rw [e3 l, dif_pos h, eh l]
  · rw [dif_neg h, e4, dif_neg h, mul_zero]

/-- THE ARRAY the call leaves is the reference's result. -/
theorem final (c : Dev nD) : (dats m 0 c).arrAt 5 (cfgs 0).N
    = Cert.FfnRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  have ht := (flush0_5 t).mp hf
  rw [after0_5]
  refine (written m c t ht y).trans ?_
  rw [accumulated m c t ht y]
  refine point m c t ht y _ ?_ ?_
  all_goals (blk_simp [idx t] <;> try omega)

end Cert.FfnIdeal.Value

end
-- ==== Proof.ProjPure.lean ====
/- The projection call: one RMS-normalised row times the rearranged input weights.
   The array the kernel leaves is the reference's result. -/
module

public import proofs.«01_k».proof.Proof.Gen.ProjIdeal.Frame
public import proofs.«01_k».proof.Proof.Gen.ProjRefIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ProjRefIdeal.Value

open Cert.ProjRefIdeal Cert.ProjRefIdeal.Gen

/-- One row of the RMS norm: `x · rsqrt(mean x² + ε)`, entry `k`. -/
def rms (x : Fin 2048 → EReal) (k : Fin 2048) : EReal :=
  x k * Ideal.rsqrt (Ideal.div (∑ l, x l * x l) (Ideal.ofBits .f32 0x45000000#32) + Ideal.ofBits .f32 0x358637BD#32)

/-- The normalised rows, as the reference's operations give them. -/
def hidden (X : FVec Ideal S32768x2048 .f32) (nw : FVec Ideal S2048 .f32) : FVec Ideal S32768x2048 .f32 :=
  mulf (mulf X (broadcastInDim S32768x2048 ![0, 1] bcast_S32768x1_S32768x2048_0_1 (Host.rsqrt (addf (Host.divf (broadcastInDim S32768x1 ![0] bcast_S32768_S32768x1_0 (Host.reduceAdd (mulf X X) (constant S_ .f32 0x00000000#32) reducesTo_S32768x2048_S32768_d1 h_S_)) (broadcastInDim S32768x1 ![] bcast_S_S32768x1 (constant S_ .f32 0x45000000#32))) (broadcastInDim S32768x1 ![] bcast_S_S32768x1 (constant S_ .f32 0x358637BD#32)))))) (broadcastInDim S32768x2048 ![0, 1] bcast_S1x2048_S32768x2048_0_1 (broadcastInDim S1x2048 ![1] bcast_S2048_S1x2048_1 nw))

/-- The reference's product with the weights, before its columns are rearranged. -/
def product (X : FVec Ideal S32768x2048 .f32) (nw : FVec Ideal S2048 .f32) (w : FVec Ideal S2048x14888 .f32) : FVec Ideal S32768x14888 .f32 :=
  Host.dotGeneral dot_S32768x2048_S2048x14888_S32768x14888_1_0_0_1_n_n none (hidden X nw) w

/-- The first sixteen pieces of a product in the call's layout, zero where the layout has no column. -/
def laidA (Y : FVec Ideal S32768x14888 .f32) : FVec Ideal S32768x13976 .f32 :=
  concatenate S32768x13976 1 [⟨S32768x1024, extractStridedSlice S32768x1024 ![0, 0] Y slices_S32768x14888_S32768x1024_0_0⟩,
    ⟨S32768x1024, extractStridedSlice S32768x1024 ![0, 1024] Y slices_S32768x14888_S32768x1024_0_1024⟩,
    ⟨S32768x1024, extractStridedSlice S32768x1024 ![0, 2048] Y slices_S32768x14888_S32768x1024_0_2048⟩,
    ⟨S32768x1024, extractStridedSlice S32768x1024 ![0, 3072] Y slices_S32768x14888_S32768x1024_0_3072⟩,
    ⟨S32768x1024, extractStridedSlice S32768x1024 ![0, 4112] Y slices_S32768x14888_S32768x1024_0_4112⟩,
    ⟨S32768x1024, extractStridedSlice S32768x1024 ![0, 6696] Y slices_S32768x14888_S32768x1024_0_6696⟩,
    ⟨S32768x1024, extractStridedSlice S32768x1024 ![0, 7720] Y slices_S32768x14888_S32768x1024_0_7720⟩,
    ⟨S32768x2048, extractStridedSlice S32768x2048 ![0, 8744] Y slices_S32768x14888_S32768x2048_0_8744⟩,
    ⟨S32768x2048, extractStridedSlice S32768x2048 ![0, 10792] Y slices_S32768x14888_S32768x2048_0_10792⟩,
    ⟨S32768x2048, extractStridedSlice S32768x2048 ![0, 12840] Y slices_S32768x14888_S32768x2048_0_12840⟩,
    ⟨S32768x256, extractStridedSlice S32768x256 ![0, 5136] Y slices_S32768x14888_S32768x256_0_5136⟩,
    ⟨S32768x256, extractStridedSlice S32768x256 ![0, 5392] Y slices_S32768x14888_S32768x256_0_5392⟩,
    ⟨S32768x8, extractStridedSlice S32768x8 ![0, 4096] Y slices_S32768x14888_S32768x8_0_4096⟩,
    ⟨S32768x8, extractStridedSlice S32768x8 ![0, 4104] Y slices_S32768x14888_S32768x8_0_4104⟩,
    ⟨S32768x112, broadcastInDim S32768x112 ![] bcast_S_S32768x112 (constant S_ .f32 0x00000000#32)⟩,
    ⟨S32768x24, extractStridedSlice S32768x24 ![0, 6672] Y slices_S32768x14888_S32768x24_0_6672⟩]
    concatenates_S32768x1024_S32768x1024_S32768x1024_S32768x1024_S32768x1024_S32768x1024_S32768x1024_S32768x2048_S32768x2048_S32768x2048_S32768x256_S32768x256_S32768x8_S32768x8_S32768x112_S32768x24_S32768x13976_d1

/-- The last six pieces of a product in the call's layout, zero where the layout has no column. -/
def laidB (Y : FVec Ideal S32768x14888 .f32) : FVec Ideal S32768x1384 .f32 :=
  concatenate S32768x1384 1 [⟨S32768x104, broadcastInDim S32768x104 ![] bcast_S_S32768x104 (constant S_ .f32 0x00000000#32)⟩,
    ⟨S32768x256, broadcastInDim S32768x256 ![] bcast_S_S32768x256 (constant S_ .f32 0x00000000#32)⟩,
    ⟨S32768x256, extractStridedSlice S32768x256 ![0, 5648] Y slices_S32768x14888_S32768x256_0_5648⟩,
    ⟨S32768x256, extractStridedSlice S32768x256 ![0, 5904] Y slices_S32768x14888_S32768x256_0_5904⟩,
    ⟨S32768x256, extractStridedSlice S32768x256 ![0, 6160] Y slices_S32768x14888_S32768x256_0_6160⟩,
    ⟨S32768x256, extractStridedSlice S32768x256 ![0, 6416] Y slices_S32768x14888_S32768x256_0_6416⟩]
    concatenates_S32768x104_S32768x256_S32768x256_S32768x256_S32768x256_S32768x256_S32768x1384_d1

/-- All columns of a product in the call's layout, zero where the layout has no column. -/
def laid (Y : FVec Ideal S32768x14888 .f32) : FVec Ideal S32768x15360 .f32 :=
  concatenate S32768x15360 1 [⟨S32768x13976, laidA Y⟩, ⟨S32768x1384, laidB Y⟩] concatenates_S32768x13976_S32768x1384_S32768x15360_d1

/-- The reference's result, over its arguments. -/
def REF (X : FVec Ideal S32768x2048 .f32) (nw : FVec Ideal S2048 .f32) (w : FVec Ideal S2048x14888 .f32) : FVec Ideal S32768x15360 .f32 :=
  laid (product X nw w)

theorem hidden_at (X : FVec Ideal S32768x2048 .f32) (nw : FVec Ideal S2048 .f32) (r : Fin 32768) (k : Fin 2048) :
    hidden X nw (ix2 r k) = rms (fun l => X (ix2 r l)) k * nw (ix1 k) := by
  pointwise [hidden, rms]

theorem product_at (X : FVec Ideal S32768x2048 .f32) (nw : FVec Ideal S2048 .f32) (w : FVec Ideal S2048x14888 .f32) (r : Fin 32768) (o : Fin 14888) :
    product X nw w (ix2 r o) = ∑ k : Fin 2048, hidden X nw (ix2 r k) * w (ix2 k o) := by
  pointwise [product]

end Cert.ProjRefIdeal.Value

namespace Cert.ProjIdeal.Value

open Cert.ProjIdeal Cert.ProjIdeal.Gen
open Cert.ProjRefIdeal.Value (rms)

/-- The first sixteen pieces of the weights in the call's layout, zero where the layout has no column. -/
def weightsA (w : FVec Ideal S2048x14888 .f32) : FVec Ideal S2048x13976 .f32 :=
  concatenate S2048x13976 1 [⟨S2048x1024, extractStridedSlice S2048x1024 ![0, 0] w slices_S2048x14888_S2048x1024_0_0⟩,
    ⟨S2048x1024, extractStridedSlice S2048x1024 ![0, 1024] w slices_S2048x14888_S2048x1024_0_1024⟩,
    ⟨S2048x1024, extractStridedSlice S2048x1024 ![0, 2048] w slices_S2048x14888_S2048x1024_0_2048⟩,
    ⟨S2048x1024, extractStridedSlice S2048x1024 ![0, 3072] w slices_S2048x14888_S2048x1024_0_3072⟩,
    ⟨S2048x1024, extractStridedSlice S2048x1024 ![0, 4112] w slices_S2048x14888_S2048x1024_0_4112⟩,
    ⟨S2048x1024, extractStridedSlice S2048x1024 ![0, 6696] w slices_S2048x14888_S2048x1024_0_6696⟩,
    ⟨S2048x1024, extractStridedSlice S2048x1024 ![0, 7720] w slices_S2048x14888_S2048x1024_0_7720⟩,
    ⟨S2048x2048, extractStridedSlice S2048x2048 ![0, 8744] w slices_S2048x14888_S2048x2048_0_8744⟩,
    ⟨S2048x2048, extractStridedSlice S2048x2048 ![0, 10792] w slices_S2048x14888_S2048x2048_0_10792⟩,
    ⟨S2048x2048, extractStridedSlice S2048x2048 ![0, 12840] w slices_S2048x14888_S2048x2048_0_12840⟩,
    ⟨S2048x256, extractStridedSlice S2048x256 ![0, 5136] w slices_S2048x14888_S2048x256_0_5136⟩,
    ⟨S2048x256, extractStridedSlice S2048x256 ![0, 5392] w slices_S2048x14888_S2048x256_0_5392⟩,
    ⟨S2048x8, extractStridedSlice S2048x8 ![0, 4096] w slices_S2048x14888_S2048x8_0_4096⟩,
    ⟨S2048x8, extractStridedSlice S2048x8 ![0, 4104] w slices_S2048x14888_S2048x8_0_4104⟩,
    ⟨S2048x112, broadcastInDim S2048x112 ![] bcast_S_S2048x112 (constant S_ .f32 0x00000000#32)⟩,
    ⟨S2048x24, extractStridedSlice S2048x24 ![0, 6672] w slices_S2048x14888_S2048x24_0_6672⟩]
    concatenates_S2048x1024_S2048x1024_S2048x1024_S2048x1024_S2048x1024_S2048x1024_S2048x1024_S2048x2048_S2048x2048_S2048x2048_S2048x256_S2048x256_S2048x8_S2048x8_S2048x112_S2048x24_S2048x13976_d1

/-- The last six pieces of the weights in the call's layout, zero where the layout has no column. -/
def weightsB (w : FVec Ideal S2048x14888 .f32) : FVec Ideal S2048x1384 .f32 :=
  concatenate S2048x1384 1 [⟨S2048x104, broadcastInDim S2048x104 ![] bcast_S_S2048x104 (constant S_ .f32 0x00000000#32)⟩,
    ⟨S2048x256, broadcastInDim S2048x256 ![] bcast_S_S2048x256 (constant S_ .f32 0x00000000#32)⟩,
    ⟨S2048x256, extractStridedSlice S2048x256 ![0, 5648] w slices_S2048x14888_S2048x256_0_5648⟩,
    ⟨S2048x256, extractStridedSlice S2048x256 ![0, 5904] w slices_S2048x14888_S2048x256_0_5904⟩,
    ⟨S2048x256, extractStridedSlice S2048x256 ![0, 6160] w slices_S2048x14888_S2048x256_0_6160⟩,
    ⟨S2048x256, extractStridedSlice S2048x256 ![0, 6416] w slices_S2048x14888_S2048x256_0_6416⟩]
    concatenates_S2048x104_S2048x256_S2048x256_S2048x256_S2048x256_S2048x256_S2048x1384_d1

/-- All columns of the weights in the call's layout, zero where the layout has no column. -/
def weights (w : FVec Ideal S2048x14888 .f32) : FVec Ideal S2048x15360 .f32 :=
  concatenate S2048x15360 1 [⟨S2048x13976, weightsA w⟩, ⟨S2048x1384, weightsB w⟩] concatenates_S2048x13976_S2048x1384_S2048x15360_d1

/-- A sum against a case distinction that does not depend on the summation index. -/
theorem sum_ladder {n : ℕ} (p : Prop) [Decidable p] (f : Fin n → EReal) (A : p → Fin n → EReal) (B : ¬p → Fin n → EReal) (a : p → EReal) (b : ¬p → EReal)
    (ha : ∀ h, ∑ k, f k * A h k = a h) (hb : ∀ h, ∑ k, f k * B h k = b h) :
    ∑ k, f k * (if h : p then A h k else B h k) = if h : p then a h else b h := by
  by_cases h : p
  · simp only [dif_pos h]; exact ha h
  · simp only [dif_neg h]; exact hb h

/-- The index a concatenation reads a piece at: row kept, column `c`. -/
theorem piece_index {R n N c : ℕ} (a : Fin R) (o : Fin N) (hc : c < n)
    (hb : ∀ b : Fin 2, (if (b : ℕ) = 1 then c else ((ix2 a o : (⟨2, ![R, N]⟩ : Shape).Idx) b : ℕ)) < (⟨2, ![R, n]⟩ : Shape).size b) :
    (Shape.Idx.norm (s := ⟨2, ![R, n]⟩) fun b => ⟨if (b : ℕ) = 1 then c else ((ix2 a o : (⟨2, ![R, N]⟩ : Shape).Idx) b : ℕ), hb b⟩) = ix2 a ⟨c, hc⟩ := by
  rw [Shape.Idx.norm]
  funext b
  match b with
  | ⟨0, _⟩ => rfl
  | ⟨1, _⟩ => rfl

theorem piece_sum {N n c : ℕ} {f : Fin 2048 → EReal} {r : Fin 32768} {x : (⟨2, ![2048, n]⟩ : Shape).Idx → EReal} {y : (⟨2, ![32768, n]⟩ : Shape).Idx → EReal}
    (h : ∀ o : Fin n, ∑ k : Fin 2048, f k * x (ix2 k o) = y (ix2 r o)) (o : Fin N) (hc : c < n)
    (hb : ∀ k : Fin 2048, ∀ b : Fin 2, (if (b : ℕ) = 1 then c else ((ix2 k o : (⟨2, ![2048, N]⟩ : Shape).Idx) b : ℕ)) < (⟨2, ![2048, n]⟩ : Shape).size b)
    (hb' : ∀ b : Fin 2, (if (b : ℕ) = 1 then c else ((ix2 r o : (⟨2, ![32768, N]⟩ : Shape).Idx) b : ℕ)) < (⟨2, ![32768, n]⟩ : Shape).size b) :
    ∑ k : Fin 2048, f k * x (Shape.Idx.norm (s := ⟨2, ![2048, n]⟩) fun b => ⟨if (b : ℕ) = 1 then c else ((ix2 k o : (⟨2, ![2048, N]⟩ : Shape).Idx) b : ℕ), hb k b⟩)
      = y (Shape.Idx.norm (s := ⟨2, ![32768, n]⟩) fun b => ⟨if (b : ℕ) = 1 then c else ((ix2 r o : (⟨2, ![32768, N]⟩ : Shape).Idx) b : ℕ), hb' b⟩) :=
  (Finset.sum_congr rfl fun k _ => congrArg (f k * x ·) (piece_index k o hc (hb k))).trans
    ((h ⟨c, hc⟩).trans (congrArg y (piece_index r o hc hb').symm))

/-- Two lists of pieces side by side: every column of the second concatenation is the
    weighted sum down the same column of the first. -/
def Along {N : ℕ} (f : Fin 2048 → EReal) (r : Fin 32768)
    (xs : List ((s : Shape) × (s.Idx → EReal))) (ys : List ((s : Shape) × (s.Idx → EReal))) : Prop :=
  ∀ (o : Fin N) hs hs' c hc hc',
    ∑ k : Fin 2048, f k * concatenateAt (⟨2, ![2048, N]⟩ : Shape) 1 (ix2 k o) xs hs c hc = concatenateAt (⟨2, ![32768, N]⟩ : Shape) 1 (ix2 r o) ys hs' c hc'

theorem Along.single {N n : ℕ} {f : Fin 2048 → EReal} {r : Fin 32768} {x : (⟨2, ![2048, n]⟩ : Shape).Idx → EReal} {y : (⟨2, ![32768, n]⟩ : Shape).Idx → EReal}
    (h : ∀ o : Fin n, ∑ k : Fin 2048, f k * x (ix2 k o) = y (ix2 r o)) :
    Along (N := N) f r [⟨(⟨2, ![2048, n]⟩ : Shape), x⟩] [⟨(⟨2, ![32768, n]⟩ : Shape), y⟩] := by
  intro o hs hs' c hc hc'
  pointwise
  exact piece_sum h o (by simpa [axisSizes] using hc) _ _

theorem Along.cons {N n : ℕ} {f : Fin 2048 → EReal} {r : Fin 32768} {x : (⟨2, ![2048, n]⟩ : Shape).Idx → EReal} {y : (⟨2, ![32768, n]⟩ : Shape).Idx → EReal}
    {p p' : (s : Shape) × (s.Idx → EReal)} {xs ys : List ((s : Shape) × (s.Idx → EReal))}
    (h : ∀ o : Fin n, ∑ k : Fin 2048, f k * x (ix2 k o) = y (ix2 r o))
    (hr : Along (N := N) f r (p :: xs) (p' :: ys)) :
    Along (N := N) f r (⟨(⟨2, ![2048, n]⟩ : Shape), x⟩ :: p :: xs) (⟨(⟨2, ![32768, n]⟩ : Shape), y⟩ :: p' :: ys) := by
  intro o hs hs' c hc hc'
  pointwise
  exact sum_ladder _ _ _ _ _ _ (fun hl => piece_sum h o hl _ _) (fun _ => hr _ _ _ _ _ _)

theorem laidA_at (f : Fin 2048 → EReal) (w : FVec Ideal S2048x14888 .f32) (Y : FVec Ideal Cert.ProjRefIdeal.S32768x14888 .f32) (r : Fin 32768)
    (hY : ∀ q : Fin 14888, ∑ k : Fin 2048, f k * w (ix2 k q) = Y (ix2 r q)) (o : Fin 13976) :
    ∑ k : Fin 2048, f k * weightsA w (ix2 k o) = Cert.ProjRefIdeal.Value.laidA Y (ix2 r o) := by
  simp only [weightsA, Cert.ProjRefIdeal.Value.laidA, concatenate_cons_apply]
  refine Along.cons (fun o => ?_) (Along.cons (fun o => ?_) (Along.cons (fun o => ?_) (Along.cons (fun o => ?_) (Along.cons (fun o => ?_)
    (Along.cons (fun o => ?_) (Along.cons (fun o => ?_) (Along.cons (fun o => ?_) (Along.cons (fun o => ?_) (Along.cons (fun o => ?_)
    (Along.cons (fun o => ?_) (Along.cons (fun o => ?_) (Along.cons (fun o => ?_) (Along.cons (fun o => ?_) (Along.cons (fun o => ?_)
    (Along.single (fun o => ?_)))))))))))))))) _ _ _ _ _ _
  all_goals pointwise
  all_goals first | exact hY _ | simp only [mul_zero, Finset.sum_const_zero]

theorem laidB_at (f : Fin 2048 → EReal) (w : FVec Ideal S2048x14888 .f32) (Y : FVec Ideal Cert.ProjRefIdeal.S32768x14888 .f32) (r : Fin 32768)
    (hY : ∀ q : Fin 14888, ∑ k : Fin 2048, f k * w (ix2 k q) = Y (ix2 r q)) (o : Fin 1384) :
    ∑ k : Fin 2048, f k * weightsB w (ix2 k o) = Cert.ProjRefIdeal.Value.laidB Y (ix2 r o) := by
  simp only [weightsB, Cert.ProjRefIdeal.Value.laidB, concatenate_cons_apply]
  refine Along.cons (fun o => ?_) (Along.cons (fun o => ?_) (Along.cons (fun o => ?_) (Along.cons (fun o => ?_) (Along.cons (fun o => ?_)
    (Along.single (fun o => ?_)))))) _ _ _ _ _ _
  all_goals pointwise
  all_goals first | exact hY _ | simp only [mul_zero, Finset.sum_const_zero]

/-- A row times the laid-out weights is the row's product laid out. -/
theorem laid_at (f : Fin 2048 → EReal) (w : FVec Ideal S2048x14888 .f32) (Y : FVec Ideal Cert.ProjRefIdeal.S32768x14888 .f32) (r : Fin 32768)
    (hY : ∀ q : Fin 14888, ∑ k : Fin 2048, f k * w (ix2 k q) = Y (ix2 r q)) (o : Fin 15360) :
    ∑ k : Fin 2048, f k * weights w (ix2 k o) = Cert.ProjRefIdeal.Value.laid Y (ix2 r o) := by
  simp only [weights, Cert.ProjRefIdeal.Value.laid, concatenate_cons_apply]
  exact Along.cons (fun o => laidA_at f w Y r hY o) (Along.single (fun o => laidB_at f w Y r hY o)) _ _ _ _ _ _

theorem norm_at (x : FVec Ideal S512x2048 .f32) (w : FVec Ideal S1x2048 .f32) (r : Fin 512) (k : Fin 2048) :
    k0_pay1 (F := Ideal) x w (ix2 r k) = rms (fun l => x (ix2 r l)) k * w (ix2 0 k) := by
  pointwise [k0_pay1, rms]

theorem out_at (h : FVec Ideal S512x2048 .bf16) (w : FVec Ideal S2048x512 .bf16) (r : Fin 512) (o : Fin 512) :
    k0_pay2 (F := Ideal) h w (ix2 r o) = ∑ k : Fin 2048, h (ix2 r k) * w (ix2 k o) := by
  pointwise [k0_pay2]

end Cert.ProjIdeal.Value

end
-- ==== Proof.ProjValue.lean ====
/- The projection call: the array the kernel leaves is the reference's result. -/
module

public import proofs.«01_k».proof.Proof.ProjPure
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- The windows' block indices at every grid point: row block `t / 30`, column tile `t % 30`. -/
theorem idx : ∀ t : Fin cfg0.N, win0_0.index t = ![t.val / 30, 0] ∧ win0_1.index t = ![0, 0] ∧ win0_2.index t = ![0, t.val % 30]
    ∧ win0_3.index t = ![t.val / 30, t.val % 30] ∧ t.val < 1920 :=
  (by decide +kernel : ∀ t : Fin grid0.N, _)

/-- The blocks of a point, at their shapes. -/
def blk0 (c : Dev nD) (p : Fin cfg0.N) : FVec Ideal S512x2048 .f32 := iblk m c 0 p
def blk1 (c : Dev nD) (p : Fin cfg0.N) : FVec Ideal S1x2048 .f32 := iblk m c 1 p
def blk2 (c : Dev nD) (p : Fin cfg0.N) : FVec Ideal S2048x512 .bf16 := iblk m c 2 p

/-- Within a run of thirty points the row block and the norm's weights stay. -/
theorem rows_stay (c : Dev nD) (n : ℕ) (hn : n + 1 < cfg0.N) (h0 : ¬(n + 1) % 30 = 0) :
    (iblk m c 0 ⟨n + 1, hn⟩ : FVec Ideal S512x2048 .f32) = iblk m c 0 ⟨n, Nat.lt_of_succ_lt hn⟩
      ∧ (iblk m c 1 ⟨n + 1, hn⟩ : FVec Ideal S1x2048 .f32) = iblk m c 1 ⟨n, Nat.lt_of_succ_lt hn⟩ := by
  have hN : n + 1 < 1920 := lt_of_lt_of_eq hn N_0
  constructor
  · funext x
    idx_vars x
    blk_ext [iblk, idx ⟨n + 1, hn⟩, idx ⟨n, Nat.lt_of_succ_lt hn⟩]
  · funext x
    idx_vars x
    blk_ext [iblk, idx ⟨n + 1, hn⟩, idx ⟨n, Nat.lt_of_succ_lt hn⟩]

/-- The normalised row block of a point. -/
def rowsAt (c : Dev nD) (p : Fin cfg0.N) (r : Fin 512) (k : Fin 2048) : EReal :=
  Cert.ProjRefIdeal.Value.rms (fun l => blk0 m c p (ix2 r l)) k * blk1 m c p (ix2 0 k)

theorem rowsAt_stay (c : Dev nD) (n : ℕ) (hn : n + 1 < cfg0.N) (h0 : ¬(n + 1) % 30 = 0) (r : Fin 512) (k : Fin 2048) :
    rowsAt m c ⟨n + 1, hn⟩ r k = rowsAt m c ⟨n, Nat.lt_of_succ_lt hn⟩ r k := by
  unfold rowsAt blk0 blk1
  rw [(rows_stay m c n hn h0).1, (rows_stay m c n hn h0).2]

/-- What the scratch holds after a point: its normalised row block. -/
theorem held (c : Dev nD) (n : ℕ) (hn : n < cfg0.N) (r : Fin 512) (k : Fin 2048) :
    ((outsAt0 m c n hn).2 : FVec Ideal S512x2048 .bf16) (ix2 r k) = rowsAt m c ⟨n, hn⟩ r k := by
  induction n with
  | zero =>
    rw [outsAt0_A m c ⟨0, hn⟩ (Nat.zero_mod _)]
    frame_out
    exact norm_at _ _ r k
  | succ n ih =>
    by_cases h0 : (n + 1) % 30 = 0
    · rw [outsAt0_A m c ⟨n + 1, hn⟩ h0]
      frame_out
      exact norm_at _ _ r k
    · refine Eq.trans ?_ ((ih (Nat.lt_of_succ_lt hn)).trans (rowsAt_stay m c n hn h0 r k).symm)
      rw [outsAt0_B m c ⟨n + 1, hn⟩ h0]
      rfl

/-- Past a run's first point, what the point before left there is the point's own normalised row block. -/
theorem held_prev (c : Dev nD) (t : Fin cfg0.N) (h0 : ¬t.val % 30 = 0) (r : Fin 512) (k : Fin 2048) :
    ((outsAt0 m c (t.val - 1) (Nat.lt_of_le_of_lt (Nat.sub_le _ _) t.isLt)).2 : FVec Ideal S512x2048 .bf16) (ix2 r k) = rowsAt m c t r k := by
  obtain ⟨n, hn⟩ := t
  cases n with
  | zero => exact absurd (Nat.zero_mod _) h0
  | succ n => exact (held m c n (Nat.lt_of_succ_lt hn) r k).trans (rowsAt_stay m c n hn h0 r k).symm

/-- What a point writes: its normalised rows times its weight tile. -/
theorem written (c : Dev nD) (t : Fin cfg0.N) (r o : Fin 512) :
    ((outsAt0 m c t.val t.isLt).1 : FVec Ideal S512x512 .f32) (ix2 r o) = ∑ k : Fin 2048, rowsAt m c t r k * blk2 m c t (ix2 k o) := by
  by_cases h0 : t.val % 30 = 0
  · rw [outsAt0_A m c t h0]
    frame_out
    refine (out_at _ _ r o).trans (Finset.sum_congr rfl fun k _ => Ideal.mul_congr ?_ rfl)
    exact norm_at _ _ r k
  · rw [outsAt0_B m c t h0]
    frame_out
    rw [Idealize.ShloMosaic.read_unread_whole]
    exact (out_at _ _ r o).trans (Finset.sum_congr rfl fun k _ => Ideal.mul_congr (held_prev m c t h0 r k) rfl)

/-- The weights the kernel reads are the arguments' columns in the call's layout. -/
theorem weights_eq (c : Dev nD) : V m c main_v25 = (weights (m ((c : Thread nD τ).loc main_arg2)) : FVec Ideal S2048x15360 .f32) := by
  simp only [V, List.flatten_cons, List.flatten_nil, List.append_nil, List.cons_append, List.nil_append, hostOps0, StableHlo.TRef.binary, StableHlo.TRef.nullary, StableHlo.TRef.unary, StableHlo.TRef.toBuf, StableHlo.TRef.ofBuf, cast_eq]
  after_results
  try rfl

theorem blk2_at (c : Dev nD) (p : Fin cfg0.N) (l : Fin 2048) (k : Fin 512) (x : Fin 15360) (hx : x.val = p.val % 30 * 512 + k.val) :
    blk2 m c p (ix2 l k) = weights (m ((c : Thread nD τ).loc main_arg2)) (ix2 l x) := by
  rw [← weights_eq]
  unfold blk2
  blk_ext [iblk, idx p]

theorem blk1_at (c : Dev nD) (p : Fin cfg0.N) (l : Fin 2048) :
    blk1 m c p (ix2 0 l) = (show FVec Ideal S2048 .f32 from m ((c : Thread nD τ).loc main_arg1)) (ix1 l) := by
  have e : V m c main_v26 = shapeCast S1x2048 (show FVec Ideal S2048 .f32 from m ((c : Thread nD τ).loc main_arg1)) shapeCasts_S2048_S1x2048 := by
    simp only [V, List.flatten_cons, List.flatten_nil, List.append_nil, List.cons_append, List.nil_append, hostOps0, StableHlo.TRef.binary, StableHlo.TRef.nullary, StableHlo.TRef.unary, StableHlo.TRef.toBuf, StableHlo.TRef.ofBuf, cast_eq]
    after_results
    try rfl
  refine Eq.trans (b := (show FVec Ideal S1x2048 .f32 from V m c main_v26) (ix2 0 l)) ?_ ?_
  · unfold blk1
    blk_ext [iblk, idx p]
  · rw [e]
    pointwise

/-- A point's normalised rows are the reference's. -/
theorem rowsAt_ref (c : Dev nD) (p : Fin cfg0.N) (r : Fin 512) (l : Fin 2048) (i : Fin 32768) (hi : i.val = p.val / 30 * 512 + r.val) :
    rowsAt m c p r l = Cert.ProjRefIdeal.Value.hidden (m ((c : Thread nD τ).loc main_arg0)) (m ((c : Thread nD τ).loc main_arg1)) (ix2 i l) := by
  refine Eq.trans ?_ (Cert.ProjRefIdeal.Value.hidden_at _ _ i l).symm
  unfold rowsAt
  have e : (fun l => blk0 m c p (ix2 r l)) = fun l => (show FVec Ideal S32768x2048 .f32 from m ((c : Thread nD τ).loc main_arg0)) (ix2 i l) := by
    funext l
    unfold blk0
    refine Eq.trans (b := (show FVec Ideal S32768x2048 .f32 from V m c main_arg0) (ix2 i l)) ?_ ?_
    · blk_ext [iblk, idx p]
    · have e0 : V m c main_arg0 = m ((c : Thread nD τ).loc main_arg0) := by
        simp only [V, List.flatten_cons, List.flatten_nil, List.append_nil, List.cons_append, List.nil_append, hostOps0, StableHlo.TRef.binary, StableHlo.TRef.nullary, StableHlo.TRef.unary, StableHlo.TRef.toBuf, StableHlo.TRef.ofBuf, cast_eq]
        after_results
        try rfl
      rw [e0]
  rw [e, blk1_at]

/-- One entry of a block is the reference's. -/
theorem point (c : Dev nD) (t : Fin cfg0.N) (y : S512x512.Idx) (i : S32768x15360.Idx)
    (hi0 : (i 0).val = t.val / 30 * 512 + (y 0).val) (hi1 : (i 1).val = t.val % 30 * 512 + (y 1).val) :
    ((outsAt0 m c t.val t.isLt).1 : FVec Ideal S512x512 .f32) y
      = Cert.ProjRefIdeal.Value.REF (m ((c : Thread nD τ).loc main_arg0)) (m ((c : Thread nD τ).loc main_arg1)) (m ((c : Thread nD τ).loc main_arg2)) i := by
  idx_vars y
  idx_vars i
  refine (written m c t y0 y1).trans ?_
  refine Eq.trans ?_ (laid_at (fun k => Cert.ProjRefIdeal.Value.hidden (m ((c : Thread nD τ).loc main_arg0)) (m ((c : Thread nD τ).loc main_arg1)) (ix2 i0 k))
    (m ((c : Thread nD τ).loc main_arg2)) _ i0 (fun q => (Cert.ProjRefIdeal.Value.product_at _ _ _ i0 q).symm) i1)
  exact Finset.sum_congr rfl fun k _ => Ideal.mul_congr (rowsAt_ref m c t y0 k i0 hi0) (blk2_at m c t k y1 i1 hi1)

/-- The output array is the reference's result. -/
theorem final (c : Dev nD) : (dats m 0 c).arrAt 3 (cfgs 0).N
    = Cert.ProjRefIdeal.Value.REF (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine point m c t y _ ?_ ?_
  all_goals (blk_simp [idx t] <;> try omega)

end Cert.ProjIdeal.Value

end
-- ==== Proof.MergeValue.lean ====
/- The merge call: three gated branch projections summed, projected out and added to the stream.
   The array the kernel leaves is the reference's result. -/
module

public import proofs.«01_k».proof.Proof.Gen.MergeIdeal.Frame
public import proofs.«01_k».proof.Proof.Gen.MergeRefIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen

/-- The reference's result, over its arguments. -/
def REF (X : FVec Ideal S32768x2048 .f32) (P : FVec Ideal S32768x15360 .f32) (ya yb yc : FVec Ideal S32768x1024 .bf16)
    (wa wb wc : FVec Ideal S1024x2048 .f32) (wo : FVec Ideal S2048x2048 .f32) : FVec Ideal S32768x2048 .f32 :=
  addf X (Host.dotGeneral dot_S32768x2048_S2048x2048_S32768x2048_1_0_0_1_n_n none (addf (addf (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 7168] P slices_S32768x15360_S32768x2048_0_7168))))) (Host.dotGeneral dot_S32768x1024_S1024x2048_S32768x2048_1_0_0_1_n_n none (extf .f32 ya bitsLt_bf16_f32) wa)) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 9216] P slices_S32768x15360_S32768x2048_0_9216))))) (Host.dotGeneral dot_S32768x1024_S1024x2048_S32768x2048_1_0_0_1_n_n none (extf .f32 yb bitsLt_bf16_f32) wb))) (mulf (Host.divf (broadcastInDim S32768x2048 ![] bcast_S_S32768x2048 (constant S_ .f32 0x3F800000#32)) (addf (broadcastInDim S32768x2048 ![] bcast_S_S32768x2048 (constant S_ .f32 0x3F800000#32)) (Host.exp (Host.negf (extractStridedSlice S32768x2048 ![0, 11264] P slices_S32768x15360_S32768x2048_0_11264))))) (Host.dotGeneral dot_S32768x1024_S1024x2048_S32768x2048_1_0_0_1_n_n none (extf .f32 yc bitsLt_bf16_f32) wc))) wo)

/-- One merged entry: each branch's projection under its gate's sigmoid. -/
def merged (ga a gb b gc c : EReal) : EReal := Ideal.logistic ga * a + Ideal.logistic gb * b + Ideal.logistic gc * c

theorem ref_at (X : FVec Ideal S32768x2048 .f32) (P : FVec Ideal S32768x15360 .f32) (ya yb yc : FVec Ideal S32768x1024 .bf16)
    (wa wb wc : FVec Ideal S1024x2048 .f32) (wo : FVec Ideal S2048x2048 .f32) (r : Fin 32768) (o : Fin 2048) :
    REF X P ya yb yc wa wb wc wo (ix2 r o) = X (ix2 r o) + ∑ k : Fin 2048,
      merged (P (ix2 r ⟨7168 + k.val, by omega⟩)) (∑ l : Fin 1024, ya (ix2 r l) * wa (ix2 l k))
        (P (ix2 r ⟨9216 + k.val, by omega⟩)) (∑ l : Fin 1024, yb (ix2 r l) * wb (ix2 l k))
        (P (ix2 r ⟨11264 + k.val, by omega⟩)) (∑ l : Fin 1024, yc (ix2 r l) * wc (ix2 l k)) * wo (ix2 k o) := by
  pointwise [REF, merged]
  rfl

end Cert.MergeRefIdeal.Value

namespace Cert.MergeIdeal.Value

open Cert.MergeIdeal Cert.MergeIdeal.Gen
open Cert.MergeRefIdeal.Value (merged)

variable (m : (ℓ : Loc nD τ sig) → Buf (Elt Ideal) ℓ)

theorem zero_at (j : S512x2048.Idx) : k0_pay3 (F := Ideal) j = 0 := by
  pointwise [k0_pay3]

theorem step_at (acc : FVec Ideal S512x2048 .f32) (ga gb gc : FVec Ideal S512x512 .f32) (ya yb yc : FVec Ideal S512x1024 .bf16)
    (wa wb wc : FVec Ideal S1024x512 .bf16) (wo : FVec Ideal S512x2048 .bf16) (j : S512x2048.Idx) :
    k0_pay1 (F := Ideal) acc (k0_pay4 ga ya wa gb yb wb gc yc wc) (k0_pay5 wo) j = acc j + ∑ k : Fin 512,
      merged (ga (ix2 (j 0) k)) (∑ l : Fin 1024, ya (ix2 (j 0) l) * wa (ix2 l k))
        (gb (ix2 (j 0) k)) (∑ l : Fin 1024, yb (ix2 (j 0) l) * wb (ix2 l k))
        (gc (ix2 (j 0) k)) (∑ l : Fin 1024, yc (ix2 (j 0) l) * wc (ix2 l k)) * wo (ix2 k (j 1)) := by
  pointwise [k0_pay1, k0_pay4, k0_pay5, merged]

theorem out_at (x acc : FVec Ideal S512x2048 .f32) (j : S512x2048.Idx) : k0_pay2 (F := Ideal) x acc j = x j + acc j := by
  pointwise [k0_pay2]

/-- The windows' block indices at every grid point: row block `t / 4`, column tile `t % 4`. -/
theorem idx : ∀ t : Fin cfg0.N, win0_0.index t = ![t.val / 4, 0] ∧ win0_1.index t = ![t.val / 4, 0] ∧ win0_2.index t = ![t.val / 4, 0]
    ∧ win0_3.index t = ![t.val / 4, 0] ∧ win0_4.index t = ![t.val / 4, 14 + t.val % 4] ∧ win0_5.index t = ![t.val / 4, 18 + t.val % 4]
    ∧ win0_6.index t = ![t.val / 4, 22 + t.val % 4] ∧ win0_7.index t = ![0, t.val % 4] ∧ win0_8.index t = ![0, t.val % 4]
    ∧ win0_9.index t = ![0, t.val % 4] ∧ win0_10.index t = ![t.val % 4, 0] ∧ win0_11.index t = ![t.val / 4, 0] ∧ t.val < 256 :=
  (by decide +kernel : ∀ t : Fin grid0.N, _)

/-- The blocks of a point, at their shapes. -/
def blk0 (c : Dev nD) (p : Fin cfg0.N) : FVec Ideal S512x2048 .f32 := iblk m c 0 p
def blk1 (c : Dev nD) (p : Fin cfg0.N) : FVec Ideal S512x1024 .bf16 := iblk m c 1 p
def blk2 (c : Dev nD) (p : Fin cfg0.N) : FVec Ideal S512x1024 .bf16 := iblk m c 2 p
def blk3 (c : Dev nD) (p : Fin cfg0.N) : FVec Ideal S512x1024 .bf16 := iblk m c 3 p
def blk4 (c : Dev nD) (p : Fin cfg0.N) : FVec Ideal S512x512 .f32 := iblk m c 4 p
def blk5 (c : Dev nD) (p : Fin cfg0.N) : FVec Ideal S512x512 .f32 := iblk m c 5 p
def blk6 (c : Dev nD) (p : Fin cfg0.N) : FVec Ideal S512x512 .f32 := iblk m c 6 p
def blk7 (c : Dev nD) (p : Fin cfg0.N) : FVec Ideal S1024x512 .bf16 := iblk m c 7 p
def blk8 (c : Dev nD) (p : Fin cfg0.N) : FVec Ideal S1024x512 .bf16 := iblk m c 8 p
def blk9 (c : Dev nD) (p : Fin cfg0.N) : FVec Ideal S1024x512 .bf16 := iblk m c 9 p
def blk10 (c : Dev nD) (p : Fin cfg0.N) : FVec Ideal S512x2048 .bf16 := iblk m c 10 p

/-- What a point adds to the accumulator, at an entry of the block. -/
def part (c : Dev nD) (p : Fin cfg0.N) (j : S512x2048.Idx) : EReal :=
  ∑ k : Fin 512,
    merged (blk4 m c p (ix2 (j 0) k)) (∑ l : Fin 1024, blk1 m c p (ix2 (j 0) l) * blk7 m c p (ix2 l k))
      (blk5 m c p (ix2 (j 0) k)) (∑ l : Fin 1024, blk2 m c p (ix2 (j 0) l) * blk8 m c p (ix2 l k))
      (blk6 m c p (ix2 (j 0) k)) (∑ l : Fin 1024, blk3 m c p (ix2 (j 0) l) * blk9 m c p (ix2 l k)) * blk10 m c p (ix2 k (j 1))

/-- What the accumulator holds where the row block is written back: the sum of the run's parts. -/
theorem accumulated (c : Dev nD) (t : Fin cfg0.N) (ht : t.val % 4 = 3) (j : S512x2048.Idx) :
    ((outsAt0 m c t.val t.isLt).2 : FVec Ideal S512x2048 .f32) j
      = ∑ s : Fin 4, part m c ⟨4 * (t.val / 4) + s.val, Pipeline.run_point_lt_of_flush t ht s⟩ j := by
  have e := Pipeline.eq_sum_fin_of_reset_step_apply_of_flush (fun n h => ((outsAt0 m c n h).2 : S512x2048.Idx → EReal)) 4 (fun _ => 0) (part m c)
    (fun t h j => by
      rw [outsAt0_A m c t h (by omega)]
      frame_out
      refine (step_at _ _ _ _ _ _ _ _ _ _ _ j).trans ?_
      rw [zero_at]
      rfl)
    (fun t h j => by
      by_cases h1 : t.val % 4 = 3
      · rw [outsAt0_C m c t h h1]
        frame_out
        rw [Idealize.ShloMosaic.read_unread_whole]
        exact step_at _ _ _ _ _ _ _ _ _ _ _ j
      · rw [outsAt0_B m c t h h1]
        frame_out
        rw [Idealize.ShloMosaic.read_unread_whole]
        exact step_at _ _ _ _ _ _ _ _ _ _ _ j)
    t ht j
  rw [e, zero_add]

/-- At a run's last point the row block written back is the input plus the accumulator. -/
theorem written (c : Dev nD) (t : Fin cfg0.N) (ht : t.val % 4 = 3) (j : S512x2048.Idx) :
    ((outsAt0 m c t.val t.isLt).1 : FVec Ideal S512x2048 .f32) j
      = blk0 m c t j + ((outsAt0 m c t.val t.isLt).2 : FVec Ideal S512x2048 .f32) j := by
  have e : ((outsAt0 m c t.val t.isLt).1 : FVec Ideal S512x2048 .f32) j
      = k0_pay2 (F := Ideal) (iblk m c 0 t) (outsAt0 m c t.val t.isLt).2 j := by
    rw [outsAt0_C m c t (by omega) ht]
    frame_out
  rw [e]
  exact out_at _ _ _

/-- One entry: the block's accumulated parts are the reference's sum over the merged columns. -/
theorem point (c : Dev nD) (t : Fin cfg0.N) (ht : t.val % 4 = 3) (y : S512x2048.Idx) (i : S32768x2048.Idx)
    (hi0 : (i 0).val = t.val / 4 * 512 + (y 0).val) (hi1 : (i 1).val = (y 1).val) :
    blk0 m c t y + ∑ s : Fin 4, part m c ⟨4 * (t.val / 4) + s.val, Pipeline.run_point_lt_of_flush t ht s⟩ y
      = Cert.MergeRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) i := by
  idx_vars y
  idx_vars i
  refine Eq.trans ?_ (Cert.MergeRefIdeal.Value.ref_at _ _ _ _ _ _ _ _ _ _ _).symm
  refine Ideal.add_congr ?_ ?_
  · blk_ext [blk0, iblk, V, idx t]
  refine Fin.sum_mul_add_congr fun s k hl => ?_
  have hq : (4 * (t.val / 4) + s.val) / 4 = t.val / 4 ∧ (4 * (t.val / 4) + s.val) % 4 = s.val := by omega
  blk_point [merged, blk1, blk2, blk3, blk4, blk5, blk6, blk7, blk8, blk9, blk10, iblk, V, idx ⟨_, Pipeline.run_point_lt_of_flush t ht s⟩]

/-- THE ARRAY the call leaves is the reference's result. -/
theorem final (c : Dev nD) : (dats m 0 c).arrAt 11 (cfgs 0).N
    = Cert.MergeRefIdeal.Value.REF (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) := by
  refine (dats m 0 c).arrAt_eq_of_covers 11 _ (by decide +kernel) fun t hf y => ?_
  blk_simp
  have ht := (flush0_11 t).mp hf
  rw [after0_11]
  refine (written m c t ht y).trans ?_
  rw [accumulated m c t ht y]
  refine point m c t ht y _ ?_ ?_
  all_goals (blk_simp [idx t] <;> try omega)

end Cert.MergeIdeal.Value

end
-- ==== Proof.DnMath.lean ====
module

public import Mathlib.Analysis.SpecialFunctions.Exp
public import Mathlib.Data.Matrix.Mul
public import Mathlib.LinearAlgebra.Matrix.Notation
public import Mathlib.Algebra.BigOperators.Fin

/-!
The gated delta rule over the real numbers: the recurrence a token at a time, and the closed
form of a stretch of 128 tokens that is split into two chunks of 64.  Nothing here mentions a program.
-/

@[expose] public section

noncomputable section

namespace Cert.DeltaRule

open Finset

/-- A square of feature by feature, or of row by row. -/
abbrev Sq := Matrix (Fin 128) (Fin 128) ℝ

/-- One token of the recurrence: the state decays by `exp g`, then moves towards the value at the key. -/
def step (k v : Fin 128 → ℝ) (b g : ℝ) (S : Sq) : Sq := fun d e =>
  Real.exp g * S d e + k d * (b * (v e - ∑ x, k x * (Real.exp g * S x e)))

/-- The state after `n` tokens from `S`. -/
def states (k v : ℕ → Fin 128 → ℝ) (b g : ℕ → ℝ) (S : Sq) : ℕ → Sq
  | 0 => S
  | n + 1 => step (k n) (v n) (b n) (g n) (states k v b g S n)

theorem states_add (k v : ℕ → Fin 128 → ℝ) (b g : ℕ → ℝ) (S : Sq) (a n : ℕ) :
    states k v b g S (a + n)
      = states (fun i => k (a + i)) (fun i => v (a + i)) (fun i => b (a + i)) (fun i => g (a + i))
          (states k v b g S a) n := by
  induction n with
  | zero => rfl
  | succ n ih => rw [← Nat.add_assoc]; show step _ _ _ _ _ = step _ _ _ _ _; rw [ih]

/-- The state after `n` tokens of a chunk, given the corrected values `w` of its tokens. -/
theorem states_chunk (k v : ℕ → Fin 128 → ℝ) (b g : ℕ → ℝ) (S : Sq) (w : ℕ → Fin 128 → ℝ) (N : ℕ)
    (hw : ∀ i, i < N → ∀ e, w i e = b i * (v i e - Real.exp (∑ j ∈ range (i + 1), g j) * (∑ x, k i x * S x e)
      - ∑ j ∈ range i, Real.exp ((∑ l ∈ range (i + 1), g l) - ∑ l ∈ range (j + 1), g l)
          * (∑ x, k i x * k j x) * w j e)) :
    ∀ n, n ≤ N → ∀ d e, states k v b g S n d e = Real.exp (∑ j ∈ range n, g j) * S d e
      + ∑ j ∈ range n, Real.exp ((∑ l ∈ range n, g l) - ∑ l ∈ range (j + 1), g l) * k j d * w j e := by
  intro n
  induction n with
  | zero => intro _ d e; simp [states]
  | succ n ih =>
    intro hn d e
    have ih' := ih (by omega)
    have hS : ∀ x, Real.exp (g n) * states k v b g S n x e
        = Real.exp (∑ j ∈ range (n + 1), g j) * S x e
          + ∑ j ∈ range n, Real.exp ((∑ l ∈ range (n + 1), g l) - ∑ l ∈ range (j + 1), g l) * k j x * w j e := by
      intro x
      rw [ih' x e, mul_add, ← mul_assoc, ← Real.exp_add, Finset.mul_sum, sum_range_succ g n,
        add_comm (g n)]
      congr 1
      refine Finset.sum_congr rfl fun j _ => ?_
      rw [← mul_assoc, ← mul_assoc, ← Real.exp_add]
      congr 3
      ring
    have hw' : b n * (v n e - ∑ x, k n x * (Real.exp (g n) * states k v b g S n x e)) = w n e := by
      rw [hw n (by omega) e]
      congr 1
      rw [sub_sub]
      congr 1
      have : ∀ x, k n x * (Real.exp (g n) * states k v b g S n x e)
          = Real.exp (∑ j ∈ range (n + 1), g j) * (k n x * S x e)
            + ∑ j ∈ range n, Real.exp ((∑ l ∈ range (n + 1), g l) - ∑ l ∈ range (j + 1), g l)
                * (k n x * k j x) * w j e := by
        intro x
        rw [hS x, mul_add, Finset.mul_sum]
        congr 1
        · ring
        · exact Finset.sum_congr rfl fun j _ => by ring
      rw [Finset.sum_congr rfl fun x _ => this x, Finset.sum_add_distrib, ← Finset.mul_sum, Finset.sum_comm]
      congr 1
      refine Finset.sum_congr rfl fun j _ => ?_
      rw [← Finset.sum_mul, ← Finset.mul_sum]
    show step _ _ _ _ _ d e = _
    unfold step
    rw [hw', hS d, sum_range_succ (fun j => Real.exp ((∑ l ∈ range (n + 1), g l) - ∑ l ∈ range (j + 1), g l) * k j d * w j e)]
    rw [sub_self, Real.exp_zero, one_mul, add_assoc]

/-! The closed form of 128 rows. -/

/-- Two rows lie in the same chunk and the second is not after the first. -/
abbrev incl (i j : Fin 128) : Prop := i.val / 64 = j.val / 64 ∧ j.val ≤ i.val
/-- Two rows lie in the same chunk and the second is before the first. -/
abbrev strict (i j : Fin 128) : Prop := i.val / 64 = j.val / 64 ∧ j.val < i.val

/-- The log decay summed from the beginning of the row's chunk. -/
def gc (g : Fin 128 → ℝ) (i : Fin 128) : ℝ := ∑ j, (if incl i j then 1 else 0) * g j
/-- The decay from one row to a later one of its chunk. -/
def dec (g : Fin 128 → ℝ) : Sq := fun i j => if incl i j then Real.exp (gc g i - gc g j) else 0
/-- How a row's correction depends on the corrections before it. -/
def low (k : Sq) (b g : Fin 128 → ℝ) : Sq := fun i j =>
  if strict i j then (∑ x, k i x * b i * k j x) * dec g i j else 0

/-- One doubling: with `P` a power and `T` the inverse up to it. -/
def dbl (TP : Sq × Sq) : Sq × Sq := (TP.1 + TP.1 * (TP.2 * TP.2), TP.2 * TP.2)
/-- The inverse of `1 + L` by doubling. -/
def inv (L : Sq) : Sq := (dbl (dbl (dbl (dbl (dbl (1 - L, L)))))).1

theorem dbl_step (L : Sq) (TP : Sq × Sq) (h : (1 + L) * TP.1 = 1 - TP.2 * TP.2) :
    (1 + L) * (dbl TP).1 = 1 - (dbl TP).2 * (dbl TP).2 := by
  show (1 + L) * (TP.1 + TP.1 * (TP.2 * TP.2)) = 1 - (TP.2 * TP.2) * (TP.2 * TP.2)
  rw [mul_add, ← mul_assoc (1 + L), h]
  noncomm_ring

theorem pow_low (L : Sq) (hL : ∀ i j, L i j ≠ 0 → strict i j) (n : ℕ) :
    ∀ i j, (L ^ n) i j ≠ 0 → i.val / 64 = j.val / 64 ∧ j.val + n ≤ i.val := by
  induction n with
  | zero =>
    intro i j h
    rw [pow_zero, Matrix.one_apply] at h
    have : i = j := by by_contra hne; simp [hne] at h
    subst this; simp
  | succ n ih =>
    intro i j h
    rw [pow_succ, Matrix.mul_apply] at h
    obtain ⟨x, _, hx⟩ := Finset.exists_ne_zero_of_sum_ne_zero h
    have h1 := ih i x (left_ne_zero_of_mul hx)
    have h2 := hL x j (right_ne_zero_of_mul hx)
    exact ⟨h1.1.trans h2.1, by have := h1.2; have := h2.2; omega⟩

theorem inv_mul (L : Sq) (hL : ∀ i j, L i j ≠ 0 → strict i j) : (1 + L) * inv L = 1 := by
  have h0 : (1 + L) * (1 - L, L).1 = 1 - (1 - L, L).2 * (1 - L, L).2 := by
    show (1 + L) * (1 - L) = 1 - L * L
    noncomm_ring
  have h := dbl_step L _ (dbl_step L _ (dbl_step L _ (dbl_step L _ (dbl_step L _ h0))))
  unfold inv
  rw [h]
  have e : (dbl (dbl (dbl (dbl (dbl (1 - L, L)))))).2 * (dbl (dbl (dbl (dbl (dbl (1 - L, L)))))).2 = L ^ 64 := by
    simp only [dbl]
    noncomm_ring
  rw [e]
  have z : L ^ 64 = 0 := by
    ext i j
    by_contra hne
    have := pow_low L hL 64 i j hne
    have hi : i.val < 128 := i.isLt
    have hj : j.val < 128 := j.isLt
    omega
  rw [z, sub_zero]

theorem low_strict (k : Sq) (b g : Fin 128 → ℝ) : ∀ i j, low k b g i j ≠ 0 → strict i j := by
  intro i j h
  by_contra hn
  exact h (if_neg hn)

/-- The last row of a row's chunk. -/
def last (i : Fin 128) : Fin 128 := if i.val < 64 then 63 else 127

/-- Rows weighted by a number each. -/
def scaled (v : Sq) (b : Fin 128 → ℝ) : Sq := fun i e => v i e * b i
/-- The keys weighted and decayed. -/
def keyed (k : Sq) (b g : Fin 128 → ℝ) : Sq := fun i d => k i d * b i * Real.exp (gc g i)
/-- The values through the inverse. -/
def uu (k v : Sq) (b g : Fin 128 → ℝ) : Sq := inv (low k b g) * scaled v b
/-- The keys through the inverse. -/
def ww (k : Sq) (b g : Fin 128 → ℝ) : Sq := inv (low k b g) * keyed k b g
/-- The decayed keys, with a column for a row. -/
def kd (k : Sq) (g : Fin 128 → ℝ) : Sq := fun d i => k i d * Real.exp (gc g (last i) - gc g i)
/-- The first chunk's corrected values; the second chunk's rows are 0. -/
def vn0 (k v : Sq) (b g : Fin 128 → ℝ) (S : Sq) : Sq := fun i e =>
  if i.val < 64 then uu k v b g i e - ∑ d, ww k b g i d * S d e else 0
/-- The state after the first chunk. -/
def s1 (k v : Sq) (b g : Fin 128 → ℝ) (S : Sq) : Sq := fun d e =>
  S d e * Real.exp (gc g 63) + ∑ i, kd k g d i * vn0 k v b g S i e
/-- The second chunk's corrected values; the first chunk's rows are 0. -/
def vn1 (k v : Sq) (b g : Fin 128 → ℝ) (S : Sq) : Sq := fun i e =>
  if i.val < 64 then 0 else uu k v b g i e - ∑ d, ww k b g i d * s1 k v b g S d e
/-- The state after both chunks. -/
def s2 (k v : Sq) (b g : Fin 128 → ℝ) (S : Sq) : Sq := fun d e =>
  s1 k v b g S d e * Real.exp (gc g 127) + ∑ i, kd k g d i * vn1 k v b g S i e
/-- The corrected values of both chunks. -/
def vn (k v : Sq) (b g : Fin 128 → ℝ) (S : Sq) : Sq := fun i e =>
  if i.val < 64 then vn0 k v b g S i e else vn1 k v b g S i e
/-- How a query row reads the keys of its chunk. -/
def att (q k : Sq) (g : Fin 128 → ℝ) : Sq := fun i j =>
  if incl i j then (∑ x, q i x * k j x) * dec g i j else 0
/-- The outputs of both chunks. -/
def oo (q k v : Sq) (b g : Fin 128 → ℝ) (S : Sq) : Sq := fun i e =>
  (if i.val < 64 then ∑ d, q i d * Real.exp (gc g i) * S d e
    else ∑ d, q i d * Real.exp (gc g i) * s1 k v b g S d e)
    + ∑ j, att q k g i j * vn k v b g S j e

/-- The state a row's chunk starts from. -/
def from' (k v : Sq) (b g : Fin 128 → ℝ) (S : Sq) (i : Fin 128) : Sq :=
  if i.val < 64 then S else s1 k v b g S

theorem vn_eq (k v : Sq) (b g : Fin 128 → ℝ) (S : Sq) (i : Fin 128) (e : Fin 128) :
    vn k v b g S i e = ∑ j, inv (low k b g) i j * (b j * v j e
      - b j * Real.exp (gc g j) * ∑ d, k j d * from' k v b g S i d e) := by
  have h : ∀ X : Sq, uu k v b g i e - ∑ d, ww k b g i d * X d e
      = ∑ j, inv (low k b g) i j * (b j * v j e - b j * Real.exp (gc g j) * ∑ d, k j d * X d e) := by
    intro X
    simp only [uu, ww, scaled, keyed, Matrix.mul_apply, mul_sub, Finset.sum_sub_distrib, Finset.sum_mul, Finset.mul_sum]
    congr 1
    · exact Finset.sum_congr rfl fun j _ => by ring
    · rw [Finset.sum_comm]
      exact Finset.sum_congr rfl fun j _ => Finset.sum_congr rfl fun d _ => by ring
  unfold vn vn0 vn1 from'
  by_cases hi : i.val < 64
  · simp only [if_pos hi]; exact h S
  · simp only [if_neg hi]; exact h _

theorem vn_rec (k v : Sq) (b g : Fin 128 → ℝ) (S : Sq) (i : Fin 128) (e : Fin 128) :
    vn k v b g S i e = b i * (v i e - Real.exp (gc g i) * (∑ d, k i d * from' k v b g S i d e)
      - ∑ j, if strict i j then Real.exp (gc g i - gc g j) * (∑ x, k i x * k j x) * vn k v b g S j e else 0) := by
  set X := from' k v b g S i with hX
  set r : Fin 128 → ℝ := fun j => b j * v j e - b j * Real.exp (gc g j) * ∑ d, k j d * X d e with hr
  have h1 : ∑ l, ((1 + low k b g) * inv (low k b g)) i l * r l = r i := by
    rw [inv_mul _ (low_strict k b g)]
    simp [Matrix.one_apply]
  have h2 : ∑ l, ((1 + low k b g) * inv (low k b g)) i l * r l
      = ∑ j, (1 + low k b g) i j * ∑ l, inv (low k b g) j l * r l := by
    simp only [Matrix.mul_apply, Finset.sum_mul, Finset.mul_sum]
    rw [Finset.sum_comm]
    exact Finset.sum_congr rfl fun j _ => Finset.sum_congr rfl fun d _ => by ring
  have h3 : ∑ j, (1 + low k b g) i j * ∑ l, inv (low k b g) j l * r l
      = (∑ l, inv (low k b g) i l * r l) + ∑ j, low k b g i j * ∑ l, inv (low k b g) j l * r l := by
    simp only [Matrix.add_apply, add_mul, Finset.sum_add_distrib, Matrix.one_apply, ite_mul, one_mul,
      zero_mul, Finset.sum_ite_eq, Finset.mem_univ, if_true]
  have h4 : ∑ l, inv (low k b g) i l * r l = vn k v b g S i e := (vn_eq k v b g S i e).symm
  have h5 : ∑ j, low k b g i j * ∑ l, inv (low k b g) j l * r l
      = b i * ∑ j, if strict i j then Real.exp (gc g i - gc g j) * (∑ x, k i x * k j x) * vn k v b g S j e else 0 := by
    rw [Finset.mul_sum]
    refine Finset.sum_congr rfl fun j _ => ?_
    by_cases hs : strict i j
    · have hin : incl i j := ⟨hs.1, hs.2.le⟩
      have hf : from' k v b g S j = X := by
        rw [hX]; unfold from'
        have : (j.val < 64) ↔ (i.val < 64) := by have := hs.1; omega
        simp only [this]
      rw [vn_eq k v b g S j e, hf]
      simp only [low, if_pos hs, dec, if_pos hin]
      have : ∑ x, k i x * b i * k j x = b i * ∑ x, k i x * k j x := by
        rw [Finset.mul_sum]; exact Finset.sum_congr rfl fun x _ => by ring
      rw [this]; ring
    · simp only [low, if_neg hs, zero_mul, mul_zero]
  have h6 := h1.symm.trans (h2.trans h3)
  rw [h4, h5] at h6
  have : r i = b i * (v i e - Real.exp (gc g i) * (∑ d, k i d * X d e)) := by rw [hr]; ring
  rw [this] at h6
  rw [mul_sub _ (v i e - _), h6]; ring

/-! The closed form is the recurrence. -/

theorem sum_incl (f : ℕ → ℝ) (a i : ℕ) (ha : a < 2) (hi : i < 64) (h : 64 * a + i < 128) :
    (∑ j : Fin 128, if incl ⟨64 * a + i, h⟩ j then f j.val else 0) = ∑ j ∈ range (i + 1), f (64 * a + j) := by
  have e1 : (∑ j : Fin 128, if incl ⟨64 * a + i, h⟩ j then f j.val else 0)
      = ∑ j ∈ range 128, if (64 * a + i) / 64 = j / 64 ∧ j ≤ 64 * a + i then f j else 0 :=
    Fin.sum_univ_eq_sum_range (fun j => if (64 * a + i) / 64 = j / 64 ∧ j ≤ 64 * a + i then f j else 0) 128
  rw [e1, ← Finset.sum_filter]
  have e2 : (range 128).filter (fun j => (64 * a + i) / 64 = j / 64 ∧ j ≤ 64 * a + i)
      = Ico (64 * a) (64 * a + (i + 1)) := by
    ext j; simp only [mem_filter, mem_range, mem_Ico]; omega
  rw [e2, sum_Ico_eq_sum_range]
  simp only [Nat.add_sub_cancel_left]

theorem sum_strict (f : ℕ → ℝ) (a i : ℕ) (ha : a < 2) (hi : i < 64) (h : 64 * a + i < 128) :
    (∑ j : Fin 128, if strict ⟨64 * a + i, h⟩ j then f j.val else 0) = ∑ j ∈ range i, f (64 * a + j) := by
  have e1 : (∑ j : Fin 128, if strict ⟨64 * a + i, h⟩ j then f j.val else 0)
      = ∑ j ∈ range 128, if (64 * a + i) / 64 = j / 64 ∧ j < 64 * a + i then f j else 0 :=
    Fin.sum_univ_eq_sum_range (fun j => if (64 * a + i) / 64 = j / 64 ∧ j < 64 * a + i then f j else 0) 128
  rw [e1, ← Finset.sum_filter]
  have e2 : (range 128).filter (fun j => (64 * a + i) / 64 = j / 64 ∧ j < 64 * a + i)
      = Ico (64 * a) (64 * a + i) := by
    ext j; simp only [mem_filter, mem_range, mem_Ico]; omega
  rw [e2, sum_Ico_eq_sum_range]
  simp only [Nat.add_sub_cancel_left]

section pair

variable (q k v : ℕ → Fin 128 → ℝ) (b g : ℕ → ℝ) (S : Sq)

/-- The first 128 rows of a sequence of rows. -/
abbrev rows (k : ℕ → Fin 128 → ℝ) : Sq := fun i => k i.val
/-- The first 128 numbers of a sequence. -/
abbrev nums (g : ℕ → ℝ) : Fin 128 → ℝ := fun i => g i.val

/-- A row's corrected value, by the row's number. -/
def vnN (n : ℕ) (e : Fin 128) : ℝ :=
  if h : n < 128 then vn (rows k) (rows v) (nums b) (nums g) S ⟨n, h⟩ e else 0

/-- The summed log decay, by the row's number. -/
def gcN (n : ℕ) : ℝ := if h : n < 128 then gc (nums g) ⟨n, h⟩ else 0

theorem gcN_eq (a i : ℕ) (ha : a < 2) (hi : i < 64) :
    gcN g (64 * a + i) = ∑ j ∈ range (i + 1), g (64 * a + j) := by
  have h : 64 * a + i < 128 := by omega
  rw [gcN, dif_pos h, ← sum_incl g a i ha hi h]
  unfold gc
  exact Finset.sum_congr rfl fun j _ => by split <;> simp

/-- The recurrence over the `a`-th chunk, from the state its rows start from. -/
theorem chunk_states (a : ℕ) (ha : a < 2) (X : Sq)
    (hX : ∀ i (_ : i < 64) (h : 64 * a + i < 128), from' (rows k) (rows v) (nums b) (nums g) S ⟨64 * a + i, h⟩ = X) :
    ∀ n, n ≤ 64 → ∀ d e, states (fun i => k (64 * a + i)) (fun i => v (64 * a + i)) (fun i => b (64 * a + i))
        (fun i => g (64 * a + i)) X n d e
      = Real.exp (∑ j ∈ range n, g (64 * a + j)) * X d e
        + ∑ j ∈ range n, Real.exp ((∑ l ∈ range n, g (64 * a + l)) - ∑ l ∈ range (j + 1), g (64 * a + l))
            * k (64 * a + j) d * vnN k v b g S (64 * a + j) e := by
  refine states_chunk _ _ _ _ X (fun j => vnN k v b g S (64 * a + j)) 64 ?_
  intro i hi e
  have h : 64 * a + i < 128 := by omega
  show vnN k v b g S (64 * a + i) e = _
  rw [vnN, dif_pos h, vn_rec, hX i hi h]
  have hg : gc (nums g) ⟨64 * a + i, h⟩ = ∑ j ∈ range (i + 1), g (64 * a + j) := by
    rw [← gcN_eq g a i ha hi, gcN, dif_pos h]
  rw [hg]
  have e1 := sum_strict (fun j => Real.exp ((∑ j ∈ range (i + 1), g (64 * a + j)) - gcN g j)
    * (∑ x, k (64 * a + i) x * k j x) * vnN k v b g S j e) a i ha hi h
  have e2 : (∑ j : Fin 128, if strict ⟨64 * a + i, h⟩ j then
        Real.exp ((∑ j ∈ range (i + 1), g (64 * a + j)) - gc (nums g) j)
          * (∑ x, rows k ⟨64 * a + i, h⟩ x * rows k j x) * vn (rows k) (rows v) (nums b) (nums g) S j e else 0)
      = ∑ j ∈ range i, Real.exp ((∑ j ∈ range (i + 1), g (64 * a + j)) - gcN g (64 * a + j))
          * (∑ x, k (64 * a + i) x * k (64 * a + j) x) * vnN k v b g S (64 * a + j) e := by
    rw [← e1]
    refine Finset.sum_congr rfl fun j _ => ?_
    simp only [gcN, vnN, dif_pos j.isLt]
  rw [e2]
  congr 2
  refine Finset.sum_congr rfl fun j hj => ?_
  rw [gcN_eq g a j ha (by have := mem_range.mp hj; omega)]

theorem exp_sums (a : ℕ) (ha : a < 2) (X : Sq) (i : ℕ) (hi : i < 64) (h : 64 * a + i < 128) (d e : Fin 128)
    (c : Fin 128 → ℝ) :
    (∑ j : Fin 128, if incl ⟨64 * a + i, h⟩ j then
        Real.exp (gc (nums g) ⟨64 * a + i, h⟩ - gc (nums g) j) * (∑ x, c x * k j.val x)
          * vn (rows k) (rows v) (nums b) (nums g) S j e else 0)
      = ∑ j ∈ range (i + 1), Real.exp ((∑ l ∈ range (i + 1), g (64 * a + l)) - ∑ l ∈ range (j + 1), g (64 * a + l))
            * (∑ x, c x * k (64 * a + j) x) * vnN k v b g S (64 * a + j) e := by
  have e1 := sum_incl (fun j => Real.exp (gcN g (64 * a + i) - gcN g j)
    * (∑ x, c x * k j x) * vnN k v b g S j e) a i ha hi h
  have e2 : (∑ j : Fin 128, if incl ⟨64 * a + i, h⟩ j then
        Real.exp (gc (nums g) ⟨64 * a + i, h⟩ - gc (nums g) j) * (∑ x, c x * k j.val x)
          * vn (rows k) (rows v) (nums b) (nums g) S j e else 0)
      = ∑ j ∈ range (i + 1), Real.exp (gcN g (64 * a + i) - gcN g (64 * a + j))
            * (∑ x, c x * k (64 * a + j) x) * vnN k v b g S (64 * a + j) e := by
    rw [← e1]
    refine Finset.sum_congr rfl fun j _ => ?_
    simp only [gcN, vnN, dif_pos j.isLt, dif_pos h]
  rw [e2]
  refine Finset.sum_congr rfl fun j hj => ?_
  rw [gcN_eq g a j ha (by have := mem_range.mp hj; omega), gcN_eq g a i ha hi]

/-- The state after the `a`-th chunk, as the closed form writes it. -/
theorem chunk_end (a : ℕ) (ha : a < 2) (X : Sq)
    (hX : ∀ i (_ : i < 64) (h : 64 * a + i < 128), from' (rows k) (rows v) (nums b) (nums g) S ⟨64 * a + i, h⟩ = X)
    (h : 64 * a + 63 < 128) (d e : Fin 128) :
    X d e * Real.exp (gc (nums g) ⟨64 * a + 63, h⟩)
      + (∑ j : Fin 128, if incl ⟨64 * a + 63, h⟩ j then
          k j.val d * Real.exp (gc (nums g) ⟨64 * a + 63, h⟩ - gc (nums g) j)
            * vn (rows k) (rows v) (nums b) (nums g) S j e else 0)
      = states (fun i => k (64 * a + i)) (fun i => v (64 * a + i)) (fun i => b (64 * a + i))
        (fun i => g (64 * a + i)) X 64 d e := by
  rw [chunk_states k v b g S a ha X hX 64 le_rfl]
  have hs := exp_sums k v b g S a ha X 63 (by omega) h d e (fun x => if x = d then 1 else 0)
  have hd : ∀ j, (∑ x, (if x = d then (1 : ℝ) else 0) * k j x) = k j d := by
    intro j; simp
  simp only [hd] at hs
  rw [← hs, mul_comm (X d e)]
  congr 1
  · rw [← gcN_eq g a 63 ha (by omega), gcN, dif_pos h]
  · exact Finset.sum_congr rfl fun j _ => by split <;> ring

theorem s1_eq : s1 (rows k) (rows v) (nums b) (nums g) S = states k v b g S 64 := by
  ext d e
  have h := chunk_end k v b g S 0 (by omega) S (fun i hi h => by
    unfold from'; rw [if_pos (show 64 * 0 + i < 64 by omega)]) (by omega) d e
  simp only [Nat.mul_zero, Nat.zero_add] at h
  rw [← h]
  unfold s1
  congr 1
  refine Finset.sum_congr rfl fun j _ => ?_
  by_cases hj : j.val < 64
  · have hin : incl ⟨63, by omega⟩ j := ⟨by show 63 / 64 = j.val / 64; omega, by show j.val ≤ 63; omega⟩
    rw [if_pos hin]
    simp only [vn, kd, last, if_pos hj]
    rfl
  · have hin : ¬ incl ⟨63, by omega⟩ j := fun hh => hj (by have : j.val ≤ 63 := hh.2; omega)
    rw [if_neg hin]
    simp only [vn0, if_neg hj, mul_zero]

theorem s2_eq : s2 (rows k) (rows v) (nums b) (nums g) S = states k v b g S 128 := by
  have hs := s1_eq k v b g S
  ext d e
  have h := chunk_end k v b g S 1 (by omega) (s1 (rows k) (rows v) (nums b) (nums g) S) (fun i hi h => by
    unfold from'; rw [if_neg (show ¬ 64 * 1 + i < 64 by omega)]) (by omega) d e
  simp only [Nat.mul_one, Nat.reduceAdd] at h
  rw [show (128 : ℕ) = 64 + 64 from rfl, states_add, ← hs, ← h]
  unfold s2
  congr 1
  refine Finset.sum_congr rfl fun j _ => ?_
  by_cases hj : j.val < 64
  · have hin : ¬ incl ⟨127, by omega⟩ j := fun hh => by
      have : 127 / 64 = j.val / 64 := hh.1
      omega
    rw [if_neg hin]
    simp only [vn1, if_pos hj, mul_zero]
  · have hin : incl ⟨127, by omega⟩ j := ⟨by show 127 / 64 = j.val / 64; omega, by show j.val ≤ 127; omega⟩
    rw [if_pos hin]
    simp only [vn, kd, last, if_neg hj]
    rfl

theorem oo_chunk (a : ℕ) (ha : a < 2) (X : Sq)
    (hX : ∀ i (_ : i < 64) (h : 64 * a + i < 128), from' (rows k) (rows v) (nums b) (nums g) S ⟨64 * a + i, h⟩ = X)
    (i : ℕ) (hi : i < 64) (h : 64 * a + i < 128) (e : Fin 128) :
    oo (rows q) (rows k) (rows v) (nums b) (nums g) S ⟨64 * a + i, h⟩ e
      = ∑ d, states (fun i => k (64 * a + i)) (fun i => v (64 * a + i)) (fun i => b (64 * a + i))
        (fun i => g (64 * a + i)) X (i + 1) d e * q (64 * a + i) d := by
  have hst := chunk_states k v b g S a ha X hX (i + 1) (by omega)
  have hs := exp_sums k v b g S a ha X i hi h e e (q (64 * a + i))
  have hg : gc (nums g) ⟨64 * a + i, h⟩ = ∑ j ∈ range (i + 1), g (64 * a + j) := by
    rw [← gcN_eq g a i ha hi, gcN, dif_pos h]
  have e1 : (∑ j, att (rows q) (rows k) (nums g) ⟨64 * a + i, h⟩ j * vn (rows k) (rows v) (nums b) (nums g) S j e)
      = ∑ j : Fin 128, if incl ⟨64 * a + i, h⟩ j then
        Real.exp (gc (nums g) ⟨64 * a + i, h⟩ - gc (nums g) j) * (∑ x, q (64 * a + i) x * k j.val x)
          * vn (rows k) (rows v) (nums b) (nums g) S j e else 0 := by
    refine Finset.sum_congr rfl fun j _ => ?_
    by_cases hin : incl ⟨64 * a + i, h⟩ j
    · simp only [att, dec, if_pos hin]; ring
    · simp only [att, if_neg hin, zero_mul]
  have e2 : (if (⟨64 * a + i, h⟩ : Fin 128).val < 64 then
        ∑ d, rows q ⟨64 * a + i, h⟩ d * Real.exp (gc (nums g) ⟨64 * a + i, h⟩) * S d e
      else ∑ d, rows q ⟨64 * a + i, h⟩ d * Real.exp (gc (nums g) ⟨64 * a + i, h⟩) * s1 (rows k) (rows v) (nums b) (nums g) S d e)
      = ∑ d, q (64 * a + i) d * Real.exp (∑ j ∈ range (i + 1), g (64 * a + j)) * X d e := by
    rw [← hg, ← hX i hi h]
    unfold from'
    split <;> rfl
  unfold oo
  rw [e1, hs, e2]
  have e3 : ∀ d, states (fun i => k (64 * a + i)) (fun i => v (64 * a + i)) (fun i => b (64 * a + i))
        (fun i => g (64 * a + i)) X (i + 1) d e * q (64 * a + i) d
      = q (64 * a + i) d * Real.exp (∑ j ∈ range (i + 1), g (64 * a + j)) * X d e
        + ∑ j ∈ range (i + 1), Real.exp ((∑ l ∈ range (i + 1), g (64 * a + l)) - ∑ l ∈ range (j + 1), g (64 * a + l))
            * (q (64 * a + i) d * k (64 * a + j) d) * vnN k v b g S (64 * a + j) e := by
    intro d
    rw [hst d e, add_mul, Finset.sum_mul]
    congr 1
    · ring
    · exact Finset.sum_congr rfl fun j _ => by ring
  rw [Finset.sum_congr rfl fun d _ => e3 d, Finset.sum_add_distrib]
  congr 1
  rw [Finset.sum_comm]
  refine Finset.sum_congr rfl fun j _ => ?_
  rw [← Finset.sum_mul, ← Finset.mul_sum]

theorem oo_eq (i : Fin 128) (e : Fin 128) :
    oo (rows q) (rows k) (rows v) (nums b) (nums g) S i e
      = ∑ d, states k v b g S (i.val + 1) d e * q i.val d := by
  by_cases hi : i.val < 64
  · have h := oo_chunk q k v b g S 0 (by omega) S (fun i hi h => by
      unfold from'; rw [if_pos (show 64 * 0 + i < 64 by omega)]) i.val hi (by omega) e
    simp only [Nat.mul_zero, Nat.zero_add] at h
    exact h
  · have h := oo_chunk q k v b g S 1 (by omega) (s1 (rows k) (rows v) (nums b) (nums g) S) (fun i hi h => by
      unfold from'; rw [if_neg (show ¬ 64 * 1 + i < 64 by omega)]) (i.val - 64) (by have := i.isLt; omega)
      (by have := i.isLt; omega) e
    have hn : 64 * 1 + (i.val - 64) = i.val := by omega
    have hf : (⟨64 * 1 + (i.val - 64), by have := i.isLt; omega⟩ : Fin 128) = i := Fin.ext hn
    rw [hf, s1_eq] at h
    rw [h]
    have := states_add k v b g S 64 (i.val - 64 + 1)
    rw [show 64 + (i.val - 64 + 1) = i.val + 1 by omega] at this
    rw [this]
    simp only [Nat.mul_one, show 64 + (i.val - 64) = i.val by omega]

end pair

end Cert.DeltaRule
-- ==== Proof.DnUp.lean ====
module

public import proofs.«01_k».proof.Proof.DnMath
public import proofs.«01_k».proof.Proof.Gen.DnIdeal.Frame
public import Idealize.ShloMosaic.Lib.Pointwise
public import Idealize.ShloMosaic.Lib.Pipeline.ValueKit
public import Idealize.ShloMosaic.Lib.Pipeline.ReadBack
public import Idealize.ShloMosaic.Lib.Claim

/-!
The kernel's two pairs of chunks on real inputs.  `up M` is the register that holds the real numbers `M`;
each operation of the kernel on such registers is the operation of the same name on the numbers, so that
a pair's registers hold the closed form of `DnMath`.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

/-- A function of two indices, as a square. -/
def sq (f : Fin 128 → Fin 128 → ℝ) : Sq := f
/-- A square register that holds real numbers. -/
def up {φ : FTy} (M : Sq) : FVec Ideal S128x128 φ := fun i => ((M (i 0) (i 1) : ℝ) : EReal)
/-- A register of 64 rows that holds real numbers. -/
def uh {φ : FTy} (M : Fin 64 → Fin 128 → ℝ) : FVec Ideal S64x128 φ := fun i => ((M (i 0) (i 1) : ℝ) : EReal)
/-- A column that holds real numbers. -/
def upc {φ : FTy} (b : Fin 128 → ℝ) : FVec Ideal S128x1 φ := fun i => ((b (i 0) : ℝ) : EReal)
/-- A row that holds one real number. -/
def upr {φ : FTy} (x : ℝ) : FVec Ideal S1x128 φ := fun _ => (x : EReal)

theorem coe_sum {n : ℕ} (f : Fin n → ℝ) : ((∑ i, f i : ℝ) : EReal) = ∑ i, (f i : EReal) := by
  induction (Finset.univ : Finset (Fin n)) using Finset.induction with
  | empty => simp
  | insert a s ha ih => rw [Finset.sum_insert ha, Finset.sum_insert ha, EReal.coe_add, ih]

theorem coe_dot {n : ℕ} (f g : Fin n → ℝ) : ∑ i, (f i : EReal) * (g i : EReal) = ((∑ i, f i * g i : ℝ) : EReal) := by
  rw [coe_sum]
  exact Finset.sum_congr rfl fun i _ => (EReal.coe_mul _ _).symm

variable {φ ψ : FTy}

theorem up_mm (p : Option ContractPrecision) (A B : Sq) :
    matmul dot_S128x128_S128x128_S128x128_1_0_0_1_n_n p (up A : FVec Ideal S128x128 φ) (up B : FVec Ideal S128x128 ψ)
      (constant S128x128 .f32 0x00000000#32) = up (A * B) := by
  funext j; idx_vars j
  pointwise [up, sq]
  exact coe_dot _ _

theorem up_mmt (p : Option ContractPrecision) (A B : Sq) :
    matmul dot_S128x128_S128x128_S128x128_1_1_0_0_n_n p (up A : FVec Ideal S128x128 φ) (up B : FVec Ideal S128x128 ψ)
      (constant S128x128 .f32 0x00000000#32) = up (sq fun i j => ∑ x, A i x * B j x) := by
  funext j; idx_vars j
  pointwise [up, sq]
  exact coe_dot _ _

theorem uh_mm (p : Option ContractPrecision) (A : Fin 64 → Fin 128 → ℝ) (B : Sq) :
    matmul dot_S64x128_S128x128_S64x128_1_0_0_1_n_n p (uh A : FVec Ideal S64x128 φ) (up B : FVec Ideal S128x128 ψ)
      (constant S64x128 .f32 0x00000000#32) = uh (fun i j => ∑ x, A i x * B x j) := by
  funext j; idx_vars j
  pointwise [up, uh, sq]
  exact coe_dot _ _

theorem up_add (A B : Sq) : addf (up A : FVec Ideal S128x128 φ) (up B) = up (A + B) := by
  funext j; idx_vars j; pointwise [up, sq]; exact (EReal.coe_add _ _).symm
theorem up_sub (A B : Sq) : subf (up A : FVec Ideal S128x128 φ) (up B) = up (A - B) := by
  funext j; idx_vars j; pointwise [up, sq]; exact (EReal.coe_sub _ _).symm
theorem up_mul (A B : Sq) : mulf (up A : FVec Ideal S128x128 φ) (up B) = up (sq fun i j => A i j * B i j) := by
  funext j; idx_vars j; pointwise [up, sq]; exact (EReal.coe_mul _ _).symm
theorem uh_sub (A B : Fin 64 → Fin 128 → ℝ) : subf (uh A : FVec Ideal S64x128 φ) (uh B) = uh (fun i j => A i j - B i j) := by
  funext j; idx_vars j; pointwise [uh]; exact (EReal.coe_sub _ _).symm
theorem up_exp (A : Sq) : exp (up A : FVec Ideal S128x128 φ) = up (sq fun i j => Real.exp (A i j)) := by
  funext j; idx_vars j; pointwise [up, sq]; rfl
theorem upr_exp (x : ℝ) : exp (upr x : FVec Ideal S1x128 φ) = upr (Real.exp x) := by
  funext j; idx_vars j; pointwise [upr]; rfl
theorem up_tr (A : Sq) :
    transpose S128x128 [1, 0] (up A : FVec Ideal S128x128 φ) transposes_S128x128_p1_0_S128x128 = up (sq fun i j => A j i) := by
  funext j; idx_vars j; pointwise [up, sq]
theorem up_trunc (A : Sq) : truncf .bf16 (up A : FVec Ideal S128x128 .f32) = up A := by
  funext j; idx_vars j; pointwise [up, sq]
theorem up_zero : broadcast S128x128 (Scalar.ofBits (F := Ideal) .f32 0x00000000#32) = up 0 := by
  funext j; idx_vars j; pointwise [up, sq]; rfl
theorem uh_zero : broadcast S64x128 (Scalar.ofBits (F := Ideal) .f32 0x00000000#32) = uh (fun _ _ => 0) := by
  funext j; idx_vars j; pointwise [uh]; rfl
theorem up_col (b : Fin 128 → ℝ) : broadcastTo S128x128 (upc b : FVec Ideal S128x1 φ) = up (sq fun i _ => b i) := by
  funext j; idx_vars j; pointwise [up, upc, sq]
theorem up_row (x : ℝ) : broadcastTo S128x128 (upr x : FVec Ideal S1x128 φ) = up (sq fun _ _ => x) := by
  funext j; idx_vars j; pointwise [up, upr, sq]
theorem upr_cast (x : ℝ) : shapeCast S1x128 (upr x : FVec Ideal S1x128 φ) = upr x := by
  funext j; idx_vars j; pointwise [upr]
theorem up_cast (A : Sq) : shapeCast S128x128 (up A : FVec Ideal S128x128 φ) = up A := by
  funext j; idx_vars j; pointwise [up, sq]

/-- The first 64 rows. -/
abbrev lo (i : Fin 64) : Fin 128 := ⟨i.val, by omega⟩
/-- The last 64 rows. -/
abbrev hi (i : Fin 64) : Fin 128 := ⟨64 + i.val, by omega⟩

theorem up_lo (A : Sq) : extractStridedSlice S64x128 ![0, 0] (up A : FVec Ideal S128x128 φ) = uh (fun i j => A (lo i) j) := by
  funext j; idx_vars j; pointwise [up, uh, sq]
theorem up_hi (A : Sq) : extractStridedSlice S64x128 ![64, 0] (up A : FVec Ideal S128x128 φ) = uh (fun i j => A (hi i) j) := by
  funext j; idx_vars j; pointwise [up, uh, sq]
theorem up_63 (A : Sq) (x : ℝ) (h : ∀ j, A 63 j = x) : extractStridedSlice S1x128 ![63, 0] (up A : FVec Ideal S128x128 φ) = upr x := by
  funext j; idx_vars j; pointwise [up, upr, sq]
  exact congrArg _ (h j1)
theorem up_127 (A : Sq) (x : ℝ) (h : ∀ j, A 127 j = x) : extractStridedSlice S1x128 ![127, 0] (up A : FVec Ideal S128x128 φ) = upr x := by
  funext j; idx_vars j; pointwise [up, upr, sq]
  exact congrArg _ (h j1)
theorem up_cat (A B : Fin 64 → Fin 128 → ℝ) :
    concatenate S128x128 0 [⟨S64x128, (uh A : FVec Ideal S64x128 φ)⟩, ⟨S64x128, (uh B : FVec Ideal S64x128 φ)⟩]
      concatenates_S64x128_S64x128_S128x128_d0
      = up (sq fun i j => if h : i.val < 64 then A ⟨i.val, h⟩ j else B ⟨i.val - 64, by omega⟩ j) := by
  funext j; idx_vars j; pointwise [up, uh, sq]
  split <;> rfl

/-! The masks. -/

theorem mask_incl : ∀ p q : Fin 128, k0_pay26 (ix2 p q) = if incl p q then 1#1 else 0#1 := by
  have h : ∀ p q : Fin 128, IntOp.andi (IntOp.xori (IntOp.xori (IntOp.cmpi CmpIPredicate.sge (BitVec.ofNat 32 p) 64#32)
      (IntOp.cmpi CmpIPredicate.sge (BitVec.ofNat 32 q) 64#32)) 1#1)
      (IntOp.cmpi CmpIPredicate.sge (BitVec.ofNat 32 p) (BitVec.ofNat 32 q)) = if incl p q then 1#1 else 0#1 := by
    decide +kernel
  intro p q
  pointwise [k0_pay26, k0_pay25]
  exact h p q
theorem mask_strict : ∀ p q : Fin 128, k0_pay27 (ix2 p q) = if strict p q then 1#1 else 0#1 := by
  have h : ∀ p q : Fin 128, IntOp.andi (IntOp.xori (IntOp.xori (IntOp.cmpi CmpIPredicate.sge (BitVec.ofNat 32 p) 64#32)
      (IntOp.cmpi CmpIPredicate.sge (BitVec.ofNat 32 q) 64#32)) 1#1)
      (IntOp.cmpi CmpIPredicate.sgt (BitVec.ofNat 32 p) (BitVec.ofNat 32 q)) = if strict p q then 1#1 else 0#1 := by
    decide +kernel
  intro p q
  pointwise [k0_pay27, k0_pay25]
  exact h p q
theorem mask_top : ∀ p q : Fin 128, k0_pay30 (ix2 p q) = if p.val < 64 then 1#1 else 0#1 := by
  have h : ∀ p : Fin 128, IntOp.cmpi CmpIPredicate.slt (BitVec.ofNat 32 p) 64#32 = if p.val < 64 then 1#1 else 0#1 := by
    decide +kernel
  intro p q
  pointwise [k0_pay30]
  exact h p
theorem up_eye : (k0_pay29 : FVec Ideal S128x128 .f32) = up 1 := by
  have h : ∀ p q : Fin 128, BitVec.setWidth 32 (IntOp.cmpi CmpIPredicate.eq (BitVec.ofNat 32 p) (BitVec.ofNat 32 q))
      = if p = q then 1#32 else 0#32 := by
    decide +kernel
  funext j; idx_vars j
  pointwise [up, k0_pay29]
  rw [h]
  show _ = (((1 : Sq) j0 j1 : ℝ) : EReal)
  rw [Matrix.one_apply]
  split
  · show (((1#32 : BitVec 32).toInt : ℝ) : EReal) = _
    norm_num
  · show (((0#32 : BitVec 32).toInt : ℝ) : EReal) = _
    norm_num
theorem up_cum : (k0_pay28 : FVec Ideal S128x128 .f32) = up (sq fun i j => if incl i j then 1 else 0) := by
  funext j; idx_vars j
  pointwise [up, sq, k0_pay28]
  rw [mask_incl]
  show _ = (((if incl j0 j1 then 1 else 0 : ℝ)) : EReal)
  by_cases h : incl j0 j1
  · rw [if_pos h, if_pos h]
    show (((BitVec.setWidth 32 1#1).toInt : ℝ) : EReal) = _
    norm_num
  · rw [if_neg h, if_neg h]
    show (((BitVec.setWidth 32 0#1).toInt : ℝ) : EReal) = _
    norm_num

theorem up_sel_incl (A B : Sq) : select k0_pay26 (up A : FVec Ideal S128x128 φ) (up B) = up (sq fun i j => if incl i j then A i j else B i j) := by
  funext j; idx_vars j; pointwise [up, sq]
  rw [mask_incl]
  split
  · exact if_pos rfl
  · exact if_neg (by decide)
theorem up_sel_strict (A B : Sq) : select k0_pay27 (up A : FVec Ideal S128x128 φ) (up B) = up (sq fun i j => if strict i j then A i j else B i j) := by
  funext j; idx_vars j; pointwise [up, sq]
  rw [mask_strict]
  split
  · exact if_pos rfl
  · exact if_neg (by decide)
theorem up_sel_top (A B : Sq) : select k0_pay30 (up A : FVec Ideal S128x128 φ) (up B) = up (sq fun i j => if i.val < 64 then A i j else B i j) := by
  funext j; idx_vars j; pointwise [up, sq]
  rw [mask_top]
  split
  · exact if_pos rfl
  · exact if_neg (by decide)

end Cert.DnIdeal.Value
-- ==== Proof.DnPair.lean ====
module

public import proofs.«01_k».proof.Proof.DnUp

/-!
The registers of a pair of chunks, in the closed form of `DnMath`.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

variable (Q K V : Sq) (b g : Fin 128 → ℝ) (S : Sq)

/-- The summed log decay, a row to a number. -/
abbrev gcs : Sq := sq fun i _ => gc g i
/-- The differences of the summed log decay. -/
abbrev gds : Sq := sq fun i j => gc g i - gc g j

theorem cum_up : matmul dot_S128x128_S128x128_S128x128_1_0_0_1_n_n (some .fp32) (k0_pay28 : FVec Ideal S128x128 .f32)
    (broadcastTo S128x128 (upc g : FVec Ideal S128x1 .f32)) (constant S128x128 .f32 0x00000000#32) = up (gcs g) := by
  rw [up_cum, up_col, up_mm]
  congr 1

theorem dec_up : k0_pay38 k0_pay26 (up (gds g)) = up (dec g) := by
  simp only [k0_pay38, up_zero, up_sel_incl, up_exp]
  congr 1
  funext i j
  unfold dec sq
  by_cases h : incl i j
  · simp only [if_pos h]; rfl
  · simp only [if_neg h]; rfl

theorem kb_up : k0_pay39 (up K) (upc b) = up (scaled K b) := by
  simp only [k0_pay39, up_col, up_mul]
  rfl

theorem low_up : select k0_pay27 (mulf (matmul dot_S128x128_S128x128_S128x128_1_1_0_0_n_n none
      (up (scaled K b) : FVec Ideal S128x128 .bf16) (up K : FVec Ideal S128x128 .bf16) (constant S128x128 .f32 0x00000000#32))
      (up (dec g))) (up 0) = up (low K b g) := by
  simp only [up_mmt, up_mul, up_sel_strict]
  rfl

theorem inv_up : k0_pay41 k0_pay26 k0_pay27 k0_pay29 (up K) (upc b) (up (gds g)) = up (inv (low K b g)) := by
  simp only [k0_pay41, dec_up, kb_up, k0_pay40, up_trunc, up_zero, low_up, up_eye, up_sub, up_mm, up_add]
  rfl

theorem uu_up : k0_pay43 k0_pay26 k0_pay27 k0_pay29 (up K) (up V) (upc b) (up (gds g)) = up (uu K V b g) := by
  simp only [k0_pay43, inv_up, up_col, up_mul, up_mm]
  rfl

theorem ww_up : k0_pay44 k0_pay26 k0_pay27 k0_pay29 (up K) (upc b) (up (gcs g)) (up (gds g)) = up (ww K b g) := by
  simp only [k0_pay44, inv_up, kb_up, k0_pay42, up_exp, up_mul, up_mm]
  rfl

theorem att_up : k0_pay45 k0_pay26 (up Q) (up K) (up (gds g)) = up (att Q K g) := by
  simp only [k0_pay45, dec_up, k0_pay40, up_trunc, up_zero, up_mmt, up_mul, up_sel_incl]
  rfl

/-- The decayed queries. -/
abbrev qd : Sq := sq fun i d => Q i d * Real.exp (gc g i)

theorem qd_up : k0_pay46 (up Q) (up (gcs g)) = up (qd Q g) := by
  simp only [k0_pay46, k0_pay42, up_exp, up_mul, up_trunc]
  rfl

theorem g63_up : k0_pay47 (up (gcs g)) = upr (gc g 63) := up_63 _ _ fun _ => rfl
theorem g127_up : k0_pay48 (up (gcs g)) = upr (gc g 127) := up_127 _ _ fun _ => rfl

theorem kd_up : k0_pay49 k0_pay30 (up K) (up (gcs g)) = up (kd K g) := by
  unfold k0_pay49
  dsimp only
  rw [g63_up, g127_up, upr_cast, upr_cast, up_row, up_row, up_sel_top, up_sub, up_exp, up_mul]
  refine (congrArg (fun x => truncf .bf16 x bitsLt_bf16_f32) (up_tr (φ := .f32) _)).trans ?_
  rw [up_trunc]
  refine congrArg up ?_
  funext d i
  show K i d * Real.exp ((if i.val < 64 then gc g 63 else gc g 127) - gc g i)
    = K i d * Real.exp (gc g (if i.val < 64 then 63 else 127) - gc g i)
  by_cases hi : i.val < 64
  · rw [if_pos hi, if_pos hi]
  · rw [if_neg hi, if_neg hi]

theorem vn0_up : k0_pay52 (up (uu K V b g)) (up (ww K b g)) (up (φ := .f32) S) = uh (fun i e => vn0 K V b g S (lo i) e) := by
  simp only [k0_pay52, k0_pay50, k0_pay51, up_trunc, up_lo, uh_mm, uh_sub]
  congr 1
  funext i e
  exact (if_pos i.isLt).symm

theorem hi_sub (i : Fin 128) (h : ¬ i.val < 64) : hi ⟨i.val - 64, by omega⟩ = i := Fin.ext (by show 64 + (i.val - 64) = i.val; omega)

theorem cat2 (A B C : Sq) (X Y : FVec Ideal S64x128 .f32) (hX : X = uh (fun i e => A (lo i) e)) (hY : Y = uh (fun i e => B (hi i) e))
    (h0 : ∀ i : Fin 128, i.val < 64 → ∀ e, C i e = A i e) (h1 : ∀ i : Fin 128, ¬ i.val < 64 → ∀ e, C i e = B i e) :
    concatenate S128x128 0 [⟨S64x128, X⟩, ⟨S64x128, Y⟩] concatenates_S64x128_S64x128_S128x128_d0
      = (up C : FVec Ideal S128x128 .f32) := by
  subst hX hY
  rw [up_cat]
  congr 1
  funext i e
  by_cases hi' : i.val < 64
  · exact (dif_pos hi').trans (h0 i hi' e).symm
  · refine (dif_neg hi').trans (Eq.trans ?_ (h1 i hi' e).symm)
    exact congrArg (fun i => B i e) (hi_sub i hi')

theorem s1_up : k0_pay54 k0_pay30 (up K) (up (gcs g)) (up (uu K V b g)) (up (ww K b g)) (up (φ := .f32) S) = up (s1 K V b g S) := by
  unfold k0_pay54
  dsimp only
  rw [cat2 (vn0 K V b g S) 0 (vn0 K V b g S) _ _ (vn0_up K V b g S) uh_zero (fun _ _ _ => rfl) (fun i h e => if_neg h)]
  simp only [kd_up, g63_up, upr_exp, up_row, up_mul, up_trunc, up_mm, up_add]
  rfl

theorem vn1_up : k0_pay56 k0_pay30 (up K) (up (gcs g)) (up (uu K V b g)) (up (ww K b g)) (up (φ := .f32) S)
    = uh (fun i e => vn1 K V b g S (hi i) e) := by
  simp only [k0_pay56, k0_pay55, k0_pay50, s1_up, up_trunc, up_hi, uh_mm, uh_sub]
  congr 1
  funext i e
  exact (if_neg (show ¬ 64 + i.val < 64 by omega)).symm

theorem s2_up : k0_pay58 k0_pay30 (up K) (up (gcs g)) (up (uu K V b g)) (up (ww K b g)) (up (φ := .f32) S) = up (s2 K V b g S) := by
  unfold k0_pay58
  dsimp only
  rw [cat2 0 (vn1 K V b g S) (vn1 K V b g S) _ _ uh_zero (vn1_up K V b g S) (fun i h e => if_pos h) (fun _ _ _ => rfl)]
  simp only [s1_up, kd_up, g127_up, upr_exp, up_row, up_mul, up_trunc, up_mm, up_add, up_cast]
  rfl

/-- What the first chunk's rows read off the state. -/
theorem o0_up : k0_pay53 (up (qd Q g)) (up (φ := .f32) S) = uh (fun i e => ∑ d, Q (lo i) d * Real.exp (gc g (lo i)) * S d e) := by
  simp only [k0_pay53, k0_pay51, up_trunc, up_lo, uh_mm]
  rfl

theorem o1_up : k0_pay57 k0_pay30 (up K) (up (gcs g)) (up (uu K V b g)) (up (ww K b g)) (up (qd Q g)) (up (φ := .f32) S)
    = uh (fun i e => ∑ d, Q (hi i) d * Real.exp (gc g (hi i)) * s1 K V b g S d e) := by
  simp only [k0_pay57, k0_pay55, s1_up, up_trunc, up_hi, uh_mm]
  rfl

theorem oo_up (X0 X1 Y0 Y1 : FVec Ideal S64x128 .f32)
    (h0 : X0 = uh (fun i e => ∑ d, Q (lo i) d * Real.exp (gc g (lo i)) * S d e))
    (h1 : X1 = uh (fun i e => ∑ d, Q (hi i) d * Real.exp (gc g (hi i)) * s1 K V b g S d e))
    (k0 : Y0 = uh (fun i e => vn0 K V b g S (lo i) e)) (k1 : Y1 = uh (fun i e => vn1 K V b g S (hi i) e)) :
    addf (concatenate S128x128 0 [⟨S64x128, X0⟩, ⟨S64x128, X1⟩] concatenates_S64x128_S64x128_S128x128_d0)
      (matmul dot_S128x128_S128x128_S128x128_1_0_0_1_n_n none (truncf .bf16 (up (att Q K g) : FVec Ideal S128x128 .f32))
        (truncf .bf16 (concatenate S128x128 0 [⟨S64x128, Y0⟩, ⟨S64x128, Y1⟩]
      concatenates_S64x128_S64x128_S128x128_d0)) (constant S128x128 .f32 0x00000000#32))
      = up (oo Q K V b g S) := by
  rw [cat2 (vn0 K V b g S) (vn1 K V b g S) (vn K V b g S) _ _ k0 k1 (fun i h e => if_pos h) (fun i h e => if_neg h),
    cat2 (sq fun i e => ∑ d, Q i d * Real.exp (gc g i) * S d e) (sq fun i e => ∑ d, Q i d * Real.exp (gc g i) * s1 K V b g S d e)
      (sq fun i e => if i.val < 64 then ∑ d, Q i d * Real.exp (gc g i) * S d e else ∑ d, Q i d * Real.exp (gc g i) * s1 K V b g S d e)
      _ _ h0 h1 (fun i h e => if_pos h) (fun i h e => if_neg h)]
  simp only [up_trunc, up_mm, up_add]
  rfl

end Cert.DnIdeal.Value
-- ==== Proof.DnTile.lean ====
module

public import proofs.«01_k».proof.Proof.DnPair

/-!
A tile of 256 rows: the second pair's registers, and the tile as 256 tokens of the recurrence.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

/-- A tile's rows, as the beginning of a sequence of rows. -/
def ut {φ : FTy} (k : ℕ → Fin 128 → ℝ) : FVec Ideal S256x128 φ := fun i => ((k (i 0).val (i 1) : ℝ) : EReal)
/-- A tile's column, as the beginning of a sequence of numbers. -/
def utc {φ : FTy} (b : ℕ → ℝ) : FVec Ideal S256x1 φ := fun i => ((b (i 0).val : ℝ) : EReal)

/-- The rows of a sequence from the 128th on. -/
abbrev late {α : Type} (k : ℕ → α) : ℕ → α := fun i => k (128 + i)

variable (q k v : ℕ → Fin 128 → ℝ) (b g : ℕ → ℝ) (S : Sq)

theorem q0_up : k0_pay32 (ut q) = up (rows q) := by
  funext j; idx_vars j; pointwise [up, ut, k0_pay32]
theorem k0_up : k0_pay33 (ut k) = up (rows k) := by
  funext j; idx_vars j; pointwise [up, ut, k0_pay33]
theorem v0_up : k0_pay34 (ut v) = up (rows v) := by
  funext j; idx_vars j; pointwise [up, ut, k0_pay34]
theorem q1_up : k0_pay60 (ut q) = up (rows (late q)) := by
  funext j; idx_vars j; pointwise [up, ut, k0_pay60]
theorem k1_up : k0_pay61 (ut k) = up (rows (late k)) := by
  funext j; idx_vars j; pointwise [up, ut, k0_pay61]
theorem v1_up : k0_pay62 (ut v) = up (rows (late v)) := by
  funext j; idx_vars j; pointwise [up, ut, k0_pay62]
theorem b0_up : extractStridedSlice S128x1 ![0, 0] (utc b : FVec Ideal S256x1 .f32) = upc (nums b) := by
  funext j; idx_vars j; pointwise [upc, utc]
theorem b1_up : extractStridedSlice S128x1 ![128, 0] (utc b : FVec Ideal S256x1 .f32) = upc (nums (late b)) := by
  funext j; idx_vars j; pointwise [upc, utc]
theorem b1_up' : k0_pay63 (utc b) = upc (nums (late b)) := b1_up b
theorem upc_cast (b : Fin 128 → ℝ) : shapeCast S128x1 (upc b : FVec Ideal S128x1 .f32) = upc b := by
  funext j; idx_vars j; pointwise [upc]

/-! The second pair. -/

theorem gc1_up : k0_pay64 (utc g) k0_pay28 = up (gcs (nums (late g))) := by
  unfold k0_pay64
  dsimp only
  rw [b1_up, upc_cast, cum_up]

theorem dec1_up : k0_pay65 (utc g) k0_pay26 k0_pay28 = up (dec (nums (late g))) := by
  unfold k0_pay65
  dsimp only
  rw [gc1_up]
  have e : (subf (up (gcs (nums (late g)))) (transpose S128x128 [1, 0] (up (gcs (nums (late g))) : FVec Ideal S128x128 .f32)
      transposes_S128x128_p1_0_S128x128) : FVec Ideal S128x128 .f32) = up (gds (nums (late g))) := by
    rw [up_tr, up_sub]
    rfl
  rw [e]
  exact dec_up (nums (late g))

theorem kb1_up : k0_pay66 (ut k) (utc b) = up (scaled (rows (late k)) (nums (late b))) := by
  unfold k0_pay66
  dsimp only
  rw [k1_up, b1_up', up_col, up_mul]
  rfl

theorem low1_up : k0_pay68 (ut k) (utc g) (utc b) k0_pay26 k0_pay27 k0_pay28
    = up (low (rows (late k)) (nums (late b)) (nums (late g))) := by
  unfold k0_pay68 k0_pay67
  dsimp only
  rw [kb1_up, k1_up, dec1_up, up_trunc, up_trunc, up_zero, low_up]

variable (Q K V : Sq) (B G : Fin 128 → ℝ) (L : Sq)

theorem inv1_up : k0_pay70 (up L) (up (1 - L)) = up (inv L) := by
  simp only [k0_pay70, up_mm, up_add]
  rfl

theorem uu1_up : k0_pay72 (up V) (upc B) (up (low K B G)) (up (1 - low K B G)) = up (uu K V B G) := by
  unfold k0_pay72
  dsimp only
  rw [inv1_up, up_col, up_mul, up_mm]
  rfl

theorem ww1_up : k0_pay78 (up (gcs G)) (up (scaled K B)) (up (low K B G)) (up (1 - low K B G)) = up (ww K B G) := by
  unfold k0_pay78 k0_pay71
  dsimp only
  rw [inv1_up, up_exp, up_mul, up_mm, up_trunc]
  rfl

theorem att1_up : k0_pay73 k0_pay26 (up Q) (up (dec G)) (up K) = up (att Q K G) := by
  unfold k0_pay73
  dsimp only
  rw [up_trunc, up_mmt, up_mul, up_zero, up_sel_incl]
  rfl

theorem qd1_up : k0_pay74 (up Q) (up (gcs G)) = up (qd Q G) := qd_up Q G
theorem kd1_up : k0_pay77 k0_pay30 (up K) (up (gcs G)) = up (kd K G) := kd_up K G

theorem vn10_up : k0_pay81 (up (ww K B G)) (up S) (uh fun i e => uu K V B G (lo i) e)
    = uh (fun i e => vn0 K V B G S (lo i) e) := by
  unfold k0_pay81
  dsimp only
  rw [up_lo, uh_mm, uh_sub]
  refine congrArg uh ?_
  funext i e
  exact (if_pos i.isLt).symm

theorem s11_up : k0_pay82 (upr (gc G 63)) (up (kd K G)) (up (ww K B G)) (up (φ := .f32) S) (up S) (uh fun i e => uu K V B G (lo i) e)
    = up (s1 K V B G S) := by
  unfold k0_pay82
  dsimp only
  rw [cat2 (vn0 K V B G S) 0 (vn0 K V B G S) _ _ (vn10_up S K V B G) uh_zero (fun _ _ _ => rfl) (fun i h e => if_neg h)]
  rw [upr_exp, up_row, up_mul, up_trunc, up_mm, up_add]
  rfl

theorem vn11_up : k0_pay84 (up (uu K V B G)) (upr (gc G 63)) (up (kd K G)) (up (ww K B G)) (up (φ := .f32) S) (up S)
    (uh fun i e => uu K V B G (lo i) e) = uh (fun i e => vn1 K V B G S (hi i) e) := by
  unfold k0_pay84 k0_pay83
  dsimp only
  rw [s11_up, up_trunc, up_hi, up_hi, uh_mm, uh_sub]
  refine congrArg uh ?_
  funext i e
  exact (if_neg (show ¬ 64 + i.val < 64 by omega)).symm

theorem s21_up : k0_pay85 (up (uu K V B G)) (upr (gc G 63)) (upr (gc G 127)) (up (kd K G)) (up (ww K B G)) (up (φ := .f32) S) (up S)
    (uh fun i e => uu K V B G (lo i) e) = up (s2 K V B G S) := by
  unfold k0_pay85
  dsimp only
  rw [cat2 0 (vn1 K V B G S) (vn1 K V B G S) _ _ uh_zero (vn11_up S K V B G) (fun i h e => if_pos h) (fun _ _ _ => rfl)]
  rw [s11_up, upr_exp, up_row, up_mul, up_trunc, up_mm, up_add, up_cast]
  rfl

theorem oo1_up : k0_pay86 (up (uu K V B G)) (up (att Q K G)) (up (qd Q G)) (upr (gc G 63)) (up (kd K G)) (up (ww K B G)) (up (φ := .f32) S)
    (up S) (uh fun i e => uu K V B G (lo i) e) = up (oo Q K V B G S) := by
  unfold k0_pay86 k0_pay83
  dsimp only
  rw [s11_up, up_trunc (s1 K V B G S)]
  refine oo_up Q K V B G S _ _ _ _ ?_ ?_ (vn10_up S K V B G) (vn11_up S K V B G)
  · rw [up_lo, uh_mm]; rfl
  · rw [up_hi, uh_mm]; rfl

/-! The end of a row: its root mean square divided out, the norm's weights and the gate. -/

/-- A row's output from the row of the recurrence. -/
def gate (o : Fin 128 → EReal) (w z : EReal) (e : Fin 128) : EReal :=
  o e * Ideal.rsqrt (Ideal.div (∑ x, o x * o x) (Ideal.ofBits .f32 0x43000000#32) + Ideal.ofBits .f32 0x358637BD#32) * w
    * (z * Ideal.logistic z)

theorem out0 (z : Vec Ideal S256x128 .f32) (on : FVec Ideal S1x128 .f32) (A : FVec Ideal S128x128 .f32) (X0 X1 Y0 Y1 : FVec Ideal S64x128 .f32) (O : Sq)
    (h : addf (concatenate S128x128 0 [⟨S64x128, X0⟩, ⟨S64x128, X1⟩] concatenates_S64x128_S64x128_S128x128_d0)
      (matmul dot_S128x128_S128x128_S128x128_1_0_0_1_n_n none (truncf .bf16 A)
        (truncf .bf16 (concatenate S128x128 0 [⟨S64x128, Y0⟩, ⟨S64x128, Y1⟩]
      concatenates_S64x128_S64x128_S128x128_d0)) (constant S128x128 .f32 0x00000000#32)) = up O) (i e : Fin 128) :
    k0_pay59 z on A Y0 X0 Y1 X1 (ix2 i e)
      = gate (fun x => ((O i x : ℝ) : EReal)) (on (ix2 0 e)) (z (ix2 ⟨i.val, by omega⟩ e)) e := by
  unfold k0_pay59
  dsimp only
  rw [h]
  pointwise [up, gate]

theorem out1 (z : FVec Ideal S128x128 .f32) (on : FVec Ideal S1x128 .f32) (O : Sq)
    (r : FVec Ideal S128x1 .f32) (hr : ∀ i : Fin 128, r (ix2 i 0) = Ideal.div (∑ x, ((O i x : ℝ) : EReal) * ((O i x : ℝ) : EReal)) (Ideal.ofBits .f32 0x43000000#32) + Ideal.ofBits .f32 0x358637BD#32) (i e : Fin 128) :
    k0_pay1 on (up O) z r (ix2 i e) = gate (fun x => ((O i x : ℝ) : EReal)) (on (ix2 0 e)) (z (ix2 i e)) e := by
  unfold k0_pay1 gate
  dsimp only
  rw [← hr]
  pointwise [up]

end Cert.DnIdeal.Value
-- ==== Proof.DnStep.lean ====
module

public import proofs.«01_k».proof.Proof.DnTile

/-!
A tile of 256 rows is 256 tokens of the recurrence: the state it leaves and the rows it writes.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

variable (q k v : ℕ → Fin 128 → ℝ) (b g : ℕ → ℝ) (S : Sq)

theorem g63b (G : Fin 128 → ℝ) : k0_pay75 (up (gcs G)) = upr (gc G 63) := g63_up G
theorem g127b (G : Fin 128 → ℝ) : k0_pay76 (up (gcs G)) = upr (gc G 127) := g127_up G
theorem trunc79 (A : Sq) : k0_pay79 (up (φ := .f32) A) = up A := up_trunc A
theorem trunc67 : k0_pay67 (ut k) = up (rows (late k)) := by
  unfold k0_pay67
  dsimp only
  rw [k1_up, up_trunc]

theorem mid_up : (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S)) = up (states k v b g S 128) := by
  rw [k0_up, v0_up, uu_up, ww_up, s2_up, s2_eq]

theorem low1_ut : (k0_pay68 (ut k) (utc g) (utc b) k0_pay26 k0_pay27 k0_pay28) = up (low (rows (late k)) (nums (late b)) (nums (late g))) := by
  exact low1_up k b g

theorem low1_ut' : (k0_pay69 (ut k) (utc g) (utc b) k0_pay26 k0_pay27 k0_pay28 k0_pay29) = up (1 - low (rows (late k)) (nums (late b)) (nums (late g))) := by
  unfold k0_pay69
  dsimp only
  rw [low1_ut, up_eye, up_sub]

theorem uu1_ut : (k0_pay72 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) = up (uu (rows (late k)) (rows (late v)) (nums (late b)) (nums (late g))) := by
  rw [low1_ut, low1_ut', v1_up, b1_up', uu1_up]

theorem ww1_ut : (k0_pay78 (k0_pay64 (utc g) k0_pay28) (k0_pay66 (ut k) (utc b)) (k0_pay68 (ut k) (utc g) (utc b) k0_pay26 k0_pay27 k0_pay28) (k0_pay69 (ut k) (utc g) (utc b) k0_pay26 k0_pay27 k0_pay28 k0_pay29)) = up (ww (rows (late k)) (nums (late b)) (nums (late g))) := by
  rw [low1_ut, low1_ut', gc1_up, kb1_up, ww1_up]

theorem r80_ut : (k0_pay80 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) = uh (fun i e => uu (rows (late k)) (rows (late v)) (nums (late b)) (nums (late g)) (lo i) e) := by
  unfold k0_pay80
  dsimp only
  rw [uu1_ut, up_lo]

/-- The first pair's running sums of decays. -/
theorem gg2_ut (i : IVec S256x128 32) (x : FVec Ideal S256x128 .f32) (y : IVec S256x128 32) (h : k0_pay23 i x y = utc g) :
    k0_pay36 i x y = up (gcs (nums g)) := by
  unfold k0_pay36
  dsimp only
  rw [h, b0_up, upc_cast, cum_up]

/-- Their differences. -/
theorem gg3_ut (i : IVec S256x128 32) (x : FVec Ideal S256x128 .f32) (y : IVec S256x128 32) (h : k0_pay23 i x y = utc g) :
    k0_pay37 i x y = up (gds (nums g)) := by
  unfold k0_pay37
  dsimp only
  rw [gg2_ut g i x y h, up_tr, up_sub]
  rfl

/-- The first pair's rates. -/
theorem bb2_ut (a : BitVec 32) (x : Vec Ideal S256x128 .f32) (i : IVec S256x128 32) (h : k0_pay24 a x i = utc b) :
    k0_pay35 a x i = upc (nums b) := by
  unfold k0_pay35
  dsimp only
  rw [h, b0_up]

/-- The state a tile leaves. -/
theorem tile_state : k0_pay85 (k0_pay72 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) (k0_pay75 (k0_pay64 (utc g) k0_pay28)) (k0_pay76 (k0_pay64 (utc g) k0_pay28)) (k0_pay77 k0_pay30 (k0_pay61 (ut k)) (k0_pay64 (utc g) k0_pay28)) (k0_pay78 (k0_pay64 (utc g) k0_pay28) (k0_pay66 (ut k) (utc b)) (k0_pay68 (ut k) (utc g) (utc b) k0_pay26 k0_pay27 k0_pay28) (k0_pay69 (ut k) (utc g) (utc b) k0_pay26 k0_pay27 k0_pay28 k0_pay29)) (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S)) (k0_pay79 (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S))) (k0_pay80 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) = up (states k v b g S 256) := by
  rw [uu1_ut, ww1_ut, r80_ut, mid_up, gc1_up, k1_up, kd1_up, g63b, g127b, trunc79, s21_up, s2_eq, ← states_add]

/-- The first 128 rows. -/
theorem tile_low (z : Vec Ideal S256x128 .f32) (on : FVec Ideal S1x128 .f32) (i e : Fin 128) : k0_pay59 z on (k0_pay45 k0_pay26 (k0_pay32 (ut q)) (k0_pay33 (ut k)) (up (gds (nums g)))) (k0_pay52 (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S)) (k0_pay53 (k0_pay46 (k0_pay32 (ut q)) (up (gcs (nums g)))) (up (φ := .f32) S)) (k0_pay56 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S)) (k0_pay57 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (k0_pay46 (k0_pay32 (ut q)) (up (gcs (nums g)))) (up (φ := .f32) S)) (ix2 i e)
    = gate (fun x => ((∑ d, states k v b g S (i.val + 1) d x * q i.val d : ℝ) : EReal)) (on (ix2 0 e)) (z (ix2 ⟨i.val, by omega⟩ e)) e := by
  rw [k0_up, q0_up, v0_up, uu_up, ww_up, att_up, qd_up]
  refine (out0 z on _ _ _ _ _ _ (oo_up (rows q) (rows k) (rows v) (nums b) (nums g) S _ _ _ _ (o0_up _ _ _) (o1_up _ _ _ _ _ _) (vn0_up _ _ _ _ _) (vn1_up _ _ _ _ _)) i e).trans ?_
  simp only [oo_eq]

/-- The other 128 rows. -/
theorem tile_high (z : Vec Ideal S256x128 .f32) (on : FVec Ideal S1x128 .f32) (i e : Fin 128) : k0_pay1 on (k0_pay86 (k0_pay72 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) (k0_pay73 k0_pay26 (k0_pay60 (ut q)) (k0_pay65 (utc g) k0_pay26 k0_pay28) (k0_pay67 (ut k))) (k0_pay74 (k0_pay60 (ut q)) (k0_pay64 (utc g) k0_pay28)) (k0_pay75 (k0_pay64 (utc g) k0_pay28)) (k0_pay77 k0_pay30 (k0_pay61 (ut k)) (k0_pay64 (utc g) k0_pay28)) (k0_pay78 (k0_pay64 (utc g) k0_pay28) (k0_pay66 (ut k) (utc b)) (k0_pay68 (ut k) (utc g) (utc b) k0_pay26 k0_pay27 k0_pay28) (k0_pay69 (ut k) (utc g) (utc b) k0_pay26 k0_pay27 k0_pay28 k0_pay29)) (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S)) (k0_pay79 (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S))) (k0_pay80 (k0_pay62 (ut v)) (k0_pay63 (utc b)) (k0_pay68 (ut k) (utc g) (utc b) k0_pay26 k0_pay27 k0_pay28) (k0_pay69 (ut k) (utc g) (utc b) k0_pay26 k0_pay27 k0_pay28 k0_pay29))) (k0_pay87 z) (k0_pay88 (k0_pay72 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) (k0_pay73 k0_pay26 (k0_pay60 (ut q)) (k0_pay65 (utc g) k0_pay26 k0_pay28) (k0_pay67 (ut k))) (k0_pay74 (k0_pay60 (ut q)) (k0_pay64 (utc g) k0_pay28)) (k0_pay75 (k0_pay64 (utc g) k0_pay28)) (k0_pay77 k0_pay30 (k0_pay61 (ut k)) (k0_pay64 (utc g) k0_pay28)) (k0_pay78 (k0_pay64 (utc g) k0_pay28) (k0_pay66 (ut k) (utc b)) (k0_pay68 (ut k) (utc g) (utc b) k0_pay26 k0_pay27 k0_pay28) (k0_pay69 (ut k) (utc g) (utc b) k0_pay26 k0_pay27 k0_pay28 k0_pay29)) (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S)) (k0_pay79 (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S))) (k0_pay80 (k0_pay62 (ut v)) (k0_pay63 (utc b)) (k0_pay68 (ut k) (utc g) (utc b) k0_pay26 k0_pay27 k0_pay28) (k0_pay69 (ut k) (utc g) (utc b) k0_pay26 k0_pay27 k0_pay28 k0_pay29))) (ix2 i e)
    = gate (fun x => ((∑ d, states k v b g S (128 + i.val + 1) d x * q (128 + i.val) d : ℝ) : EReal)) (on (ix2 0 e)) (z (ix2 ⟨128 + i.val, by omega⟩ e)) e := by
  have ho : k0_pay86 (k0_pay72 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) (k0_pay73 k0_pay26 (k0_pay60 (ut q)) (k0_pay65 (utc g) k0_pay26 k0_pay28) (k0_pay67 (ut k))) (k0_pay74 (k0_pay60 (ut q)) (k0_pay64 (utc g) k0_pay28)) (k0_pay75 (k0_pay64 (utc g) k0_pay28)) (k0_pay77 k0_pay30 (k0_pay61 (ut k)) (k0_pay64 (utc g) k0_pay28)) (k0_pay78 (k0_pay64 (utc g) k0_pay28) (k0_pay66 (ut k) (utc b)) (k0_pay68 (ut k) (utc g) (utc b) k0_pay26 k0_pay27 k0_pay28) (k0_pay69 (ut k) (utc g) (utc b) k0_pay26 k0_pay27 k0_pay28 k0_pay29)) (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S)) (k0_pay79 (k0_pay58 k0_pay30 (k0_pay33 (ut k)) (up (gcs (nums g))) (k0_pay43 k0_pay26 k0_pay27 k0_pay29 (k0_pay33 (ut k)) (k0_pay34 (ut v)) (upc (nums b)) (up (gds (nums g)))) (k0_pay44 k0_pay26 k0_pay27 k0_pay29 (k0_pay33 (ut k)) (upc (nums b)) (up (gcs (nums g))) (up (gds (nums g)))) (up (φ := .f32) S))) (k0_pay80 (k0_pay62 (ut v)) (k0_pay63 (utc b)) (k0_pay68 (ut k) (utc g) (utc b) k0_pay26 k0_pay27 k0_pay28) (k0_pay69 (ut k) (utc g) (utc b) k0_pay26 k0_pay27 k0_pay28 k0_pay29)) = up (oo (rows (late q)) (rows (late k)) (rows (late v)) (nums (late b)) (nums (late g)) (states k v b g S 128)) := by
    rw [uu1_ut, ww1_ut, r80_ut, mid_up, gc1_up, k1_up, q1_up, kd1_up, g63b, trunc79, dec1_up, trunc67, att1_up, qd1_up, oo1_up]
  unfold k0_pay88
  dsimp only
  rw [ho]
  refine (out1 _ on _ _ (fun i => by pointwise [up]) i e).trans ?_
  simp only [oo_eq]
  have hz : k0_pay87 z (ix2 i e) = z (ix2 ⟨128 + i.val, by omega⟩ e) := by pointwise [k0_pay87]
  have hs : ∀ n, states (late k) (late v) (late b) (late g) (states k v b g S 128) n = states k v b g S (128 + n) := fun n => (states_add k v b g S 128 n).symm
  simp only [hz, hs]
  rfl

end Cert.DnIdeal.Value
-- ==== Proof.DnAct.lean ====
module

public import proofs.«01_k».proof.Proof.DnUp

/-!
The recurrence's inputs, from the call's own arguments: queries, keys and values are filtered, gated and (the first
two) normed columns of the projection; rates and decays come from its last columns. Each is a real number: the queries,
keys and rates always, the values and decays under the precondition.
-/

@[expose] public section

noncomputable section

open Idealize.ShloMosaic Idealize.ShloMosaic.TcCoe Idealize.SL.Sem

namespace Cert.DeltaRule

open Cert.DnIdeal

/-- What is added under the roots. -/
abbrev eps : EReal := Ideal.ofBits .f32 0x358637BD#32
/-- The queries' factor. -/
abbrev scl : EReal := Ideal.ofBits .f32 0x3DB504F3#32

theorem eps_pos : ∃ r : ℝ, 0 < r ∧ eps = (r : EReal) := by
  refine ⟨8796093 * (2 : ℝ) ^ (-43 : ℤ), by positivity, ?_⟩
  have h1 : (BitVec.extractLsb' 23 8 0x358637BD#32).toNat = 107 := by decide
  have h2 : (BitVec.extractLsb' 0 23 0x358637BD#32).toNat = 407485 := by decide
  have h3 : (BitVec.extractLsb' (8 + 23) 1 0x358637BD#32 == 1#1) = false := by decide
  simp only [eps, Ideal.ofBits, Ideal.ieee]
  rw [h1, h2, h3]
  norm_num

theorem scl_real : ∃ r : ℝ, scl = (r : EReal) := by
  refine ⟨_, by simp only [scl, Ideal.ofBits, Ideal.ieee]; norm_num; rfl⟩

/-- A number that is no infinity. -/
def Fin' (x : EReal) : Prop := ∃ r : ℝ, x = (r : EReal)

theorem Fin'.eq {x : EReal} (h : Fin' x) : x = ((x.toReal : ℝ) : EReal) := by
  obtain ⟨r, rfl⟩ := h
  rw [EReal.toReal_coe]

theorem fin_mul {x y : EReal} (hx : Fin' x) (hy : Fin' y) : Fin' (x * y) := by
  obtain ⟨a, rfl⟩ := hx
  obtain ⟨b, rfl⟩ := hy
  exact ⟨a * b, (EReal.coe_mul a b).symm⟩

theorem fin_add {x y : EReal} (hx : Fin' x) (hy : Fin' y) : Fin' (x + y) := by
  obtain ⟨a, rfl⟩ := hx
  obtain ⟨b, rfl⟩ := hy
  exact ⟨a + b, (EReal.coe_add a b).symm⟩

theorem fin_neg {x : EReal} (hx : Fin' x) : Fin' (-x) := by
  obtain ⟨a, rfl⟩ := hx
  exact ⟨-a, (EReal.coe_neg a).symm⟩

theorem fin_zero : Fin' 0 := ⟨0, EReal.coe_zero.symm⟩

theorem fin_logistic (x : EReal) : Fin' (Ideal.logistic x) := by
  induction x using EReal.rec with
  | bot => exact ⟨0, by rw [Ideal.logistic_bot, EReal.coe_zero]⟩
  | top => exact ⟨1, by rw [Ideal.logistic_top, EReal.coe_one]⟩
  | coe r => exact ⟨_, Ideal.logistic_coe r⟩

/-- A vector over the root of its sum of squares. -/
def unit (y : Fin 128 → EReal) (d : Fin 128) : EReal := y d * Ideal.rsqrt ((∑ x, y x * y x) + eps)

theorem fin_unit (y : Fin 128 → EReal) (d : Fin 128) : Fin' (unit y d) := by
  obtain ⟨e, he, hE⟩ := eps_pos
  unfold unit
  rw [hE]
  by_cases h : ∀ x, Fin' (y x)
  · choose r hr using h
    have hs : (∑ x, y x * y x) = ((∑ x, r x * r x : ℝ) : EReal) := by
      rw [Cert.DnIdeal.Value.coe_sum]
      exact Finset.sum_congr rfl fun x _ => by rw [hr, EReal.coe_mul]
    have hp : 0 < (∑ x, r x * r x) + e := add_pos_of_nonneg_of_pos (Finset.sum_nonneg fun x _ => mul_self_nonneg _) he
    rw [hs, hr, ← EReal.coe_add, Ideal.rsqrt_coe, if_neg (not_lt.mpr hp.le), if_neg hp.ne']
    exact ⟨_, (EReal.coe_mul _ _).symm⟩
  · push Not at h
    obtain ⟨x, hx⟩ := h
    have sq : ∀ z, (0 : EReal) ≤ y z * y z := fun z => by
      induction y z using EReal.rec with
      | bot => rw [EReal.bot_mul_bot]; exact le_top
      | top => rw [EReal.top_mul_top]; exact le_top
      | coe r => rw [← EReal.coe_mul]; exact EReal.coe_nonneg.mpr (mul_self_nonneg r)
    have ht : y x * y x = ⊤ := by
      revert hx
      induction y x using EReal.rec with
      | bot => intro _; exact EReal.bot_mul_bot
      | top => intro _; exact EReal.top_mul_top
      | coe r => intro hx; exact absurd ⟨r, rfl⟩ hx
    have hs : (∑ x, y x * y x) = ⊤ := top_le_iff.mp (ht ▸ Finset.single_le_sum (fun z _ => sq z) (Finset.mem_univ x))
    rw [hs, EReal.top_add_coe, Ideal.rsqrt_top, mul_zero]
    exact fin_zero

/-- A number times its logistic. -/
def act (y : EReal) : EReal := y * Ideal.logistic y

/-- The sequence `x` four steps behind, zero before its beginning. -/
def past (x : ℕ → EReal) (n j : ℕ) : EReal := if n + j < 3 then 0 else x (n + j - 3)

/-- Four taps of a sequence. -/
def conv (w : Fin 4 → EReal) (x : ℕ → EReal) (n : ℕ) : EReal :=
  0 + w 0 * past x n 0 + w 1 * past x n 1 + w 2 * past x n 2 + w 3 * past x n 3

theorem fin_past {x : ℕ → EReal} (h : ∀ n, Fin' (x n)) (n j : ℕ) : Fin' (past x n j) := by
  unfold past
  split
  · exact fin_zero
  · exact h _

theorem fin_conv {w : Fin 4 → EReal} {x : ℕ → EReal} (hw : ∀ j, Fin' (w j)) (hx : ∀ n, Fin' (x n)) (n : ℕ) : Fin' (conv w x n) :=
  fin_add (fin_add (fin_add (fin_add fin_zero (fin_mul (hw _) (fin_past hx _ _))) (fin_mul (hw _) (fin_past hx _ _)))
    (fin_mul (hw _) (fin_past hx _ _))) (fin_mul (hw _) (fin_past hx _ _))

/-- The log of a decay. -/
def decay (l x : EReal) : EReal := -(Ideal.exp l) * (max x 0 + Ideal.log (1 + Ideal.exp (-(max x (-x)))))

theorem fin_decay {l x : EReal} (hl : l < ⊤) (hx : x < ⊤) : Fin' (decay l x) := by
  refine fin_mul (fin_neg ?_) ?_
  · induction l using EReal.rec with
    | bot => exact ⟨0, by rw [Ideal.exp_bot, EReal.coe_zero]⟩
    | top => exact absurd hl (lt_irrefl _)
    | coe r => exact ⟨_, Ideal.exp_coe r⟩
  · induction x using EReal.rec with
    | bot =>
      refine fin_add ⟨0, by simp⟩ ⟨0, ?_⟩
      rw [EReal.neg_bot, max_eq_right bot_le, EReal.neg_top, Ideal.exp_bot, add_zero, ← EReal.coe_one, Ideal.log_coe, if_neg (by norm_num), Real.log_one]
    | top => exact absurd hx (lt_irrefl _)
    | coe r =>
      have e1 : max (r : EReal) 0 = ((max r 0 : ℝ) : EReal) := by rw [← EReal.coe_zero, ← EReal.coe_strictMono.monotone.map_max]
      have e2 : max (r : EReal) (-r) = ((max r (-r) : ℝ) : EReal) := by rw [← EReal.coe_neg, ← EReal.coe_strictMono.monotone.map_max]
      rw [e1, e2, ← EReal.coe_neg, Ideal.exp_coe, ← EReal.coe_one, ← EReal.coe_add, Ideal.log_coe, if_neg (not_le.mpr (by positivity))]
      exact fin_add ⟨_, rfl⟩ ⟨_, rfl⟩

/-! The sequences of a batch `a` and a head `h`. -/

/-- A column of the projection as a sequence of tokens. -/
def col (P : FVec Ideal S32768x15360 .f32) (a : Fin 4) (c : Fin 15360) (n : ℕ) : EReal :=
  if h : n < 8192 then P (ix2 ⟨a.val * 8192 + n, by omega⟩ c) else 0

variable (P : FVec Ideal S32768x15360 .f32) (C : FVec Ideal S4x3072 .f32) (L D : FVec Ideal S8 .f32) (a : Fin 4) (h : Fin 8)

/-- The filtered and gated columns: queries (`o = 0`), keys (`o = 1`) and values (`o = 2`). -/
def acts (o : Fin 3) (n : ℕ) (d : Fin 128) : EReal :=
  act (conv (fun j => C (ix2 j ⟨o.val * 1024 + h.val * 128 + d.val, by omega⟩))
    (col P a ⟨o.val * 1024 + h.val * 128 + d.val, by omega⟩) n)

def qE (n : ℕ) (d : Fin 128) : EReal := unit (acts P C a h 0 n) d * scl
def kE (n : ℕ) (d : Fin 128) : EReal := unit (acts P C a h 1 n) d
def vE (n : ℕ) (d : Fin 128) : EReal := acts P C a h 2 n d
def bE (n : ℕ) : EReal := Ideal.logistic (col P a ⟨13832 + h.val, by omega⟩ n)
def gE (n : ℕ) : EReal := decay (L (ix1 h)) (col P a ⟨13824 + h.val, by omega⟩ n + D (ix1 h))

/-- Queries, keys, values, rates and decays as real numbers. -/
def qR (n : ℕ) (d : Fin 128) : ℝ := (qE P C a h n d).toReal
def kR (n : ℕ) (d : Fin 128) : ℝ := (kE P C a h n d).toReal
def vR (n : ℕ) (d : Fin 128) : ℝ := (vE P C a h n d).toReal
def bR (n : ℕ) : ℝ := (bE P a h n).toReal
def gR (n : ℕ) : ℝ := (gE P L D a h n).toReal

/-- The precondition: value columns and their filters are finite, and no decay is the infinite one. -/
structure Tame : Prop where
  val : ∀ (r : Fin 32768) (x : Fin 1024), Fin' (P (ix2 r ⟨2048 + x.val, by omega⟩))
  taps : ∀ (j : Fin 4) (x : Fin 1024), Fin' (C (ix2 j ⟨2048 + x.val, by omega⟩))
  dec : ∀ (r : Fin 32768) (x : Fin 8), P (ix2 r ⟨13824 + x.val, by omega⟩) < ⊤
  log : ∀ x : Fin 8, L (ix1 x) < ⊤
  bias : ∀ x : Fin 8, D (ix1 x) < ⊤

theorem qE_eq (n : ℕ) (d : Fin 128) : qE P C a h n d = ((qR P C a h n d : ℝ) : EReal) := Fin'.eq (fin_mul (fin_unit _ _) scl_real)
theorem kE_eq (n : ℕ) (d : Fin 128) : kE P C a h n d = ((kR P C a h n d : ℝ) : EReal) := Fin'.eq (fin_unit _ _)
theorem bE_eq (n : ℕ) : bE P a h n = ((bR P a h n : ℝ) : EReal) := Fin'.eq (fin_logistic _)

variable {P C L D}

theorem vE_eq (t : Tame P C L D) (n : ℕ) (d : Fin 128) : vE P C a h n d = ((vR P C a h n d : ℝ) : EReal) := by
  refine Fin'.eq ?_
  have hc : ∀ n, Fin' (col P a ⟨2 * 1024 + h.val * 128 + d.val, by omega⟩ n) := fun n => by
    unfold col
    split
    · have e := t.val ⟨a.val * 8192 + n, by omega⟩ ⟨h.val * 128 + d.val, by omega⟩
      have f : (⟨2048 + (h.val * 128 + d.val), by omega⟩ : Fin 15360) = ⟨2 * 1024 + h.val * 128 + d.val, by omega⟩ := Fin.ext (by show 2048 + (h.val * 128 + d.val) = 2 * 1024 + h.val * 128 + d.val; omega)
      exact f ▸ e
    · exact fin_zero
  have hw : ∀ j : Fin 4, Fin' (C (ix2 j ⟨2 * 1024 + h.val * 128 + d.val, by omega⟩)) := fun j => by
    have e := t.taps j ⟨h.val * 128 + d.val, by omega⟩
    have f : (⟨2048 + (h.val * 128 + d.val), by omega⟩ : Fin 3072) = ⟨2 * 1024 + h.val * 128 + d.val, by omega⟩ := Fin.ext (by show 2048 + (h.val * 128 + d.val) = 2 * 1024 + h.val * 128 + d.val; omega)
    exact f ▸ e
  exact fin_mul (fin_conv hw hc n) (fin_logistic _)

theorem gE_eq (t : Tame P C L D) (n : ℕ) : gE P L D a h n = ((gR P L D a h n : ℝ) : EReal) := by
  refine Fin'.eq (fin_decay (t.log h) (EReal.add_lt_top (ne_of_lt ?_) (t.bias h).ne))
  unfold col
  split
  · exact t.dec _ h
  · exact EReal.coe_lt_top 0

end Cert.DeltaRule
-- ==== Proof.DnConv.lean ====
module

public import proofs.«01_k».proof.Proof.DnStep
public import proofs.«01_k».proof.Proof.DnAct

/-!
A tile's inputs: what the filters, norms and decays of its rows are, row by row.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

variable (w0 w1 w2 w3 : FVec Ideal S1x128 .f32) (x5 x6 x7 x8 : FVec Ideal S256x128 .f32) (i : Fin 256) (d : Fin 128)

/-- A filtered and gated entry of a tile. -/
def tap (e : Fin 128) : EReal := act (0 + w0 (ix2 0 e) * x5 (ix2 i e) + w1 (ix2 0 e) * x6 (ix2 i e) + w2 (ix2 0 e) * x7 (ix2 i e) + w3 (ix2 0 e) * x8 (ix2 i e))

theorem q_at : k0_pay19 (F := Ideal) (k0_pay9 (k0_pay8 w0 x5 w1 x6 w2 x7) w3 x8) (ix2 i d) = unit (tap w0 w1 w2 w3 x5 x6 x7 x8 i) d * scl := by
  pointwise [k0_pay19, k0_pay9, k0_pay8, unit, tap, act]

theorem k_at : k0_pay20 (F := Ideal) (k0_pay13 (k0_pay12 w0 x5 w1 x6 w2 x7) w3 x8) (ix2 i d) = unit (tap w0 w1 w2 w3 x5 x6 x7 x8 i) d := by
  pointwise [k0_pay20, k0_pay13, k0_pay12, unit, tap, act]

theorem v_at : k0_pay18 (F := Ideal) (k0_pay16 w0 x5 w1 x6 w2 x7) (k0_pay17 w3 x8) (ix2 i d) = tap w0 w1 w2 w3 x5 x6 x7 x8 i d := by
  pointwise [k0_pay18, k0_pay17, k0_pay16, tap, act]

/-- A sum in which one lane is kept. -/
theorem kept (x : Fin 128 → EReal) (h : Fin 128) (b : Fin 128 → BitVec 1) (hb : ∀ e, b e = BitVec.ofBool (decide (e = h))) :
    (∑ e, Scalar.select (b e) (x e) 0) = x h := by
  have e1 : ∀ e, Scalar.select (b e) (x e) 0 = if e = h then x e else 0 := fun e => by
    rw [hb]
    by_cases hh : e = h
    · rw [if_pos hh, decide_eq_true hh]; rfl
    · rw [if_neg hh, decide_eq_false hh]; rfl
  simp only [e1]
  rw [Finset.sum_ite_eq' Finset.univ h, if_pos (Finset.mem_univ h)]

theorem lane (e h : Fin 128) : IntOp.cmpi .eq (BitVec.ofNat 32 e.val) (BitVec.ofNat 32 h.val) = BitVec.ofBool (decide (e = h)) := by
  revert e h
  decide +kernel

theorem g_at (ab : FVec Ideal S256x128 .f32) (al dt : FVec Ideal S1x128 .f32) (h : Fin 8) (hi : S256x128.Iotas .tc 32 [1]) :
    k0_pay23 (F := Ideal) (iota .tc S256x128 32 [1] hi) (k0_pay21 ab al dt) (k0_pay22 (BitVec.ofNat 32 h.val)) (ix2 i 0)
      = decay (al (ix2 0 ⟨h.val, by omega⟩)) (ab (ix2 i ⟨h.val, by omega⟩) + dt (ix2 0 ⟨h.val, by omega⟩)) := by
  pointwise [k0_pay23, k0_pay21, k0_pay22]
  refine (kept _ ⟨h.val, by omega⟩ _ fun e => lane e _).trans ?_
  rw [zero_sub, zero_sub]
  rfl

theorem b_at (ab : FVec Ideal S256x128 .f32) (h : Fin 8) (hi : S256x128.Iotas .tc 32 [1]) :
    k0_pay24 (F := Ideal) (BitVec.ofNat 32 h.val) ab (iota .tc S256x128 32 [1] hi) (ix2 i 0) = Ideal.logistic (ab (ix2 i ⟨8 + h.val, by omega⟩)) := by
  pointwise [k0_pay24]
  refine (kept _ ⟨8 + h.val, by omega⟩ _ fun e => ?_).trans rfl
  refine Eq.trans ?_ (lane e ⟨8 + h.val, by omega⟩)
  show IntOp.cmpi .eq _ (8#32 + BitVec.ofNat 32 h.val) = IntOp.cmpi .eq _ (BitVec.ofNat 32 (8 + h.val))
  rw [BitVec.ofNat_add]

end Cert.DnIdeal.Value
-- ==== Proof.DnBlocks.lean ====
module

public import proofs.«01_k».proof.Proof.DnConv
public import Idealize.ShloMosaic.Lib.Pipeline.ValueKit
public import Idealize.ShloMosaic.Lib.Pipeline.ReadBack

/-!
The recurrence's blocks: which rows and columns of the arguments a grid point sees. Point `t` is tile `t % 32` of head
`t / 32 % 8` of batch `t / 256`.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

variable (m : (ℓ : Loc nD τ sig) → Buf (Elt Ideal) ℓ)

/-- The windows' block indices at every grid point. -/
theorem idx : ∀ t : Fin cfg0.N, win0_0.index t = ![t.val / 256 * 32 + t.val % 32, t.val / 32 % 8]
    ∧ win0_1.index t = ![t.val / 256 * 32 + t.val % 32, 8 + t.val / 32 % 8]
    ∧ win0_2.index t = ![t.val / 256 * 32 + t.val % 32, 16 + t.val / 32 % 8]
    ∧ win0_3.index t = ![t.val / 256 * 32 + t.val % 32, 24 + t.val / 32 % 8]
    ∧ win0_4.index t = ![t.val / 256 * 32 + t.val % 32, 108]
    ∧ win0_5.index t = ![0, t.val / 32 % 8]
    ∧ win0_6.index t = ![0, 8 + t.val / 32 % 8]
    ∧ win0_7.index t = ![0, 16 + t.val / 32 % 8]
    ∧ win0_8.index t = ![0, 0]
    ∧ win0_9.index t = ![0, 0]
    ∧ win0_10.index t = ![0, 0]
    ∧ win0_11.index t = ![t.val / 256 * 32 + t.val % 32, t.val / 32 % 8]
    ∧ (grid0.coords t 1).val = t.val / 32 % 8
    ∧ t.val < 1024 :=
  (by decide +kernel : ∀ t : Fin grid0.N, _)

/-- The arguments, at their shapes. -/
abbrev arg0 (c : Dev nD) : FVec Ideal S32768x15360 .f32 := m ((c : Thread nD τ).loc main_arg0)
abbrev arg1 (c : Dev nD) : FVec Ideal S4x3072 .f32 := m ((c : Thread nD τ).loc main_arg1)
abbrev arg2 (c : Dev nD) : FVec Ideal S8 .f32 := m ((c : Thread nD τ).loc main_arg2)
abbrev arg3 (c : Dev nD) : FVec Ideal S8 .f32 := m ((c : Thread nD τ).loc main_arg3)
abbrev arg4 (c : Dev nD) : FVec Ideal S128 .f32 := m ((c : Thread nD τ).loc main_arg4)

def blk0 (c : Dev nD) (t : Fin cfg0.N) : FVec Ideal S256x128 .f32 := iblk m c 0 t
theorem blk0_at (c : Dev nD) (t : Fin cfg0.N) (r : Fin 256) (d : Fin 128) (i : Fin 32768) (k : Fin 15360)
    (hi : i.val = (t.val / 256 * 32 + t.val % 32) * 256 + r.val) (hk : k.val = t.val / 32 % 8 * 128 + d.val) : blk0 m c t (ix2 r d) = arg0 m c (ix2 i k) := by
  blk_ext [blk0, arg0, iblk, V, idx t]

def blk1 (c : Dev nD) (t : Fin cfg0.N) : FVec Ideal S256x128 .f32 := iblk m c 1 t
theorem blk1_at (c : Dev nD) (t : Fin cfg0.N) (r : Fin 256) (d : Fin 128) (i : Fin 32768) (k : Fin 15360)
    (hi : i.val = (t.val / 256 * 32 + t.val % 32) * 256 + r.val) (hk : k.val = (8 + t.val / 32 % 8) * 128 + d.val) : blk1 m c t (ix2 r d) = arg0 m c (ix2 i k) := by
  blk_ext [blk1, arg0, iblk, V, idx t]

def blk2 (c : Dev nD) (t : Fin cfg0.N) : FVec Ideal S256x128 .f32 := iblk m c 2 t
theorem blk2_at (c : Dev nD) (t : Fin cfg0.N) (r : Fin 256) (d : Fin 128) (i : Fin 32768) (k : Fin 15360)
    (hi : i.val = (t.val / 256 * 32 + t.val % 32) * 256 + r.val) (hk : k.val = (16 + t.val / 32 % 8) * 128 + d.val) : blk2 m c t (ix2 r d) = arg0 m c (ix2 i k) := by
  blk_ext [blk2, arg0, iblk, V, idx t]

def blk3 (c : Dev nD) (t : Fin cfg0.N) : FVec Ideal S256x128 .f32 := iblk m c 3 t
theorem blk3_at (c : Dev nD) (t : Fin cfg0.N) (r : Fin 256) (d : Fin 128) (i : Fin 32768) (k : Fin 15360)
    (hi : i.val = (t.val / 256 * 32 + t.val % 32) * 256 + r.val) (hk : k.val = (24 + t.val / 32 % 8) * 128 + d.val) : blk3 m c t (ix2 r d) = arg0 m c (ix2 i k) := by
  blk_ext [blk3, arg0, iblk, V, idx t]

def blk4 (c : Dev nD) (t : Fin cfg0.N) : FVec Ideal S256x128 .f32 := iblk m c 4 t
theorem blk4_at (c : Dev nD) (t : Fin cfg0.N) (r : Fin 256) (d : Fin 128) (i : Fin 32768) (k : Fin 15360)
    (hi : i.val = (t.val / 256 * 32 + t.val % 32) * 256 + r.val) (hk : k.val = 13824 + d.val) : blk4 m c t (ix2 r d) = arg0 m c (ix2 i k) := by
  blk_ext [blk4, arg0, iblk, V, idx t]

def blk5 (c : Dev nD) (t : Fin cfg0.N) : FVec Ideal S4x128 .f32 := iblk m c 5 t
theorem blk5_at (c : Dev nD) (t : Fin cfg0.N) (j : Fin 4) (d : Fin 128) (k : Fin 3072) (hk : k.val = t.val / 32 % 8 * 128 + d.val) :
    blk5 m c t (ix2 j d) = arg1 m c (ix2 j k) := by
  blk_ext [blk5, arg1, iblk, V, idx t]

def blk6 (c : Dev nD) (t : Fin cfg0.N) : FVec Ideal S4x128 .f32 := iblk m c 6 t
theorem blk6_at (c : Dev nD) (t : Fin cfg0.N) (j : Fin 4) (d : Fin 128) (k : Fin 3072) (hk : k.val = (8 + t.val / 32 % 8) * 128 + d.val) :
    blk6 m c t (ix2 j d) = arg1 m c (ix2 j k) := by
  blk_ext [blk6, arg1, iblk, V, idx t]

def blk7 (c : Dev nD) (t : Fin cfg0.N) : FVec Ideal S4x128 .f32 := iblk m c 7 t
theorem blk7_at (c : Dev nD) (t : Fin cfg0.N) (j : Fin 4) (d : Fin 128) (k : Fin 3072) (hk : k.val = (16 + t.val / 32 % 8) * 128 + d.val) :
    blk7 m c t (ix2 j d) = arg1 m c (ix2 j k) := by
  blk_ext [blk7, arg1, iblk, V, idx t]

def blk8 (c : Dev nD) (t : Fin cfg0.N) : FVec Ideal S1x128 .f32 := iblk m c 8 t
theorem blk8_at (c : Dev nD) (t : Fin cfg0.N) (h : Fin 8) : blk8 m c t (ix2 0 ⟨h.val, by omega⟩) = arg2 m c (ix1 h) := by
  have e : V m c main_v1 = shapeCast S1x128 (pad S128 ![0] ![120] ![0] (arg2 m c) (sitofp (F := Ideal) .f32 (constantI S_ 32 0#32)) pads_S8_S128_01200 h_S_) shapeCasts_S128_S1x128 := by
    simp only [V, List.flatten_cons, List.flatten_nil, List.append_nil, List.cons_append, List.nil_append, hostOps0]
    after_results
    try rfl
  refine Eq.trans (b := (show FVec Ideal S1x128 .f32 from V m c main_v1) (ix2 0 ⟨h.val, by omega⟩)) ?_ ?_
  · unfold blk8
    blk_ext [iblk, idx t]
  · rw [e]
    pointwise

def blk9 (c : Dev nD) (t : Fin cfg0.N) : FVec Ideal S1x128 .f32 := iblk m c 9 t
theorem blk9_at (c : Dev nD) (t : Fin cfg0.N) (h : Fin 8) : blk9 m c t (ix2 0 ⟨h.val, by omega⟩) = arg3 m c (ix1 h) := by
  have e : V m c main_v3 = shapeCast S1x128 (pad S128 ![0] ![120] ![0] (arg3 m c) (sitofp (F := Ideal) .f32 (constantI S_ 32 0#32)) pads_S8_S128_01200 h_S_) shapeCasts_S128_S1x128 := by
    simp only [V, List.flatten_cons, List.flatten_nil, List.append_nil, List.cons_append, List.nil_append, hostOps0]
    after_results
    try rfl
  refine Eq.trans (b := (show FVec Ideal S1x128 .f32 from V m c main_v3) (ix2 0 ⟨h.val, by omega⟩)) ?_ ?_
  · unfold blk9
    blk_ext [iblk, idx t]
  · rw [e]
    pointwise

def blk10 (c : Dev nD) (t : Fin cfg0.N) : FVec Ideal S1x128 .f32 := iblk m c 10 t
theorem blk10_at (c : Dev nD) (t : Fin cfg0.N) (x : Fin 128) : blk10 m c t (ix2 0 x) = arg4 m c (ix1 x) := by
  have e : V m c main_v4 = shapeCast S1x128 (arg4 m c) shapeCasts_S128_S1x128 := by
    simp only [V, List.flatten_cons, List.flatten_nil, List.append_nil, List.cons_append, List.nil_append, hostOps0]
    after_results
    try rfl
  refine Eq.trans (b := (show FVec Ideal S1x128 .f32 from V m c main_v4) (ix2 0 x)) ?_ ?_
  · unfold blk10
    blk_ext [iblk, idx t]
  · rw [e]
    pointwise

end Cert.DnIdeal.Value
-- ==== Proof.DnRows.lean ====
module

public import proofs.«01_k».proof.Proof.DnBlocks

/-!
The rows a tile filters: eight rows kept from the tile before, then the tile's own.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

variable {κ : Kind} {sp : Space} (v : View sig κ sp S264x128 .f32) (T : FVec Ideal S8x128 .f32) (X : FVec Ideal S256x128 .f32)
  (L : List (View.Piece (Elt Ideal) S264x128 .f32)) (hX : ∀ a, (![8, 0] : Fin 2 → ℕ) a + (![256, 128] : Fin 2 → ℕ) a ≤ S264x128.size a)
  (hT : ∀ a, (![0, 0] : Fin 2 → ℕ) a + (![8, 128] : Fin 2 → ℕ) a ≤ S264x128.size a)

theorem own_row (i : Fin 256) (d : Fin 128) :
    View.canon ((⟨Rect.unit ![8, 0] ![256, 128] hX, X⟩ : View.Piece (Elt Ideal) S264x128 .f32) :: L) (ix2 ⟨8 + i.val, by omega⟩ d) = X (ix2 i d) := by
  have e : (Rect.unit (s := S264x128) ![8, 0] ![256, 128] hX).emb (ix2 i d : S256x128.Idx) = ix2 ⟨8 + i.val, by omega⟩ d := by
    funext a
    fin_cases a
    · exact Fin.ext (by blk_simp; rfl)
    · exact Fin.ext (by blk_simp; rfl)
  rw [← e]
  exact View.canon_cons_emb _ _ L _

theorem kept_row (i : Fin 8) (d : Fin 128) :
    View.canon ((⟨Rect.unit ![8, 0] ![256, 128] hX, X⟩ : View.Piece (Elt Ideal) S264x128 .f32) :: ⟨Rect.unit ![0, 0] ![8, 128] hT, T⟩ :: L) (ix2 ⟨i.val, by omega⟩ d) = T (ix2 i d) := by
  have e : (Rect.unit (s := S264x128) ![0, 0] ![8, 128] hT).emb (ix2 i d : S8x128.Idx) = ix2 ⟨i.val, by omega⟩ d := by
    funext a
    fin_cases a
    · exact Fin.ext (by blk_simp; rfl)
    · exact Fin.ext (by blk_simp; rfl)
  rw [View.canon_cons_of_not_mem, ← e]
  · exact View.canon_cons_emb _ _ L _
  · intro hm
    have hh : 8 ≤ i.val := ((Rect.mem_set_unit (inb := hX)).mp hm 0).1
    omega

theorem read_row (o : ℕ) (ho : o ≤ 8) (hb : ∀ a, (![o, 0] : Fin 2 → ℕ) a + (![256, 128] : Fin 2 → ℕ) a ≤ S264x128.size a) (i : Fin 256) (d : Fin 128) :
    v.readCov ((⟨Rect.unit ![8, 0] ![256, 128] hX, X⟩ : View.Piece (Elt Ideal) S264x128 .f32) :: ⟨Rect.unit ![0, 0] ![8, 128] hT, T⟩ :: L)
        (Rect.unit (s := S264x128) ![o, 0] ![256, 128] hb).toLoadRect (ix2 i d : S256x128.Idx)
      = if h : o + i.val < 8 then T (ix2 ⟨o + i.val, h⟩ d) else X (ix2 ⟨o + i.val - 8, by omega⟩ d) := by
  have e : (Rect.unit (s := S264x128) ![o, 0] ![256, 128] hb).toLoadRect.idx (ix2 i d : S256x128.Idx) = ix2 ⟨o + i.val, by omega⟩ d := by
    funext a
    fin_cases a
    · exact Fin.ext (by show o + 1 * i.val = o + i.val; omega)
    · exact Fin.ext (by show 0 + 1 * d.val = d.val; omega)
  rw [View.readCov_eq_canon']
  refine (congrArg _ e).trans ?_
  by_cases h : o + i.val < 8
  · rw [dif_pos h]
    exact kept_row T X L hX hT ⟨o + i.val, h⟩ d
  · rw [dif_neg h]
    have f : (ix2 ⟨o + i.val, by omega⟩ d : S264x128.Idx) = ix2 ⟨8 + (o + i.val - 8), by omega⟩ d := by
      rw [ix2_inj]
      exact ⟨Fin.ext (by dsimp only; omega), rfl⟩
    rw [f]
    exact own_row X _ hX ⟨o + i.val - 8, by omega⟩ d

/-- What the filter's tap `j` sees of a tile that starts at token `n0`: the sequence `x`, `3 - j` tokens back. -/
theorem read_past (x : Fin 128 → ℕ → EReal) (n0 : ℕ) (eX : ∀ (i : Fin 256) (d : Fin 128), X (ix2 i d) = x d (n0 + i.val))
    (eT : ∀ (r : Fin 8) (d : Fin 128), 5 ≤ r.val → T (ix2 r d) = past (x d) n0 (r.val - 5)) (o j : ℕ) (ho : o = 5 + j) (hj : j < 4)
    (hb : ∀ a, (![o, 0] : Fin 2 → ℕ) a + (![256, 128] : Fin 2 → ℕ) a ≤ S264x128.size a) (i : Fin 256) (d : Fin 128) :
    v.readCov ((⟨Rect.unit ![8, 0] ![256, 128] hX, X⟩ : View.Piece (Elt Ideal) S264x128 .f32) :: ⟨Rect.unit ![0, 0] ![8, 128] hT, T⟩ :: L)
        (Rect.unit (s := S264x128) ![o, 0] ![256, 128] hb).toLoadRect (ix2 i d : S256x128.Idx) = past (x d) (n0 + i.val) j := by
  rw [read_row v T X L hX hT o (by omega)]
  unfold past at eT ⊢
  by_cases h : o + i.val < 8
  · rw [dif_pos h, eT _ _ (by dsimp only; omega)]
    dsimp only
    have e : n0 + (o + i.val - 5) = n0 + i.val + j := by omega
    rw [e]
  · rw [dif_neg h, eX, if_neg (by omega)]
    dsimp only
    have e : n0 + (o + i.val - 8) = n0 + i.val + j - 3 := by omega
    rw [e]

variable (W : FVec Ideal S4x128 .f32) (P : FVec Ideal S32768x15360 .f32) (C : FVec Ideal S4x3072 .f32) (a : Fin 4) (h : Fin 8) (n0 : ℕ)

theorem ld_row (W : Vec Ideal S4x128 .f32) (j : Fin 4) (hw : ∀ a, (![j.val, 0] : Fin 2 → ℕ) a + (![1, 128] : Fin 2 → ℕ) a ≤ S4x128.size a) (d : Fin 128) :
    View.ld W (Rect.unit (s := S4x128) ![j.val, 0] ![1, 128] hw) (ix2 0 d : S1x128.Idx) = W (ix2 j d) := by
  have e : (Rect.unit (s := S4x128) ![j.val, 0] ![1, 128] hw).idx (ix2 0 d : S1x128.Idx) = ix2 j d := by
    funext a
    fin_cases a
    · exact Fin.ext (by show j.val + 1 * 0 = j.val; omega)
    · exact Fin.ext (by show 0 + 1 * d.val = d.val; omega)
  rw [View.ld_apply]
  exact congrArg W e

theorem pay7 (X : FVec Ideal S256x128 .f32) : k0_pay7 X = X := by funext i; idx_vars i; pointwise [k0_pay7]
theorem pay11 (X : FVec Ideal S256x128 .f32) : k0_pay11 X = X := by funext i; idx_vars i; pointwise [k0_pay11]
theorem pay15 (X : FVec Ideal S256x128 .f32) : k0_pay15 X = X := by funext i; idx_vars i; pointwise [k0_pay15]
theorem pay6 (X : FVec Ideal S8x128 .f32) : k0_pay6 X = X := by funext i; idx_vars i; pointwise [k0_pay6]
theorem pay10 (X : FVec Ideal S8x128 .f32) : k0_pay10 X = X := by funext i; idx_vars i; pointwise [k0_pay10]
theorem pay14 (X : FVec Ideal S8x128 .f32) : k0_pay14 X = X := by funext i; idx_vars i; pointwise [k0_pay14]
theorem pay3 (i) : k0_pay3 (F := Ideal) i = (0 : EReal) := by pointwise [k0_pay3]
theorem pay4 (i) : k0_pay4 (F := Ideal) i = (0 : EReal) := by pointwise [k0_pay4]
theorem pay5 (i) : k0_pay5 (F := Ideal) i = (0 : EReal) := by pointwise [k0_pay5]
theorem pay2 : k0_pay2 (F := Ideal) = up (φ := .f32) 0 := by
  funext i
  idx_vars i
  pointwise [k0_pay2, up]
  rfl

/-- The rows before a tile, eight at its own block's end, seen from the tile after it. -/
theorem tail_past (x : Fin 128 → ℕ → EReal) (n0 : ℕ) (B : FVec Ideal S256x128 .f32) (eB : ∀ (i : Fin 256) (d : Fin 128), B (ix2 i d) = x d (n0 + i.val))
    (r : Fin 8) (d : Fin 128) (hr : 5 ≤ r.val) : B (ix2 ⟨248 + r.val, by omega⟩ d) = past (x d) (n0 + 256) (r.val - 5) := by
  unfold past
  rw [eB, if_neg (by omega)]
  dsimp only
  have e : n0 + (248 + r.val) = n0 + 256 + (r.val - 5) - 3 := by omega
  rw [e]

theorem first_past (x : ℕ → EReal) (r : Fin 8) (hr : 5 ≤ r.val) : (0 : EReal) = past x 0 (r.val - 5) := by
  unfold past
  rw [if_pos (by omega)]

/-- A row's filtered and gated entries. -/
theorem tap_acts (o : Fin 3) (n : ℕ) (w0 w1 w2 w3 : FVec Ideal S1x128 .f32) (x5 x6 x7 x8 : FVec Ideal S256x128 .f32) (i : Fin 256)
    (e0 : ∀ d, w0 (ix2 0 d) = C (ix2 0 ⟨o.val * 1024 + h.val * 128 + d.val, by omega⟩)) (e1 : ∀ d, w1 (ix2 0 d) = C (ix2 1 ⟨o.val * 1024 + h.val * 128 + d.val, by omega⟩))
    (e2 : ∀ d, w2 (ix2 0 d) = C (ix2 2 ⟨o.val * 1024 + h.val * 128 + d.val, by omega⟩)) (e3 : ∀ d, w3 (ix2 0 d) = C (ix2 3 ⟨o.val * 1024 + h.val * 128 + d.val, by omega⟩))
    (f5 : ∀ d, x5 (ix2 i d) = past (col P a ⟨o.val * 1024 + h.val * 128 + d.val, by omega⟩) n 0) (f6 : ∀ d, x6 (ix2 i d) = past (col P a ⟨o.val * 1024 + h.val * 128 + d.val, by omega⟩) n 1)
    (f7 : ∀ d, x7 (ix2 i d) = past (col P a ⟨o.val * 1024 + h.val * 128 + d.val, by omega⟩) n 2) (f8 : ∀ d, x8 (ix2 i d) = past (col P a ⟨o.val * 1024 + h.val * 128 + d.val, by omega⟩) n 3) :
    tap w0 w1 w2 w3 x5 x6 x7 x8 i = acts P C a h o n := by
  funext d
  unfold tap acts conv
  rw [e0, e1, e2, e3, f5, f6, f7, f8]

/-- A row of the output's upper half is a row of the second piece, one of its lower half a row of the first. -/
theorem high_row (X Y : FVec Ideal S128x128 .bf16) (L : List (View.Piece (Elt Ideal) S256x128 .bf16))
    (hX : ∀ a, (![128, 0] : Fin 2 → ℕ) a + (![128, 128] : Fin 2 → ℕ) a ≤ S256x128.size a) (i d : Fin 128) :
    View.canon ((⟨Rect.unit ![128, 0] ![128, 128] hX, X⟩ : View.Piece (Elt Ideal) S256x128 .bf16) :: L) (ix2 ⟨128 + i.val, by omega⟩ d) = X (ix2 i d) := by
  have e : (ix2 ⟨128 + i.val, by omega⟩ d : S256x128.Idx) = (Rect.unit (s := S256x128) ![128, 0] ![128, 128] hX).emb (ix2 i d : S128x128.Idx) := by
    funext a
    fin_cases a
    · exact Fin.ext (by show 128 + i.val = 128 + 1 * i.val; omega)
    · exact Fin.ext (by show d.val = 0 + 1 * d.val; omega)
  rw [e]
  exact View.canon_cons_emb (Rect.unit (s := S256x128) ![128, 0] ![128, 128] hX) X L _

theorem low_row (X Y : FVec Ideal S128x128 .bf16) (L : List (View.Piece (Elt Ideal) S256x128 .bf16))
    (hX : ∀ a, (![128, 0] : Fin 2 → ℕ) a + (![128, 128] : Fin 2 → ℕ) a ≤ S256x128.size a)
    (hY : ∀ a, (![0, 0] : Fin 2 → ℕ) a + (![128, 128] : Fin 2 → ℕ) a ≤ S256x128.size a) (i d : Fin 128) :
    View.canon ((⟨Rect.unit ![128, 0] ![128, 128] hX, X⟩ : View.Piece (Elt Ideal) S256x128 .bf16) :: ⟨Rect.unit ![0, 0] ![128, 128] hY, Y⟩ :: L)
      (ix2 ⟨i.val, by omega⟩ d) = Y (ix2 i d) := by
  rw [View.canon_cons_of_not_mem]
  · have e : (ix2 ⟨i.val, by omega⟩ d : S256x128.Idx) = (Rect.unit (s := S256x128) ![0, 0] ![128, 128] hY).emb (ix2 i d : S128x128.Idx) := by
      funext a
      fin_cases a
      · exact Fin.ext (by show i.val = 0 + 1 * i.val; omega)
      · exact Fin.ext (by show d.val = 0 + 1 * d.val; omega)
    rw [e]
    exact View.canon_cons_emb (Rect.unit (s := S256x128) ![0, 0] ![128, 128] hY) Y L _
  · intro hm
    have hh : 128 ≤ i.val := ((Rect.mem_set_unit (inb := hX)).mp hm 0).1
    omega

end Cert.DnIdeal.Value
-- ==== Proof.DnRun.lean ====
module

public import proofs.«01_k».proof.Proof.DnRows
public import proofs.«01_k».proof.Proof.DnStep
public import proofs.«01_k».proof.Proof.DnConv
public import proofs.«01_k».proof.Proof.DnBlocks

/-!
A grid point of the kernel: its 256 tokens take the recurrence's state at its first token to the state after its last, and
its output rows are the recurrence's own. The filters look three tokens back, into the tail kept of the tile before.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

section tiles

variable (P : FVec Ideal S32768x15360 .f32) (C : FVec Ideal S4x3072 .f32) (L D : FVec Ideal S8 .f32) (a : Fin 4) (h : Fin 8) (n0 : ℕ)

/-- The projection's column that feeds entry `d` of part `o`. -/
abbrev xs (o : Fin 3) (d : Fin 128) : ℕ → EReal := col P a ⟨o.val * 1024 + h.val * 128 + d.val, by omega⟩
/-- Its filter. -/
abbrev ws (o : Fin 3) (j : Fin 4) (d : Fin 128) : EReal := C (ix2 j ⟨o.val * 1024 + h.val * 128 + d.val, by omega⟩)

variable (w0 w1 w2 w3 : FVec Ideal S1x128 .f32) (x5 x6 x7 x8 : FVec Ideal S256x128 .f32)

/-- The registers of a part's filter: its four weights and the four shifted reads. -/
structure Taps (o : Fin 3) : Prop where
  e0 : ∀ d, w0 (ix2 0 d) = ws C h o 0 d
  e1 : ∀ d, w1 (ix2 0 d) = ws C h o 1 d
  e2 : ∀ d, w2 (ix2 0 d) = ws C h o 2 d
  e3 : ∀ d, w3 (ix2 0 d) = ws C h o 3 d
  f5 : ∀ (i : Fin 256) (d : Fin 128), x5 (ix2 i d) = past (xs P a h o d) (n0 + i.val) 0
  f6 : ∀ (i : Fin 256) (d : Fin 128), x6 (ix2 i d) = past (xs P a h o d) (n0 + i.val) 1
  f7 : ∀ (i : Fin 256) (d : Fin 128), x7 (ix2 i d) = past (xs P a h o d) (n0 + i.val) 2
  f8 : ∀ (i : Fin 256) (d : Fin 128), x8 (ix2 i d) = past (xs P a h o d) (n0 + i.val) 3

variable {P C a h n0 w0 w1 w2 w3 x5 x6 x7 x8}

theorem Taps.row {o : Fin 3} (s : Taps P C a h n0 w0 w1 w2 w3 x5 x6 x7 x8 o) (i : Fin 256) :
    tap w0 w1 w2 w3 x5 x6 x7 x8 i = acts P C a h o (n0 + i.val) :=
  tap_acts P C a h o (n0 + i.val) w0 w1 w2 w3 x5 x6 x7 x8 i s.e0 s.e1 s.e2 s.e3 (s.f5 i) (s.f6 i) (s.f7 i) (s.f8 i)

theorem q_tile (s : Taps P C a h n0 w0 w1 w2 w3 x5 x6 x7 x8 0) :
    k0_pay19 (F := Ideal) (k0_pay9 (k0_pay8 w0 x5 w1 x6 w2 x7) w3 x8) = ut fun i => qR P C a h (n0 + i) := by
  funext j
  idx_vars j
  rw [q_at, s.row]
  exact qE_eq P C a h (n0 + j0.val) j1

theorem k_tile (s : Taps P C a h n0 w0 w1 w2 w3 x5 x6 x7 x8 1) :
    k0_pay20 (F := Ideal) (k0_pay13 (k0_pay12 w0 x5 w1 x6 w2 x7) w3 x8) = ut fun i => kR P C a h (n0 + i) := by
  funext j
  idx_vars j
  rw [k_at, s.row]
  exact kE_eq P C a h (n0 + j0.val) j1

variable {L D}

theorem v_tile (t : Tame P C L D) (s : Taps P C a h n0 w0 w1 w2 w3 x5 x6 x7 x8 2) :
    k0_pay18 (F := Ideal) (k0_pay16 w0 x5 w1 x6 w2 x7) (k0_pay17 w3 x8) = ut fun i => vR P C a h (n0 + i) := by
  funext j
  idx_vars j
  rw [v_at, s.row]
  exact vE_eq a h t (n0 + j0.val) j1

variable (ab : FVec Ideal S256x128 .f32) (al dt : FVec Ideal S1x128 .f32) (hi : S256x128.Iotas .tc 32 [1])

theorem g_tile (t : Tame P C L D) (el : al (ix2 0 ⟨h.val, by omega⟩) = L (ix1 h)) (ed : dt (ix2 0 ⟨h.val, by omega⟩) = D (ix1 h))
    (ea : ∀ i : Fin 256, ab (ix2 i ⟨h.val, by omega⟩) = col P a ⟨13824 + h.val, by omega⟩ (n0 + i.val)) :
    k0_pay23 (F := Ideal) (iota .tc S256x128 32 [1] hi) (k0_pay21 ab al dt) (k0_pay22 (BitVec.ofNat 32 h.val)) = utc fun i => gR P L D a h (n0 + i) := by
  funext j
  idx_vars j
  obtain rfl : j1 = 0 := Subsingleton.elim _ _
  rw [g_at, el, ed, ea]
  exact gE_eq a h t (n0 + j0.val)

theorem b_tile (ea : ∀ i : Fin 256, ab (ix2 i ⟨8 + h.val, by omega⟩) = col P a ⟨13832 + h.val, by omega⟩ (n0 + i.val)) :
    k0_pay24 (F := Ideal) (BitVec.ofNat 32 h.val) ab (iota .tc S256x128 32 [1] hi) = utc fun i => bR P a h (n0 + i) := by
  funext j
  idx_vars j
  obtain rfl : j1 = 0 := Subsingleton.elim _ _
  rw [b_at, ea]
  exact bE_eq P a h (n0 + j0.val)

theorem pay31 (X : FVec Ideal S1x128 .f32) : k0_pay31 X = X := by funext i; idx_vars i; pointwise [k0_pay31]

theorem ld_tail (B : Vec Ideal S264x128 .f32) (hw : ∀ a, (![256, 0] : Fin 2 → ℕ) a + (![8, 128] : Fin 2 → ℕ) a ≤ S264x128.size a) (r : Fin 8) (d : Fin 128) :
    View.ld B (Rect.unit (s := S264x128) ![256, 0] ![8, 128] hw) (ix2 r d : S8x128.Idx) = B (ix2 ⟨256 + r.val, by omega⟩ d) := by
  have e : (Rect.unit (s := S264x128) ![256, 0] ![8, 128] hw).idx (ix2 r d : S8x128.Idx) = ix2 ⟨256 + r.val, by omega⟩ d := by
    funext a
    fin_cases a
    · exact Fin.ext (by show 256 + 1 * r.val = 256 + r.val; omega)
    · exact Fin.ext (by show 0 + 1 * d.val = d.val; omega)
  rw [View.ld_apply]
  exact congrArg B e

end tiles

variable (m : (ℓ : Loc nD τ sig) → Buf (Elt Ideal) ℓ) (c : Dev nD) (t : Fin cfg0.N)

theorem blk0_col (a : Fin 4) (h : Fin 8) (n0 : ℕ) (ha : a.val = t.val / 256) (hh : h.val = t.val / 32 % 8) (hn : n0 = t.val % 32 * 256) (i : Fin 256) (d : Fin 128) :
    blk0 m c t (ix2 i d) = xs (arg0 m c) a h 0 d (n0 + i.val) := by
  show _ = col _ _ _ _
  unfold col
  rw [dif_pos (by omega)]
  exact blk0_at m c t i d _ _ (by show a.val * 8192 + (n0 + i.val) = _; omega) (by show 0 * 1024 + h.val * 128 + d.val = _; omega)

theorem blk5_ws (h : Fin 8) (hh : h.val = t.val / 32 % 8) (j : Fin 4) (d : Fin 128) : blk5 m c t (ix2 j d) = ws (arg1 m c) h 0 j d :=
  blk5_at m c t j d _ (by show 0 * 1024 + h.val * 128 + d.val = _; omega)

theorem tail0A (h0 : t.val % 32 = 0) (r : Fin 8) (d : Fin 128) :
    (outsAt0 m c t.val t.isLt).2.1 (ix2 ⟨256 + r.val, by omega⟩ d) = blk0 m c t (ix2 ⟨248 + r.val, by omega⟩ d) := by
  have e : (ix2 ⟨256 + r.val, by omega⟩ d : S264x128.Idx) = ix2 ⟨8 + (⟨248 + r.val, by omega⟩ : Fin 256).val, by omega⟩ d :=
    congrArg (fun x => ix2 x d) (Fin.ext (by show 256 + r.val = 8 + (248 + r.val); omega))
  rw [outsAt0_A m c t h0]
  frame_out
  rw [e]
  refine (own_row _ _ _ _ d).trans ?_
  exact congrFun (pay7 _) _

theorem tail0B (h0 : ¬ t.val % 32 = 0) (r : Fin 8) (d : Fin 128) :
    (outsAt0 m c t.val t.isLt).2.1 (ix2 ⟨256 + r.val, by omega⟩ d) = blk0 m c t (ix2 ⟨248 + r.val, by omega⟩ d) := by
  have e : (ix2 ⟨256 + r.val, by omega⟩ d : S264x128.Idx) = ix2 ⟨8 + (⟨248 + r.val, by omega⟩ : Fin 256).val, by omega⟩ d :=
    congrArg (fun x => ix2 x d) (Fin.ext (by show 256 + r.val = 8 + (248 + r.val); omega))
  rw [outsAt0_B m c t h0]
  frame_out
  rw [e]
  refine (own_row _ _ _ _ d).trans ?_
  exact congrFun (pay7 _) _

/-- The last rows that point `t` leaves in its buffer are its block's last rows. -/
theorem tail0 (r : Fin 8) (d : Fin 128) :
    (outsAt0 m c t.val t.isLt).2.1 (ix2 ⟨256 + r.val, by omega⟩ d) = blk0 m c t (ix2 ⟨248 + r.val, by omega⟩ d) := by
  by_cases h0 : t.val % 32 = 0
  · exact tail0A m c t h0 r d
  · exact tail0B m c t h0 r d

theorem blk1_col (a : Fin 4) (h : Fin 8) (n0 : ℕ) (ha : a.val = t.val / 256) (hh : h.val = t.val / 32 % 8) (hn : n0 = t.val % 32 * 256) (i : Fin 256) (d : Fin 128) :
    blk1 m c t (ix2 i d) = xs (arg0 m c) a h 1 d (n0 + i.val) := by
  show _ = col _ _ _ _
  unfold col
  rw [dif_pos (by omega)]
  exact blk1_at m c t i d _ _ (by show a.val * 8192 + (n0 + i.val) = _; omega) (by show 1 * 1024 + h.val * 128 + d.val = _; omega)

theorem blk6_ws (h : Fin 8) (hh : h.val = t.val / 32 % 8) (j : Fin 4) (d : Fin 128) : blk6 m c t (ix2 j d) = ws (arg1 m c) h 1 j d :=
  blk6_at m c t j d _ (by show 1 * 1024 + h.val * 128 + d.val = _; omega)

theorem tail1A (h0 : t.val % 32 = 0) (r : Fin 8) (d : Fin 128) :
    (outsAt0 m c t.val t.isLt).2.2.1 (ix2 ⟨256 + r.val, by omega⟩ d) = blk1 m c t (ix2 ⟨248 + r.val, by omega⟩ d) := by
  have e : (ix2 ⟨256 + r.val, by omega⟩ d : S264x128.Idx) = ix2 ⟨8 + (⟨248 + r.val, by omega⟩ : Fin 256).val, by omega⟩ d :=
    congrArg (fun x => ix2 x d) (Fin.ext (by show 256 + r.val = 8 + (248 + r.val); omega))
  rw [outsAt0_A m c t h0]
  frame_out
  rw [e]
  refine (own_row _ _ _ _ d).trans ?_
  exact congrFun (pay11 _) _

theorem tail1B (h0 : ¬ t.val % 32 = 0) (r : Fin 8) (d : Fin 128) :
    (outsAt0 m c t.val t.isLt).2.2.1 (ix2 ⟨256 + r.val, by omega⟩ d) = blk1 m c t (ix2 ⟨248 + r.val, by omega⟩ d) := by
  have e : (ix2 ⟨256 + r.val, by omega⟩ d : S264x128.Idx) = ix2 ⟨8 + (⟨248 + r.val, by omega⟩ : Fin 256).val, by omega⟩ d :=
    congrArg (fun x => ix2 x d) (Fin.ext (by show 256 + r.val = 8 + (248 + r.val); omega))
  rw [outsAt0_B m c t h0]
  frame_out
  rw [e]
  refine (own_row _ _ _ _ d).trans ?_
  exact congrFun (pay11 _) _

/-- The last rows that point `t` leaves in its buffer are its block's last rows. -/
theorem tail1 (r : Fin 8) (d : Fin 128) :
    (outsAt0 m c t.val t.isLt).2.2.1 (ix2 ⟨256 + r.val, by omega⟩ d) = blk1 m c t (ix2 ⟨248 + r.val, by omega⟩ d) := by
  by_cases h0 : t.val % 32 = 0
  · exact tail1A m c t h0 r d
  · exact tail1B m c t h0 r d

theorem blk2_col (a : Fin 4) (h : Fin 8) (n0 : ℕ) (ha : a.val = t.val / 256) (hh : h.val = t.val / 32 % 8) (hn : n0 = t.val % 32 * 256) (i : Fin 256) (d : Fin 128) :
    blk2 m c t (ix2 i d) = xs (arg0 m c) a h 2 d (n0 + i.val) := by
  show _ = col _ _ _ _
  unfold col
  rw [dif_pos (by omega)]
  exact blk2_at m c t i d _ _ (by show a.val * 8192 + (n0 + i.val) = _; omega) (by show 2 * 1024 + h.val * 128 + d.val = _; omega)

theorem blk7_ws (h : Fin 8) (hh : h.val = t.val / 32 % 8) (j : Fin 4) (d : Fin 128) : blk7 m c t (ix2 j d) = ws (arg1 m c) h 2 j d :=
  blk7_at m c t j d _ (by show 2 * 1024 + h.val * 128 + d.val = _; omega)

theorem tail2A (h0 : t.val % 32 = 0) (r : Fin 8) (d : Fin 128) :
    (outsAt0 m c t.val t.isLt).2.2.2.1 (ix2 ⟨256 + r.val, by omega⟩ d) = blk2 m c t (ix2 ⟨248 + r.val, by omega⟩ d) := by
  have e : (ix2 ⟨256 + r.val, by omega⟩ d : S264x128.Idx) = ix2 ⟨8 + (⟨248 + r.val, by omega⟩ : Fin 256).val, by omega⟩ d :=
    congrArg (fun x => ix2 x d) (Fin.ext (by show 256 + r.val = 8 + (248 + r.val); omega))
  rw [outsAt0_A m c t h0]
  frame_out
  rw [e]
  refine (own_row _ _ _ _ d).trans ?_
  exact congrFun (pay15 _) _

theorem tail2B (h0 : ¬ t.val % 32 = 0) (r : Fin 8) (d : Fin 128) :
    (outsAt0 m c t.val t.isLt).2.2.2.1 (ix2 ⟨256 + r.val, by omega⟩ d) = blk2 m c t (ix2 ⟨248 + r.val, by omega⟩ d) := by
  have e : (ix2 ⟨256 + r.val, by omega⟩ d : S264x128.Idx) = ix2 ⟨8 + (⟨248 + r.val, by omega⟩ : Fin 256).val, by omega⟩ d :=
    congrArg (fun x => ix2 x d) (Fin.ext (by show 256 + r.val = 8 + (248 + r.val); omega))
  rw [outsAt0_B m c t h0]
  frame_out
  rw [e]
  refine (own_row _ _ _ _ d).trans ?_
  exact congrFun (pay15 _) _

/-- The last rows that point `t` leaves in its buffer are its block's last rows. -/
theorem tail2 (r : Fin 8) (d : Fin 128) :
    (outsAt0 m c t.val t.isLt).2.2.2.1 (ix2 ⟨256 + r.val, by omega⟩ d) = blk2 m c t (ix2 ⟨248 + r.val, by omega⟩ d) := by
  by_cases h0 : t.val % 32 = 0
  · exact tail2A m c t h0 r d
  · exact tail2B m c t h0 r d

theorem blk4_dec (a : Fin 4) (h : Fin 8) (n0 : ℕ) (ha : a.val = t.val / 256) (hn : n0 = t.val % 32 * 256) (i : Fin 256) :
    blk4 m c t (ix2 i ⟨h.val, by omega⟩) = col (arg0 m c) a ⟨13824 + h.val, by omega⟩ (n0 + i.val) := by
  unfold col
  rw [dif_pos (by omega)]
  exact blk4_at m c t i _ _ _ (by show a.val * 8192 + (n0 + i.val) = _; omega) rfl

theorem blk4_rate (a : Fin 4) (h : Fin 8) (n0 : ℕ) (ha : a.val = t.val / 256) (hn : n0 = t.val % 32 * 256) (i : Fin 256) :
    blk4 m c t (ix2 i ⟨8 + h.val, by omega⟩) = col (arg0 m c) a ⟨13832 + h.val, by omega⟩ (n0 + i.val) := by
  unfold col
  rw [dif_pos (by omega)]
  exact blk4_at m c t i _ _ _ (by show a.val * 8192 + (n0 + i.val) = _; omega) (by show 13832 + h.val = 13824 + (8 + h.val); omega)

theorem half (i : Fin 256) : (∃ j : Fin 128, i = ⟨j.val, by omega⟩) ∨ ∃ j : Fin 128, i = ⟨128 + j.val, by omega⟩ := by
  by_cases hi : i.val < 128
  · exact Or.inl ⟨⟨i.val, hi⟩, rfl⟩
  · exact Or.inr ⟨⟨i.val - 128, by omega⟩, Fin.ext (by show i.val = 128 + (i.val - 128); omega)⟩

/-- The recurrence's state before token `n`. -/
abbrev run (a : Fin 4) (h : Fin 8) : ℕ → Sq :=
  states (kR (arg0 m c) (arg1 m c) a h) (vR (arg0 m c) (arg1 m c) a h) (bR (arg0 m c) a h) (gR (arg0 m c) (arg2 m c) (arg3 m c) a h) 0

variable {m c t}
variable (tm : Tame (arg0 m c) (arg1 m c) (arg2 m c) (arg3 m c)) (a : Fin 4) (h : Fin 8) (n0 : ℕ) (ha : a.val = t.val / 256) (hh : h.val = t.val / 32 % 8)

include tm ha hh in
theorem stateA (h0 : t.val % 32 = 0) (hn : n0 = t.val % 32 * 256) :
    (outsAt0 m c t.val t.isLt).2.2.2.2 = up (φ := .f32) (run m c a h (n0 + 256)) := by
  obtain rfl : n0 = 0 := by omega
  have ec : (grid0.coords t 1).val = h.val := by rw [hh]; exact (idx t).2.2.2.2.2.2.2.2.2.2.2.2.1
  rw [outsAt0_A m c t h0]
  frame_out
  generalize hT1 : k0_pay10 (F := Ideal) _ = T1
  generalize hT2 : k0_pay14 (F := Ideal) _ = T2
  have eT1 : ∀ (r : Fin 8) (d : Fin 128), 5 ≤ r.val → T1 (ix2 r d) = past (xs (arg0 m c) a h 1 d) 0 (r.val - 5) := fun r d hr => by
    rw [← hT1, pay10, View.readCov_cons_toLoadRect]
    exact (pay4 _).trans (first_past _ r hr)
  have eT2 : ∀ (r : Fin 8) (d : Fin 128), 5 ≤ r.val → T2 (ix2 r d) = past (xs (arg0 m c) a h 2 d) 0 (r.val - 5) := fun r d hr => by
    rw [← hT2, pay14, View.readCov_cons_toLoadRect]
    exact (pay5 _).trans (first_past _ r hr)
  clear hT1 hT2
  generalize hk : k0_pay20 (F := Ideal) _ = kk
  generalize hv : k0_pay18 (F := Ideal) _ _ = vv
  generalize hg2 : k0_pay36 (F := Ideal) _ _ _ = gg2
  generalize hg3 : k0_pay37 (F := Ideal) _ _ _ = gg3
  generalize hg : k0_pay23 (F := Ideal) _ _ _ = gg
  generalize hb2 : k0_pay35 (F := Ideal) _ _ _ = bb2
  generalize hb : k0_pay24 (F := Ideal) _ _ _ = bb
  have ek : kk = ut fun i => kR (arg0 m c) (arg1 m c) a h (0 + i) := by
    rw [← hk]
    have eX : ∀ (i : Fin 256) (d : Fin 128), k0_pay11 (iblk m c 1 t) (ix2 i d) = xs (arg0 m c) a h 1 d (0 + i.val) := fun i d =>
      (congrFun (pay11 _) _).trans (blk1_col m c t a h 0 ha hh (by omega) i d)
    refine k_tile ⟨fun d => ?_, fun d => ?_, fun d => ?_, fun d => ?_, fun i d => ?_, fun i d => ?_, fun i d => ?_, fun i d => ?_⟩
    · exact (ld_row _ 0 _ d).trans (blk6_ws m c t h hh 0 d)
    · exact (ld_row _ 1 _ d).trans (blk6_ws m c t h hh 1 d)
    · exact (ld_row _ 2 _ d).trans (blk6_ws m c t h hh 2 d)
    · exact (ld_row _ 3 _ d).trans (blk6_ws m c t h hh 3 d)
    · exact read_past _ _ _ _ _ _ (xs (arg0 m c) a h 1) 0 eX eT1 5 0 rfl (by omega) _ i d
    · exact read_past _ _ _ _ _ _ (xs (arg0 m c) a h 1) 0 eX eT1 6 1 rfl (by omega) _ i d
    · exact read_past _ _ _ _ _ _ (xs (arg0 m c) a h 1) 0 eX eT1 7 2 rfl (by omega) _ i d
    · exact read_past _ _ _ _ _ _ (xs (arg0 m c) a h 1) 0 eX eT1 8 3 rfl (by omega) _ i d
  have ev : vv = ut fun i => vR (arg0 m c) (arg1 m c) a h (0 + i) := by
    rw [← hv]
    have eX : ∀ (i : Fin 256) (d : Fin 128), k0_pay15 (iblk m c 2 t) (ix2 i d) = xs (arg0 m c) a h 2 d (0 + i.val) := fun i d =>
      (congrFun (pay15 _) _).trans (blk2_col m c t a h 0 ha hh (by omega) i d)
    refine v_tile tm ⟨fun d => ?_, fun d => ?_, fun d => ?_, fun d => ?_, fun i d => ?_, fun i d => ?_, fun i d => ?_, fun i d => ?_⟩
    · exact (ld_row _ 0 _ d).trans (blk7_ws m c t h hh 0 d)
    · exact (ld_row _ 1 _ d).trans (blk7_ws m c t h hh 1 d)
    · exact (ld_row _ 2 _ d).trans (blk7_ws m c t h hh 2 d)
    · exact (ld_row _ 3 _ d).trans (blk7_ws m c t h hh 3 d)
    · exact read_past _ _ _ _ _ _ (xs (arg0 m c) a h 2) 0 eX eT2 5 0 rfl (by omega) _ i d
    · exact read_past _ _ _ _ _ _ (xs (arg0 m c) a h 2) 0 eX eT2 6 1 rfl (by omega) _ i d
    · exact read_past _ _ _ _ _ _ (xs (arg0 m c) a h 2) 0 eX eT2 7 2 rfl (by omega) _ i d
    · exact read_past _ _ _ _ _ _ (xs (arg0 m c) a h 2) 0 eX eT2 8 3 rfl (by omega) _ i d
  have eg : gg = utc fun i => gR (arg0 m c) (arg2 m c) (arg3 m c) a h (0 + i) := by
    rw [← hg, ec]
    exact g_tile _ _ _ _ tm (blk8_at m c t h) (blk9_at m c t h) (blk4_dec m c t a h 0 ha (by omega))
  have eb : bb = utc fun i => bR (arg0 m c) a h (0 + i) := by
    rw [← hb, ec]
    exact b_tile _ _ (blk4_rate m c t a h 0 ha (by omega))
  have eg2 := (gg2_ut _ _ _ _ (hg.trans eg)).symm.trans hg2
  have eg3 := (gg3_ut _ _ _ _ (hg.trans eg)).symm.trans hg3
  have eb2 := (bb2_ut _ _ _ _ (hb.trans eb)).symm.trans hb2
  clear hk hv hg hb hg2 hg3 hb2
  subst ek ev eg eb
  rw [← eg2, ← eg3, ← eb2]
  clear eg2 eg3 eb2
  rw [pay2]
  refine (tile_state (fun i => kR (arg0 m c) (arg1 m c) a h (0 + i)) (fun i => vR (arg0 m c) (arg1 m c) a h (0 + i)) (fun i => bR (arg0 m c) a h (0 + i)) (fun i => gR (arg0 m c) (arg2 m c) (arg3 m c) a h (0 + i)) 0).trans (congrArg up ?_)
  exact (states_add _ _ _ _ 0 0 256).symm

include tm ha hh in
theorem rowsA (h0 : t.val % 32 = 0) (hn : n0 = t.val % 32 * 256) (i : Fin 256) (e : Fin 128) :
    (outsAt0 m c t.val t.isLt).1 (ix2 i e)
      = gate (fun x => ((∑ d, run m c a h (n0 + (i.val + 1)) d x * qR (arg0 m c) (arg1 m c) a h (n0 + i.val) d : ℝ) : EReal)) (arg4 m c (ix1 e)) (blk3 m c t (ix2 i e)) e := by
  obtain rfl : n0 = 0 := by omega
  have ec : (grid0.coords t 1).val = h.val := by rw [hh]; exact (idx t).2.2.2.2.2.2.2.2.2.2.2.2.1
  rw [outsAt0_A m c t h0]
  frame_out
  generalize hT0 : k0_pay6 (F := Ideal) _ = T0
  generalize hT1 : k0_pay10 (F := Ideal) _ = T1
  generalize hT2 : k0_pay14 (F := Ideal) _ = T2
  have eT0 : ∀ (r : Fin 8) (d : Fin 128), 5 ≤ r.val → T0 (ix2 r d) = past (xs (arg0 m c) a h 0 d) 0 (r.val - 5) := fun r d hr => by
    rw [← hT0, pay6, View.readCov_cons_toLoadRect]
    exact (pay3 _).trans (first_past _ r hr)
  have eT1 : ∀ (r : Fin 8) (d : Fin 128), 5 ≤ r.val → T1 (ix2 r d) = past (xs (arg0 m c) a h 1 d) 0 (r.val - 5) := fun r d hr => by
    rw [← hT1, pay10, View.readCov_cons_toLoadRect]
    exact (pay4 _).trans (first_past _ r hr)
  have eT2 : ∀ (r : Fin 8) (d : Fin 128), 5 ≤ r.val → T2 (ix2 r d) = past (xs (arg0 m c) a h 2 d) 0 (r.val - 5) := fun r d hr => by
    rw [← hT2, pay14, View.readCov_cons_toLoadRect]
    exact (pay5 _).trans (first_past _ r hr)
  clear hT1 hT2 hT0
  generalize hq : k0_pay19 (F := Ideal) _ = qq
  generalize hk : k0_pay20 (F := Ideal) _ = kk
  generalize hv : k0_pay18 (F := Ideal) _ _ = vv
  generalize hg2 : k0_pay36 (F := Ideal) _ _ _ = gg2
  generalize hg3 : k0_pay37 (F := Ideal) _ _ _ = gg3
  generalize hg : k0_pay23 (F := Ideal) _ _ _ = gg
  generalize hb2 : k0_pay35 (F := Ideal) _ _ _ = bb2
  generalize hb : k0_pay24 (F := Ideal) _ _ _ = bb
  have eq : qq = ut fun i => qR (arg0 m c) (arg1 m c) a h (0 + i) := by
    rw [← hq]
    have eX : ∀ (i : Fin 256) (d : Fin 128), k0_pay7 (iblk m c 0 t) (ix2 i d) = xs (arg0 m c) a h 0 d (0 + i.val) := fun i d =>
      (congrFun (pay7 _) _).trans (blk0_col m c t a h 0 ha hh (by omega) i d)
    refine q_tile ⟨fun d => ?_, fun d => ?_, fun d => ?_, fun d => ?_, fun i d => ?_, fun i d => ?_, fun i d => ?_, fun i d => ?_⟩
    · exact (ld_row _ 0 _ d).trans (blk5_ws m c t h hh 0 d)
    · exact (ld_row _ 1 _ d).trans (blk5_ws m c t h hh 1 d)
    · exact (ld_row _ 2 _ d).trans (blk5_ws m c t h hh 2 d)
    · exact (ld_row _ 3 _ d).trans (blk5_ws m c t h hh 3 d)
    · exact read_past _ _ _ _ _ _ (xs (arg0 m c) a h 0) 0 eX eT0 5 0 rfl (by omega) _ i d
    · exact read_past _ _ _ _ _ _ (xs (arg0 m c) a h 0) 0 eX eT0 6 1 rfl (by omega) _ i d
    · exact read_past _ _ _ _ _ _ (xs (arg0 m c) a h 0) 0 eX eT0 7 2 rfl (by omega) _ i d
    · exact read_past _ _ _ _ _ _ (xs (arg0 m c) a h 0) 0 eX eT0 8 3 rfl (by omega) _ i d
  have ek : kk = ut fun i => kR (arg0 m c) (arg1 m c) a h (0 + i) := by
    rw [← hk]
    have eX : ∀ (i : Fin 256) (d : Fin 128), k0_pay11 (iblk m c 1 t) (ix2 i d) = xs (arg0 m c) a h 1 d (0 + i.val) := fun i d =>
      (congrFun (pay11 _) _).trans (blk1_col m c t a h 0 ha hh (by omega) i d)
    refine k_tile ⟨fun d => ?_, fun d => ?_, fun d => ?_, fun d => ?_, fun i d => ?_, fun i d => ?_, fun i d => ?_, fun i d => ?_⟩
    · exact (ld_row _ 0 _ d).trans (blk6_ws m c t h hh 0 d)
    · exact (ld_row _ 1 _ d).trans (blk6_ws m c t h hh 1 d)
    · exact (ld_row _ 2 _ d).trans (blk6_ws m c t h hh 2 d)
    · exact (ld_row _ 3 _ d).trans (blk6_ws m c t h hh 3 d)
    · exact read_past _ _ _ _ _ _ (xs (arg0 m c) a h 1) 0 eX eT1 5 0 rfl (by omega) _ i d
    · exact read_past _ _ _ _ _ _ (xs (arg0 m c) a h 1) 0 eX eT1 6 1 rfl (by omega) _ i d
    · exact read_past _ _ _ _ _ _ (xs (arg0 m c) a h 1) 0 eX eT1 7 2 rfl (by omega) _ i d
    · exact read_past _ _ _ _ _ _ (xs (arg0 m c) a h 1) 0 eX eT1 8 3 rfl (by omega) _ i d
  have ev : vv = ut fun i => vR (arg0 m c) (arg1 m c) a h (0 + i) := by
    rw [← hv]
    have eX : ∀ (i : Fin 256) (d : Fin 128), k0_pay15 (iblk m c 2 t) (ix2 i d) = xs (arg0 m c) a h 2 d (0 + i.val) := fun i d =>
      (congrFun (pay15 _) _).trans (blk2_col m c t a h 0 ha hh (by omega) i d)
    refine v_tile tm ⟨fun d => ?_, fun d => ?_, fun d => ?_, fun d => ?_, fun i d => ?_, fun i d => ?_, fun i d => ?_, fun i d => ?_⟩
    · exact (ld_row _ 0 _ d).trans (blk7_ws m c t h hh 0 d)
    · exact (ld_row _ 1 _ d).trans (blk7_ws m c t h hh 1 d)
    · exact (ld_row _ 2 _ d).trans (blk7_ws m c t h hh 2 d)
    · exact (ld_row _ 3 _ d).trans (blk7_ws m c t h hh 3 d)
    · exact read_past _ _ _ _ _ _ (xs (arg0 m c) a h 2) 0 eX eT2 5 0 rfl (by omega) _ i d
    · exact read_past _ _ _ _ _ _ (xs (arg0 m c) a h 2) 0 eX eT2 6 1 rfl (by omega) _ i d
    · exact read_past _ _ _ _ _ _ (xs (arg0 m c) a h 2) 0 eX eT2 7 2 rfl (by omega) _ i d
    · exact read_past _ _ _ _ _ _ (xs (arg0 m c) a h 2) 0 eX eT2 8 3 rfl (by omega) _ i d
  have eg : gg = utc fun i => gR (arg0 m c) (arg2 m c) (arg3 m c) a h (0 + i) := by
    rw [← hg, ec]
    exact g_tile _ _ _ _ tm (blk8_at m c t h) (blk9_at m c t h) (blk4_dec m c t a h 0 ha (by omega))
  have eb : bb = utc fun i => bR (arg0 m c) a h (0 + i) := by
    rw [← hb, ec]
    exact b_tile _ _ (blk4_rate m c t a h 0 ha (by omega))
  have eg2 := (gg2_ut _ _ _ _ (hg.trans eg)).symm.trans hg2
  have eg3 := (gg3_ut _ _ _ _ (hg.trans eg)).symm.trans hg3
  have eb2 := (bb2_ut _ _ _ _ (hb.trans eb)).symm.trans hb2
  clear hq hk hv hg hb hg2 hg3 hb2
  subst eq ek ev eg eb
  rw [← eg2, ← eg3, ← eb2]
  clear eg2 eg3 eb2
  rw [pay2]
  have hr : ∀ n, states (fun i => kR (arg0 m c) (arg1 m c) a h (0 + i)) (fun i => vR (arg0 m c) (arg1 m c) a h (0 + i)) (fun i => bR (arg0 m c) a h (0 + i)) (fun i => gR (arg0 m c) (arg2 m c) (arg3 m c) a h (0 + i)) 0 n = run m c a h (0 + n) := fun n => (states_add _ _ _ _ 0 0 n).symm
  have e10 : k0_pay31 (blk10 m c t) (ix2 0 e) = arg4 m c (ix1 e) := (congrFun (pay31 _) _).trans (blk10_at m c t e)
  obtain ⟨j, rfl⟩ | ⟨j, rfl⟩ := half i
  · refine (low_row _ _ _ _ _ j e).trans ?_
    refine (tile_low (fun i => qR (arg0 m c) (arg1 m c) a h (0 + i)) (fun i => kR (arg0 m c) (arg1 m c) a h (0 + i)) (fun i => vR (arg0 m c) (arg1 m c) a h (0 + i)) (fun i => bR (arg0 m c) a h (0 + i)) (fun i => gR (arg0 m c) (arg2 m c) (arg3 m c) a h (0 + i)) 0 (blk3 m c t) (k0_pay31 (blk10 m c t)) j e).trans ?_
    rw [e10]
    simp only [hr]
  · refine (high_row _ 0 _ _ j e).trans ?_
    refine (tile_high (fun i => qR (arg0 m c) (arg1 m c) a h (0 + i)) (fun i => kR (arg0 m c) (arg1 m c) a h (0 + i)) (fun i => vR (arg0 m c) (arg1 m c) a h (0 + i)) (fun i => bR (arg0 m c) a h (0 + i)) (fun i => gR (arg0 m c) (arg2 m c) (arg3 m c) a h (0 + i)) 0 (blk3 m c t) (k0_pay31 (blk10 m c t)) j e).trans ?_
    rw [e10]
    simp only [hr]

include tm ha hh in
theorem stateB (h0 : ¬ t.val % 32 = 0) (hn : n0 = t.val % 32 * 256)
    (hS : (outsAt0 m c (t.val - 1) (by omega)).2.2.2.2 = up (φ := .f32) (run m c a h n0)) :
    (outsAt0 m c t.val t.isLt).2.2.2.2 = up (φ := .f32) (run m c a h (n0 + 256)) := by
  have ec : (grid0.coords t 1).val = h.val := by rw [hh]; exact (idx t).2.2.2.2.2.2.2.2.2.2.2.2.1
  rw [outsAt0_B m c t h0]
  frame_out
  generalize hT1 : k0_pay10 (F := Ideal) _ = T1
  generalize hT2 : k0_pay14 (F := Ideal) _ = T2
  have eT1 : ∀ (r : Fin 8) (d : Fin 128), 5 ≤ r.val → T1 (ix2 r d) = past (xs (arg0 m c) a h 1 d) n0 (r.val - 5) := fun r d hr => by
    rw [← hT1, pay10, Idealize.ShloMosaic.read_unread_whole]
    refine (ld_tail _ _ r d).trans ((tail1 m c ⟨t.val - 1, by omega⟩ r d).trans ?_)
    obtain ⟨n1, hn1⟩ : ∃ n1, n0 = n1 + 256 := ⟨n0 - 256, by omega⟩
    rw [hn1]
    exact tail_past (xs (arg0 m c) a h 1) n1 _ (blk1_col m c ⟨t.val - 1, by omega⟩ a h n1 (by show a.val = (t.val - 1) / 256; omega) (by show h.val = (t.val - 1) / 32 % 8; omega) (by show n1 = (t.val - 1) % 32 * 256; omega)) r d hr
  have eT2 : ∀ (r : Fin 8) (d : Fin 128), 5 ≤ r.val → T2 (ix2 r d) = past (xs (arg0 m c) a h 2 d) n0 (r.val - 5) := fun r d hr => by
    rw [← hT2, pay14, Idealize.ShloMosaic.read_unread_whole]
    refine (ld_tail _ _ r d).trans ((tail2 m c ⟨t.val - 1, by omega⟩ r d).trans ?_)
    obtain ⟨n1, hn1⟩ : ∃ n1, n0 = n1 + 256 := ⟨n0 - 256, by omega⟩
    rw [hn1]
    exact tail_past (xs (arg0 m c) a h 2) n1 _ (blk2_col m c ⟨t.val - 1, by omega⟩ a h n1 (by show a.val = (t.val - 1) / 256; omega) (by show h.val = (t.val - 1) / 32 % 8; omega) (by show n1 = (t.val - 1) % 32 * 256; omega)) r d hr
  clear hT1 hT2
  generalize hk : k0_pay20 (F := Ideal) _ = kk
  generalize hv : k0_pay18 (F := Ideal) _ _ = vv
  generalize hg2 : k0_pay36 (F := Ideal) _ _ _ = gg2
  generalize hg3 : k0_pay37 (F := Ideal) _ _ _ = gg3
  generalize hg : k0_pay23 (F := Ideal) _ _ _ = gg
  generalize hb2 : k0_pay35 (F := Ideal) _ _ _ = bb2
  generalize hb : k0_pay24 (F := Ideal) _ _ _ = bb
  have ek : kk = ut fun i => kR (arg0 m c) (arg1 m c) a h (n0 + i) := by
    rw [← hk]
    have eX : ∀ (i : Fin 256) (d : Fin 128), k0_pay11 (iblk m c 1 t) (ix2 i d) = xs (arg0 m c) a h 1 d (n0 + i.val) := fun i d =>
      (congrFun (pay11 _) _).trans (blk1_col m c t a h n0 ha hh (by omega) i d)
    refine k_tile ⟨fun d => ?_, fun d => ?_, fun d => ?_, fun d => ?_, fun i d => ?_, fun i d => ?_, fun i d => ?_, fun i d => ?_⟩
    · exact (ld_row _ 0 _ d).trans (blk6_ws m c t h hh 0 d)
    · exact (ld_row _ 1 _ d).trans (blk6_ws m c t h hh 1 d)
    · exact (ld_row _ 2 _ d).trans (blk6_ws m c t h hh 2 d)
    · exact (ld_row _ 3 _ d).trans (blk6_ws m c t h hh 3 d)
    · exact read_past _ _ _ _ _ _ (xs (arg0 m c) a h 1) n0 eX eT1 5 0 rfl (by omega) _ i d
    · exact read_past _ _ _ _ _ _ (xs (arg0 m c) a h 1) n0 eX eT1 6 1 rfl (by omega) _ i d
    · exact read_past _ _ _ _ _ _ (xs (arg0 m c) a h 1) n0 eX eT1 7 2 rfl (by omega) _ i d
    · exact read_past _ _ _ _ _ _ (xs (arg0 m c) a h 1) n0 eX eT1 8 3 rfl (by omega) _ i d
  have ev : vv = ut fun i => vR (arg0 m c) (arg1 m c) a h (n0 + i) := by
    rw [← hv]
    have eX : ∀ (i : Fin 256) (d : Fin 128), k0_pay15 (iblk m c 2 t) (ix2 i d) = xs (arg0 m c) a h 2 d (n0 + i.val) := fun i d =>
      (congrFun (pay15 _) _).trans (blk2_col m c t a h n0 ha hh (by omega) i d)
    refine v_tile tm ⟨fun d => ?_, fun d => ?_, fun d => ?_, fun d => ?_, fun i d => ?_, fun i d => ?_, fun i d => ?_, fun i d => ?_⟩
    · exact (ld_row _ 0 _ d).trans (blk7_ws m c t h hh 0 d)
    · exact (ld_row _ 1 _ d).trans (blk7_ws m c t h hh 1 d)
    · exact (ld_row _ 2 _ d).trans (blk7_ws m c t h hh 2 d)
    · exact (ld_row _ 3 _ d).trans (blk7_ws m c t h hh 3 d)
    · exact read_past _ _ _ _ _ _ (xs (arg0 m c) a h 2) n0 eX eT2 5 0 rfl (by omega) _ i d
    · exact read_past _ _ _ _ _ _ (xs (arg0 m c) a h 2) n0 eX eT2 6 1 rfl (by omega) _ i d
    · exact read_past _ _ _ _ _ _ (xs (arg0 m c) a h 2) n0 eX eT2 7 2 rfl (by omega) _ i d
    · exact read_past _ _ _ _ _ _ (xs (arg0 m c) a h 2) n0 eX eT2 8 3 rfl (by omega) _ i d
  have eg : gg = utc fun i => gR (arg0 m c) (arg2 m c) (arg3 m c) a h (n0 + i) := by
    rw [← hg, ec]
    exact g_tile _ _ _ _ tm (blk8_at m c t h) (blk9_at m c t h) (blk4_dec m c t a h n0 ha (by omega))
  have eb : bb = utc fun i => bR (arg0 m c) a h (n0 + i) := by
    rw [← hb, ec]
    exact b_tile _ _ (blk4_rate m c t a h n0 ha (by omega))
  have eg2 := (gg2_ut _ _ _ _ (hg.trans eg)).symm.trans hg2
  have eg3 := (gg3_ut _ _ _ _ (hg.trans eg)).symm.trans hg3
  have eb2 := (bb2_ut _ _ _ _ (hb.trans eb)).symm.trans hb2
  clear hk hv hg hb hg2 hg3 hb2
  subst ek ev eg eb
  rw [← eg2, ← eg3, ← eb2]
  clear eg2 eg3 eb2
  rw [Idealize.ShloMosaic.read_unread_whole, hS]
  refine (tile_state (fun i => kR (arg0 m c) (arg1 m c) a h (n0 + i)) (fun i => vR (arg0 m c) (arg1 m c) a h (n0 + i)) (fun i => bR (arg0 m c) a h (n0 + i)) (fun i => gR (arg0 m c) (arg2 m c) (arg3 m c) a h (n0 + i)) (run m c a h n0)).trans (congrArg up ?_)
  exact (states_add _ _ _ _ 0 n0 256).symm

include tm ha hh in
theorem rowsB (h0 : ¬ t.val % 32 = 0) (hn : n0 = t.val % 32 * 256)
    (hS : (outsAt0 m c (t.val - 1) (by omega)).2.2.2.2 = up (φ := .f32) (run m c a h n0)) (i : Fin 256) (e : Fin 128) :
    (outsAt0 m c t.val t.isLt).1 (ix2 i e)
      = gate (fun x => ((∑ d, run m c a h (n0 + (i.val + 1)) d x * qR (arg0 m c) (arg1 m c) a h (n0 + i.val) d : ℝ) : EReal)) (arg4 m c (ix1 e)) (blk3 m c t (ix2 i e)) e := by
  have ec : (grid0.coords t 1).val = h.val := by rw [hh]; exact (idx t).2.2.2.2.2.2.2.2.2.2.2.2.1
  rw [outsAt0_B m c t h0]
  frame_out
  generalize hT0 : k0_pay6 (F := Ideal) _ = T0
  generalize hT1 : k0_pay10 (F := Ideal) _ = T1
  generalize hT2 : k0_pay14 (F := Ideal) _ = T2
  have eT0 : ∀ (r : Fin 8) (d : Fin 128), 5 ≤ r.val → T0 (ix2 r d) = past (xs (arg0 m c) a h 0 d) n0 (r.val - 5) := fun r d hr => by
    rw [← hT0, pay6, Idealize.ShloMosaic.read_unread_whole]
    refine (ld_tail _ _ r d).trans ((tail0 m c ⟨t.val - 1, by omega⟩ r d).trans ?_)
    obtain ⟨n1, hn1⟩ : ∃ n1, n0 = n1 + 256 := ⟨n0 - 256, by omega⟩
    rw [hn1]
    exact tail_past (xs (arg0 m c) a h 0) n1 _ (blk0_col m c ⟨t.val - 1, by omega⟩ a h n1 (by show a.val = (t.val - 1) / 256; omega) (by show h.val = (t.val - 1) / 32 % 8; omega) (by show n1 = (t.val - 1) % 32 * 256; omega)) r d hr
  have eT1 : ∀ (r : Fin 8) (d : Fin 128), 5 ≤ r.val → T1 (ix2 r d) = past (xs (arg0 m c) a h 1 d) n0 (r.val - 5) := fun r d hr => by
    rw [← hT1, pay10, Idealize.ShloMosaic.read_unread_whole]
    refine (ld_tail _ _ r d).trans ((tail1 m c ⟨t.val - 1, by omega⟩ r d).trans ?_)
    obtain ⟨n1, hn1⟩ : ∃ n1, n0 = n1 + 256 := ⟨n0 - 256, by omega⟩
    rw [hn1]
    exact tail_past (xs (arg0 m c) a h 1) n1 _ (blk1_col m c ⟨t.val - 1, by omega⟩ a h n1 (by show a.val = (t.val - 1) / 256; omega) (by show h.val = (t.val - 1) / 32 % 8; omega) (by show n1 = (t.val - 1) % 32 * 256; omega)) r d hr
  have eT2 : ∀ (r : Fin 8) (d : Fin 128), 5 ≤ r.val → T2 (ix2 r d) = past (xs (arg0 m c) a h 2 d) n0 (r.val - 5) := fun r d hr => by
    rw [← hT2, pay14, Idealize.ShloMosaic.read_unread_whole]
    refine (ld_tail _ _ r d).trans ((tail2 m c ⟨t.val - 1, by omega⟩ r d).trans ?_)
    obtain ⟨n1, hn1⟩ : ∃ n1, n0 = n1 + 256 := ⟨n0 - 256, by omega⟩
    rw [hn1]
    exact tail_past (xs (arg0 m c) a h 2) n1 _ (blk2_col m c ⟨t.val - 1, by omega⟩ a h n1 (by show a.val = (t.val - 1) / 256; omega) (by show h.val = (t.val - 1) / 32 % 8; omega) (by show n1 = (t.val - 1) % 32 * 256; omega)) r d hr
  clear hT1 hT2 hT0
  generalize hq : k0_pay19 (F := Ideal) _ = qq
  generalize hk : k0_pay20 (F := Ideal) _ = kk
  generalize hv : k0_pay18 (F := Ideal) _ _ = vv
  generalize hg2 : k0_pay36 (F := Ideal) _ _ _ = gg2
  generalize hg3 : k0_pay37 (F := Ideal) _ _ _ = gg3
  generalize hg : k0_pay23 (F := Ideal) _ _ _ = gg
  generalize hb2 : k0_pay35 (F := Ideal) _ _ _ = bb2
  generalize hb : k0_pay24 (F := Ideal) _ _ _ = bb
  have eq : qq = ut fun i => qR (arg0 m c) (arg1 m c) a h (n0 + i) := by
    rw [← hq]
    have eX : ∀ (i : Fin 256) (d : Fin 128), k0_pay7 (iblk m c 0 t) (ix2 i d) = xs (arg0 m c) a h 0 d (n0 + i.val) := fun i d =>
      (congrFun (pay7 _) _).trans (blk0_col m c t a h n0 ha hh (by omega) i d)
    refine q_tile ⟨fun d => ?_, fun d => ?_, fun d => ?_, fun d => ?_, fun i d => ?_, fun i d => ?_, fun i d => ?_, fun i d => ?_⟩
    · exact (ld_row _ 0 _ d).trans (blk5_ws m c t h hh 0 d)
    · exact (ld_row _ 1 _ d).trans (blk5_ws m c t h hh 1 d)
    · exact (ld_row _ 2 _ d).trans (blk5_ws m c t h hh 2 d)
    · exact (ld_row _ 3 _ d).trans (blk5_ws m c t h hh 3 d)
    · exact read_past _ _ _ _ _ _ (xs (arg0 m c) a h 0) n0 eX eT0 5 0 rfl (by omega) _ i d
    · exact read_past _ _ _ _ _ _ (xs (arg0 m c) a h 0) n0 eX eT0 6 1 rfl (by omega) _ i d
    · exact read_past _ _ _ _ _ _ (xs (arg0 m c) a h 0) n0 eX eT0 7 2 rfl (by omega) _ i d
    · exact read_past _ _ _ _ _ _ (xs (arg0 m c) a h 0) n0 eX eT0 8 3 rfl (by omega) _ i d
  have ek : kk = ut fun i => kR (arg0 m c) (arg1 m c) a h (n0 + i) := by
    rw [← hk]
    have eX : ∀ (i : Fin 256) (d : Fin 128), k0_pay11 (iblk m c 1 t) (ix2 i d) = xs (arg0 m c) a h 1 d (n0 + i.val) := fun i d =>
      (congrFun (pay11 _) _).trans (blk1_col m c t a h n0 ha hh (by omega) i d)
    refine k_tile ⟨fun d => ?_, fun d => ?_, fun d => ?_, fun d => ?_, fun i d => ?_, fun i d => ?_, fun i d => ?_, fun i d => ?_⟩
    · exact (ld_row _ 0 _ d).trans (blk6_ws m c t h hh 0 d)
    · exact (ld_row _ 1 _ d).trans (blk6_ws m c t h hh 1 d)
    · exact (ld_row _ 2 _ d).trans (blk6_ws m c t h hh 2 d)
    · exact (ld_row _ 3 _ d).trans (blk6_ws m c t h hh 3 d)
    · exact read_past _ _ _ _ _ _ (xs (arg0 m c) a h 1) n0 eX eT1 5 0 rfl (by omega) _ i d
    · exact read_past _ _ _ _ _ _ (xs (arg0 m c) a h 1) n0 eX eT1 6 1 rfl (by omega) _ i d
    · exact read_past _ _ _ _ _ _ (xs (arg0 m c) a h 1) n0 eX eT1 7 2 rfl (by omega) _ i d
    · exact read_past _ _ _ _ _ _ (xs (arg0 m c) a h 1) n0 eX eT1 8 3 rfl (by omega) _ i d
  have ev : vv = ut fun i => vR (arg0 m c) (arg1 m c) a h (n0 + i) := by
    rw [← hv]
    have eX : ∀ (i : Fin 256) (d : Fin 128), k0_pay15 (iblk m c 2 t) (ix2 i d) = xs (arg0 m c) a h 2 d (n0 + i.val) := fun i d =>
      (congrFun (pay15 _) _).trans (blk2_col m c t a h n0 ha hh (by omega) i d)
    refine v_tile tm ⟨fun d => ?_, fun d => ?_, fun d => ?_, fun d => ?_, fun i d => ?_, fun i d => ?_, fun i d => ?_, fun i d => ?_⟩
    · exact (ld_row _ 0 _ d).trans (blk7_ws m c t h hh 0 d)
    · exact (ld_row _ 1 _ d).trans (blk7_ws m c t h hh 1 d)
    · exact (ld_row _ 2 _ d).trans (blk7_ws m c t h hh 2 d)
    · exact (ld_row _ 3 _ d).trans (blk7_ws m c t h hh 3 d)
    · exact read_past _ _ _ _ _ _ (xs (arg0 m c) a h 2) n0 eX eT2 5 0 rfl (by omega) _ i d
    · exact read_past _ _ _ _ _ _ (xs (arg0 m c) a h 2) n0 eX eT2 6 1 rfl (by omega) _ i d
    · exact read_past _ _ _ _ _ _ (xs (arg0 m c) a h 2) n0 eX eT2 7 2 rfl (by omega) _ i d
    · exact read_past _ _ _ _ _ _ (xs (arg0 m c) a h 2) n0 eX eT2 8 3 rfl (by omega) _ i d
  have eg : gg = utc fun i => gR (arg0 m c) (arg2 m c) (arg3 m c) a h (n0 + i) := by
    rw [← hg, ec]
    exact g_tile _ _ _ _ tm (blk8_at m c t h) (blk9_at m c t h) (blk4_dec m c t a h n0 ha (by omega))
  have eb : bb = utc fun i => bR (arg0 m c) a h (n0 + i) := by
    rw [← hb, ec]
    exact b_tile _ _ (blk4_rate m c t a h n0 ha (by omega))
  have eg2 := (gg2_ut _ _ _ _ (hg.trans eg)).symm.trans hg2
  have eg3 := (gg3_ut _ _ _ _ (hg.trans eg)).symm.trans hg3
  have eb2 := (bb2_ut _ _ _ _ (hb.trans eb)).symm.trans hb2
  clear hq hk hv hg hb hg2 hg3 hb2
  subst eq ek ev eg eb
  rw [← eg2, ← eg3, ← eb2]
  clear eg2 eg3 eb2
  rw [Idealize.ShloMosaic.read_unread_whole, hS]
  have hr : ∀ n, states (fun i => kR (arg0 m c) (arg1 m c) a h (n0 + i)) (fun i => vR (arg0 m c) (arg1 m c) a h (n0 + i)) (fun i => bR (arg0 m c) a h (n0 + i)) (fun i => gR (arg0 m c) (arg2 m c) (arg3 m c) a h (n0 + i)) (run m c a h n0) n = run m c a h (n0 + n) := fun n => (states_add _ _ _ _ 0 n0 n).symm
  have e10 : k0_pay31 (blk10 m c t) (ix2 0 e) = arg4 m c (ix1 e) := (congrFun (pay31 _) _).trans (blk10_at m c t e)
  obtain ⟨j, rfl⟩ | ⟨j, rfl⟩ := half i
  · refine (low_row _ _ _ _ _ j e).trans ?_
    refine (tile_low (fun i => qR (arg0 m c) (arg1 m c) a h (n0 + i)) (fun i => kR (arg0 m c) (arg1 m c) a h (n0 + i)) (fun i => vR (arg0 m c) (arg1 m c) a h (n0 + i)) (fun i => bR (arg0 m c) a h (n0 + i)) (fun i => gR (arg0 m c) (arg2 m c) (arg3 m c) a h (n0 + i)) (run m c a h n0) (blk3 m c t) (k0_pay31 (blk10 m c t)) j e).trans ?_
    rw [e10]
    simp only [hr]
  · refine (high_row _ 0 _ _ j e).trans ?_
    refine (tile_high (fun i => qR (arg0 m c) (arg1 m c) a h (n0 + i)) (fun i => kR (arg0 m c) (arg1 m c) a h (n0 + i)) (fun i => vR (arg0 m c) (arg1 m c) a h (n0 + i)) (fun i => bR (arg0 m c) a h (n0 + i)) (fun i => gR (arg0 m c) (arg2 m c) (arg3 m c) a h (n0 + i)) (run m c a h n0) (blk3 m c t) (k0_pay31 (blk10 m c t)) j e).trans ?_
    rw [e10]
    simp only [hr]

end Cert.DnIdeal.Value
-- ==== Proof.DnEntry.lean ====
module

public import proofs.«01_k».proof.Proof.DnAct
public import proofs.«01_k».proof.Proof.Gen.DnRefIdeal.Run

@[expose] public section

set_option maxRecDepth 16384
noncomputable section

open Idealize.ShloMosaic Idealize.ShloMosaic.StableHlo Idealize.ShloMosaic.TcCoe Idealize.SL.Sem Idealize.ShloMosaic.Pipeline

namespace Cert.DnRefIdeal.Value

open Cert.DnRefIdeal Cert.DnRefIdeal.Gen Cert.DeltaRule

variable (m : (ℓ : Loc nD τ sig) → Buf (Elt Ideal) ℓ)

/-! The loop's inputs as functions of the arguments. -/

def p3 (P : FVec Ideal S32768x15360 .f32) : FVec Ideal S4x8192x15360 .f32 := shapeCast S4x8192x15360 P shapeCasts_S32768x15360_S4x8192x15360

def padded (P : FVec Ideal S32768x15360 .f32) : FVec Ideal S4x8195x3072 .f32 :=
  pad S4x8195x3072 ![0, 3, 0] ![0, 0, 0] ![0, 0, 0] (extractStridedSlice S4x8192x3072 ![0, 0, 0] (p3 P) slices_S4x8192x15360_S4x8192x3072_0_0_0)
    (sitofp .f32 (constantI S_ 32 0#32)) pads_S4x8192x3072_S4x8195x3072_000_300_000 h_S_

def spread (w : FVec Ideal S1x3072 .f32) : FVec Ideal S4x8192x3072 .f32 :=
  broadcastInDim S4x8192x3072 ![0, 1, 2] bcast_S1x1x3072_S4x8192x3072_0_1_2
    (broadcastInDim S1x1x3072 ![2] bcast_S3072_S1x1x3072_2 (shapeCast S3072 w shapeCasts_S1x3072_S3072))

def filtered (P : FVec Ideal S32768x15360 .f32) (C : FVec Ideal S4x3072 .f32) : FVec Ideal S4x8192x3072 .f32 :=
  addf (addf (addf (addf (broadcastInDim S4x8192x3072 ![] bcast_S_S4x8192x3072 (constant S_ .f32 0x00000000#32))
    (mulf (spread (extractStridedSlice S1x3072 ![0, 0] C slices_S4x3072_S1x3072_0_0))
      (extractStridedSlice S4x8192x3072 ![0, 0, 0] (padded P) slices_S4x8195x3072_S4x8192x3072_0_0_0)))
    (mulf (spread (extractStridedSlice S1x3072 ![1, 0] C slices_S4x3072_S1x3072_1_0))
      (extractStridedSlice S4x8192x3072 ![0, 1, 0] (padded P) slices_S4x8195x3072_S4x8192x3072_0_1_0)))
    (mulf (spread (extractStridedSlice S1x3072 ![2, 0] C slices_S4x3072_S1x3072_2_0))
      (extractStridedSlice S4x8192x3072 ![0, 2, 0] (padded P) slices_S4x8195x3072_S4x8192x3072_0_2_0)))
    (mulf (spread (extractStridedSlice S1x3072 ![3, 0] C slices_S4x3072_S1x3072_3_0))
      (extractStridedSlice S4x8192x3072 ![0, 3, 0] (padded P) slices_S4x8195x3072_S4x8192x3072_0_3_0))

def gated (P : FVec Ideal S32768x15360 .f32) (C : FVec Ideal S4x3072 .f32) : FVec Ideal S4x8192x3072 .f32 :=
  mulf (filtered P C) (Host.divf (broadcastInDim S4x8192x3072 ![] bcast_S_S4x8192x3072 (constant S_ .f32 0x3F800000#32))
    (addf (broadcastInDim S4x8192x3072 ![] bcast_S_S4x8192x3072 (constant S_ .f32 0x3F800000#32)) (Host.exp (Host.negf (filtered P C)))))

def heads (x : FVec Ideal S4x8192x1024 .f32) : FVec Ideal S4x8192x8x128 .f32 := shapeCast S4x8192x8x128 x shapeCasts_S4x8192x1024_S4x8192x8x128

def normed (x : FVec Ideal S4x8192x8x128 .f32) : FVec Ideal S4x8192x8x128 .f32 :=
  mulf x (broadcastInDim S4x8192x8x128 ![0, 1, 2, 3] bcast_S4x8192x8x1_S4x8192x8x128_0_1_2_3 (Host.rsqrt
    (addf (broadcastInDim S4x8192x8x1 ![0, 1, 2] bcast_S4x8192x8_S4x8192x8x1_0_1_2
      (Host.reduceAdd (mulf x x) (constant S_ .f32 0x00000000#32) reducesTo_S4x8192x8x128_S4x8192x8_d3 h_S_))
      (broadcastInDim S4x8192x8x1 ![] bcast_S_S4x8192x8x1 (constant S_ .f32 0x358637BD#32)))))

def inQ (P : FVec Ideal S32768x15360 .f32) (C : FVec Ideal S4x3072 .f32) : FVec Ideal S8192x4x8x128 .f32 :=
  transpose S8192x4x8x128 [1, 0, 2, 3] (mulf (normed (heads (extractStridedSlice S4x8192x1024 ![0, 0, 0] (gated P C) slices_S4x8192x3072_S4x8192x1024_0_0_0)))
    (broadcastInDim S4x8192x8x128 ![] bcast_S_S4x8192x8x128 (constant S_ .f32 0x3DB504F3#32))) transposes_S4x8192x8x128_S8192x4x8x128_1_0_2_3

def inK (P : FVec Ideal S32768x15360 .f32) (C : FVec Ideal S4x3072 .f32) : FVec Ideal S8192x4x8x128 .f32 :=
  transpose S8192x4x8x128 [1, 0, 2, 3] (normed (heads (extractStridedSlice S4x8192x1024 ![0, 0, 1024] (gated P C) slices_S4x8192x3072_S4x8192x1024_0_0_1024)))
    transposes_S4x8192x8x128_S8192x4x8x128_1_0_2_3

def inV (P : FVec Ideal S32768x15360 .f32) (C : FVec Ideal S4x3072 .f32) : FVec Ideal S8192x4x8x128 .f32 :=
  transpose S8192x4x8x128 [1, 0, 2, 3] (heads (extractStridedSlice S4x8192x1024 ![0, 0, 2048] (gated P C) slices_S4x8192x3072_S4x8192x1024_0_0_2048))
    transposes_S4x8192x8x128_S8192x4x8x128_1_0_2_3

def inB (P : FVec Ideal S32768x15360 .f32) : FVec Ideal S8192x4x8 .f32 :=
  transpose S8192x4x8 [1, 0, 2] (Host.divf (broadcastInDim S4x8192x8 ![] bcast_S_S4x8192x8 (constant S_ .f32 0x3F800000#32))
    (addf (broadcastInDim S4x8192x8 ![] bcast_S_S4x8192x8 (constant S_ .f32 0x3F800000#32)) (Host.exp (Host.negf
      (extractStridedSlice S4x8192x8 ![0, 0, 13832] (p3 P) slices_S4x8192x15360_S4x8192x8_0_0_13832))))) transposes_S4x8192x8_S8192x4x8_1_0_2

def zero3 : FVec Ideal S4x8192x8 .f32 := broadcastInDim S4x8192x8 ![] bcast_S_S4x8192x8 (constant S_ .f32 0x00000000#32)

def soft (x : FVec Ideal S4x8192x8 .f32) : FVec Ideal S4x8192x8 .f32 :=
  select (cmpf .une (subf x zero3) (subf x zero3)) (addf x zero3)
    (addf (maximumf x zero3) (Host.log1p (Host.exp (Host.negf (Host.absf (subf x zero3))))))

def inG (P : FVec Ideal S32768x15360 .f32) (L D : FVec Ideal S8 .f32) : FVec Ideal S8192x4x8 .f32 :=
  transpose S8192x4x8 [1, 0, 2] (mulf (broadcastInDim S4x8192x8 ![0, 1, 2] bcast_S1x1x8_S4x8192x8_0_1_2
      (broadcastInDim S1x1x8 ![2] bcast_S8_S1x1x8_2 (Host.negf (Host.exp L))))
    (soft (addf (extractStridedSlice S4x8192x8 ![0, 0, 13824] (p3 P) slices_S4x8192x15360_S4x8192x8_0_0_13824)
      (broadcastInDim S4x8192x8 ![0, 1, 2] bcast_S1x1x8_S4x8192x8_0_1_2 (broadcastInDim S1x1x8 ![2] bcast_S8_S1x1x8_2 D)))))
    transposes_S4x8192x8_S8192x4x8_1_0_2

abbrev pArg (c : Dev nD) : FVec Ideal S32768x15360 .f32 := m ((c : Thread nD τ).loc main_arg0)
abbrev cArg (c : Dev nD) : FVec Ideal S4x3072 .f32 := m ((c : Thread nD τ).loc main_arg1)
abbrev lArg (c : Dev nD) : FVec Ideal S8 .f32 := m ((c : Thread nD τ).loc main_arg2)
abbrev dArg (c : Dev nD) : FVec Ideal S8 .f32 := m ((c : Thread nD τ).loc main_arg3)
abbrev oArg (c : Dev nD) : FVec Ideal S128 .f32 := m ((c : Thread nD τ).loc main_arg4)

theorem entry_q (c : Dev nD) : entryContents preI m c (Proc.devRef .tc main_v81_0) = inQ (pArg m c) (cArg m c) := by
  simp only [entryContents, afterL_cons, afterL_nil]
  after_reads_simp
  simp only [StableHlo.TRef.toBuf, StableHlo.TRef.ofBuf, cast_eq]
  rfl
theorem entry_k (c : Dev nD) : entryContents preI m c (Proc.devRef .tc main_v81_1) = inK (pArg m c) (cArg m c) := by
  simp only [entryContents, afterL_cons, afterL_nil]
  after_reads_simp
  simp only [StableHlo.TRef.toBuf, StableHlo.TRef.ofBuf, cast_eq]
  rfl
theorem entry_v (c : Dev nD) : entryContents preI m c (Proc.devRef .tc main_v81_2) = inV (pArg m c) (cArg m c) := by
  simp only [entryContents, afterL_cons, afterL_nil]
  after_reads_simp
  simp only [StableHlo.TRef.toBuf, StableHlo.TRef.ofBuf, cast_eq]
  rfl
theorem entry_b (c : Dev nD) : entryContents preI m c (Proc.devRef .tc main_v81_3) = inB (pArg m c) := by
  simp only [entryContents, afterL_cons, afterL_nil]
  after_reads_simp
  rfl
theorem entry_g (c : Dev nD) : entryContents preI m c (Proc.devRef .tc main_v81_4) = inG (pArg m c) (lArg m c) (dArg m c) := by
  simp only [entryContents, afterL_cons, afterL_nil]
  after_reads_simp
  simp only [StableHlo.TRef.toBuf, StableHlo.TRef.ofBuf, cast_eq]
  rfl
theorem entry_s (c : Dev nD) : entryContents preI m c (Proc.devRef .tc main_v81_6)
    = broadcastInDim S4x8x128x128 ![] bcast_S_S4x8x128x128 (constant (F := Ideal) S_ .f32 0x00000000#32) := by
  simp only [entryContents, afterL_cons, afterL_nil]
  after_reads_simp
  rfl

variable (P : FVec Ideal S32768x15360 .f32) (C : FVec Ideal S4x3072 .f32) (L D : FVec Ideal S8 .f32)

theorem inB_at (n : Fin 8192) (a : Fin 4) (h : Fin 8) : inB P (ix3 n a h) = bE P a h n.val := by
  pointwise [inB, p3, bE, col]
  rfl

theorem inG_at (n : Fin 8192) (a : Fin 4) (h : Fin 8) : inG P L D (ix3 n a h) = gE P L D a h n.val := by
  pointwise [inG, p3, soft, zero3, gE, decay, col]
  rw [if_neg (not_not.mpr rfl)]
  rfl

theorem padded_at (a : Fin 4) (n : Fin 8192) (j : ℕ) (hj : j < 4) (x : Fin 3072) :
    padded P (ix3 a ⟨j + n.val, by omega⟩ x) = past (col P a ⟨x.val, by omega⟩) n.val j := by
  pointwise [padded, p3, past, col]
  simp only [Nat.add_comm j n.val]
  by_cases h : n.val + j < 3
  · rw [dif_neg (by omega), if_pos h]
    show ((((0#32 : BitVec 32).toInt : ℤ) : ℝ) : EReal) = 0
    simp
  · rw [dif_pos (by omega), if_neg h, dif_pos (by omega)]

theorem filtered_at (a : Fin 4) (n : Fin 8192) (x : Fin 3072) :
    filtered P C (ix3 a n x) = conv (fun j => C (ix2 j x)) (col P a ⟨x.val, by omega⟩) n.val := by
  unfold conv
  rw [← padded_at P a n 0 (by omega) x, ← padded_at P a n 1 (by omega) x, ← padded_at P a n 2 (by omega) x, ← padded_at P a n 3 (by omega) x]
  generalize hq : padded P = Q
  unfold filtered
  rw [hq]
  pointwise [spread]

theorem gated_at (a : Fin 4) (n : Fin 8192) (x : Fin 3072) :
    gated P C (ix3 a n x) = act (conv (fun j => C (ix2 j x)) (col P a ⟨x.val, by omega⟩) n.val) := by
  rw [← filtered_at]
  generalize hq : filtered P C = Q
  unfold gated
  rw [hq]
  pointwise [act]
  rfl

theorem heads_at (o : Fin 3) (hs : S4x8192x3072.Slices ![0, 0, o.val * 1024] S4x8192x1024) (a : Fin 4) (n : Fin 8192) (h : Fin 8) (d : Fin 128) :
    heads (extractStridedSlice S4x8192x1024 ![0, 0, o.val * 1024] (gated P C) hs) (ix4 a n h d) = acts P C a h o n.val d := by
  unfold acts
  rw [← gated_at P C a n ⟨o.val * 1024 + h.val * 128 + d.val, by omega⟩]
  generalize hq : gated P C = Q
  pointwise [heads]
  exact congrArg Q (congrArg (ix3 a n) (Fin.ext (Nat.add_assoc _ _ _).symm))

theorem normed_at (x : FVec Ideal S4x8192x8x128 .f32) (a : Fin 4) (n : Fin 8192) (h : Fin 8) (d : Fin 128) :
    normed x (ix4 a n h d) = unit (fun e => x (ix4 a n h e)) d := by
  pointwise [normed, unit]

theorem inQ_at (n : Fin 8192) (a : Fin 4) (h : Fin 8) (d : Fin 128) : inQ P C (ix4 n a h d) = qE P C a h n.val d := by
  unfold qE
  rw [show acts P C a h 0 n.val = fun d => heads (extractStridedSlice S4x8192x1024 ![0, 0, 0] (gated P C) slices_S4x8192x3072_S4x8192x1024_0_0_0) (ix4 a n h d)
    from funext fun d => (heads_at P C 0 slices_S4x8192x3072_S4x8192x1024_0_0_0 a n h d).symm, ← normed_at]
  pointwise [inQ]

theorem inK_at (n : Fin 8192) (a : Fin 4) (h : Fin 8) (d : Fin 128) : inK P C (ix4 n a h d) = kE P C a h n.val d := by
  unfold kE
  rw [show acts P C a h 1 n.val = fun d => heads (extractStridedSlice S4x8192x1024 ![0, 0, 1024] (gated P C) slices_S4x8192x3072_S4x8192x1024_0_0_1024) (ix4 a n h d)
    from funext fun d => (heads_at P C 1 slices_S4x8192x3072_S4x8192x1024_0_0_1024 a n h d).symm, ← normed_at]
  pointwise [inK]

theorem inV_at (n : Fin 8192) (a : Fin 4) (h : Fin 8) (d : Fin 128) : inV P C (ix4 n a h d) = vE P C a h n.val d := by
  unfold vE
  rw [← heads_at P C 2 slices_S4x8192x3072_S4x8192x1024_0_0_2048 a n h d]
  pointwise [inV]

end Cert.DnRefIdeal.Value
-- ==== Proof.DnRef.lean ====
module

public import proofs.«01_k».proof.Proof.DnEntry
public import proofs.«01_k».proof.Proof.DnStep
public import proofs.«01_k».proof.Proof.Gen.DnRefIdeal.Run

@[expose] public section

set_option maxRecDepth 16384
noncomputable section

open Idealize.ShloMosaic Idealize.ShloMosaic.StableHlo Idealize.ShloMosaic.TcCoe Idealize.SL.Sem Idealize.ShloMosaic.Pipeline

namespace Cert.DnRefIdeal.Value

open Cert.DnRefIdeal Cert.DnRefIdeal.Gen Cert.DeltaRule

variable (m : (ℓ : Loc nD τ sig) → Buf (Elt Ideal) ℓ)

/-- The loop counter's index list. -/
abbrev at4 (n : BitVec 32) : Fin 4 → ℤ := fun k => (((![fun _ => n, constantI S_ 32 0#32, constantI S_ 32 0#32, constantI S_ 32 0#32] : Fin 4 → (⟨S_, .i32⟩ : BufTy).Contents (Elt Ideal))) k (Shape.Idx.first h_S_)).toInt
/-- The same for arrays of rank 3. -/
abbrev at3 (n : BitVec 32) : Fin 3 → ℤ := fun k => (((![fun _ => n, constantI S_ 32 0#32, constantI S_ 32 0#32] : Fin 3 → (⟨S_, .i32⟩ : BufTy).Contents (Elt Ideal))) k (Shape.Idx.first h_S_)).toInt

theorem num (n : Fin 8192) : (BitVec.ofNat 32 n.val).toInt = n.val := by
  rw [BitVec.toInt_ofNat', Int.bmod_def]
  omega

theorem start4_0 (n : Fin 8192) (hr : S1x4x8x128.rank = S8192x4x8x128.rank) : Host.clampedStart S8192x4x8x128 S1x4x8x128 hr ![(n.val : ℤ), 0, 0, 0] 0 = n.val := by
  refine Host.clampedStart_of_le hr _ 0 n.val rfl ?_
  show n.val + 1 ≤ 8192
  omega
theorem start4_1 (n : Fin 8192) (hr : S1x4x8x128.rank = S8192x4x8x128.rank) : Host.clampedStart S8192x4x8x128 S1x4x8x128 hr ![(n.val : ℤ), 0, 0, 0] 1 = 0 := by
  refine Host.clampedStart_of_le hr _ 1 0 rfl ?_
  show 0 + 4 ≤ 4
  omega
theorem start4_2 (n : Fin 8192) (hr : S1x4x8x128.rank = S8192x4x8x128.rank) : Host.clampedStart S8192x4x8x128 S1x4x8x128 hr ![(n.val : ℤ), 0, 0, 0] 2 = 0 := by
  refine Host.clampedStart_of_le hr _ 2 0 rfl ?_
  show 0 + 8 ≤ 8
  omega
theorem start4_3 (n : Fin 8192) (hr : S1x4x8x128.rank = S8192x4x8x128.rank) : Host.clampedStart S8192x4x8x128 S1x4x8x128 hr ![(n.val : ℤ), 0, 0, 0] 3 = 0 := by
  refine Host.clampedStart_of_le hr _ 3 0 rfl ?_
  show 0 + 128 ≤ 128
  omega
theorem start3_0 (n : Fin 8192) (hr : S1x4x8.rank = S8192x4x8.rank) : Host.clampedStart S8192x4x8 S1x4x8 hr ![(n.val : ℤ), 0, 0] 0 = n.val := by
  refine Host.clampedStart_of_le hr _ 0 n.val rfl ?_
  show n.val + 1 ≤ 8192
  omega
theorem start3_1 (n : Fin 8192) (hr : S1x4x8.rank = S8192x4x8.rank) : Host.clampedStart S8192x4x8 S1x4x8 hr ![(n.val : ℤ), 0, 0] 1 = 0 := by
  refine Host.clampedStart_of_le hr _ 1 0 rfl ?_
  show 0 + 4 ≤ 4
  omega
theorem start3_2 (n : Fin 8192) (hr : S1x4x8.rank = S8192x4x8.rank) : Host.clampedStart S8192x4x8 S1x4x8 hr ![(n.val : ℤ), 0, 0] 2 = 0 := by
  refine Host.clampedStart_of_le hr _ 2 0 rfl ?_
  show 0 + 8 ≤ 8
  omega

theorem slice4 (X : FVec Ideal S8192x4x8x128 .f32) (n : Fin 8192) (a : Fin 4) (h : Fin 8) (d : Fin 128) :
    shapeCast S4x8x128 (Host.dynamicSlice S1x4x8x128 X (at4 (BitVec.ofNat 32 n.val)) sliceFits_S8192x4x8x128_S1x4x8x128) shapeCasts_S1x4x8x128_S4x8x128 (ix3 a h d)
      = X (ix4 n a h d) := by
  have e : ∀ k, at4 (BitVec.ofNat 32 n.val) k = ![(n.val : ℤ), 0, 0, 0] k := by
    intro k
    fin_cases k
    · exact num n
    · rfl
    · rfl
    · rfl
  rw [show at4 (BitVec.ofNat 32 n.val) = ![(n.val : ℤ), 0, 0, 0] from funext e]
  pointwise
  simp only [start4_0 n, start4_1 n, start4_2 n, start4_3 n, Nat.zero_add]

theorem slice3 (X : FVec Ideal S8192x4x8 .f32) (n : Fin 8192) (a : Fin 4) (h : Fin 8) :
    shapeCast S4x8 (Host.dynamicSlice S1x4x8 X (at3 (BitVec.ofNat 32 n.val)) sliceFits_S8192x4x8_S1x4x8) shapeCasts_S1x4x8_S4x8 (ix2 a h)
      = X (ix3 n a h) := by
  have e : ∀ k, at3 (BitVec.ofNat 32 n.val) k = ![(n.val : ℤ), 0, 0] k := by
    intro k
    fin_cases k
    · exact num n
    · rfl
    · rfl
  rw [show at3 (BitVec.ofNat 32 n.val) = ![(n.val : ℤ), 0, 0] from funext e]
  pointwise
  simp only [start3_0 n, start3_1 n, start3_2 n, Nat.zero_add]

theorem update4 (X : FVec Ideal S8192x4x8x128 .f32) (Y : FVec Ideal S4x8x128 .f32) (n : Fin 8192) (i : Fin 8192) (a : Fin 4) (h : Fin 8) (d : Fin 128) :
    Host.dynamicUpdateSlice X (broadcastInDim S1x4x8x128 ![1, 2, 3] bcast_S4x8x128_S1x4x8x128_1_2_3 Y) (at4 (BitVec.ofNat 32 n.val)) updateFits_S8192x4x8x128_S1x4x8x128 (ix4 i a h d)
      = if i = n then Y (ix3 a h d) else X (ix4 i a h d) := by
  have e : ∀ k, at4 (BitVec.ofNat 32 n.val) k = ![(n.val : ℤ), 0, 0, 0] k := by
    intro k
    fin_cases k
    · exact num n
    · rfl
    · rfl
    · rfl
  rw [show at4 (BitVec.ofNat 32 n.val) = ![(n.val : ℤ), 0, 0, 0] from funext e]
  pointwise
  simp only [start4_0 n, start4_1 n, start4_2 n, start4_3 n, Nat.zero_add, Nat.sub_zero, Nat.zero_le, and_true]
  by_cases hi : i = n
  · rw [if_pos hi, dif_pos (by omega)]
  · rw [if_neg hi, dif_neg (fun hh => hi (Fin.ext (by omega)))]

/-- A step's state: decayed, then corrected along the key. -/
theorem corrected (E : FVec Ideal S4x8 .f32) (S : FVec Ideal S4x8x128x128 .f32) (K V : FVec Ideal S4x8x128 .f32) (B : FVec Ideal S4x8 .f32) (W : FVec Ideal S4x8x128x128 .f32)
    (hW : W = mulf (broadcastInDim S4x8x128x128 ![0, 1, 2, 3] bcast_S4x8x1x1_S4x8x128x128_0_1_2_3 (broadcastInDim S4x8x1x1 ![0, 1] bcast_S4x8_S4x8x1x1_0_1 (Host.exp E))) S)
    (a : Fin 4) (h : Fin 8) (d e : Fin 128) :
    addf W (mulf (broadcastInDim S4x8x128x128 ![0, 1, 2, 3] bcast_S4x8x128x1_S4x8x128x128_0_1_2_3 (broadcastInDim S4x8x128x1 ![0, 1, 2] bcast_S4x8x128_S4x8x128x1_0_1_2 K)) (broadcastInDim S4x8x128x128 ![0, 1, 2, 3] bcast_S4x8x1x128_S4x8x128x128_0_1_2_3 (broadcastInDim S4x8x1x128 ![0, 1, 3] bcast_S4x8x128_S4x8x1x128_0_1_3 (mulf (broadcastInDim S4x8x128 ![0, 1, 2] bcast_S4x8x1_S4x8x128_0_1_2 (broadcastInDim S4x8x1 ![0, 1] bcast_S4x8_S4x8x1_0_1 B)) (subf V (Host.dotGeneral dot_S4x8x128_S4x8x128x128_S4x8x128_2_2_n_3_01_01 none K W)))))) (ix4 a h d e)
      = Ideal.exp (E (ix2 a h)) * S (ix4 a h d e) + K (ix3 a h d) * (B (ix2 a h) * (V (ix3 a h e) - ∑ x : Fin 128, K (ix3 a h x) * (Ideal.exp (E (ix2 a h)) * S (ix4 a h x e)))) := by
  subst hW
  pointwise

theorem read_out (S : FVec Ideal S4x8x128x128 .f32) (Q : FVec Ideal S4x8x128 .f32) (a : Fin 4) (h : Fin 8) (e : Fin 128) :
    Host.dotGeneral dot_S4x8x128x128_S4x8x128_S4x8x128_2_2_3_n_01_01 none S Q (ix3 a h e) = ∑ d : Fin 128, S (ix4 a h d e) * Q (ix3 a h d) := by
  pointwise

variable (P : FVec Ideal S32768x15360 .f32) (C : FVec Ideal S4x3072 .f32) (L D : FVec Ideal S8 .f32)

/-- The states of a batch's head. -/
def run' (a : Fin 4) (h : Fin 8) (n : ℕ) (d e : Fin 128) : ℝ := states (kR P C a h) (vR P C a h) (bR P a h) (gR P L D a h) 0 n d e

/-- All of them, as the loop carries them. -/
def stateV (n : ℕ) : FVec Ideal S4x8x128x128 .f32 := fun i => ((run' P C L D (i 0) (i 1) n (i 2) (i 3) : ℝ) : EReal)

theorem stateV_at (n : ℕ) (a : Fin 4) (h : Fin 8) (d e : Fin 128) : stateV P C L D n (ix4 a h d e) = ((run' P C L D a h n d e : ℝ) : EReal) := rfl

/-- What the loop carries before its trip `n`. -/
structure At (n : ℕ) (V0 : Valuation τ sig (Elt Ideal)) : Prop where
  q : V0 (Proc.devRef .tc main_v81_0) = inQ P C
  k : V0 (Proc.devRef .tc main_v81_1) = inK P C
  v : V0 (Proc.devRef .tc main_v81_2) = inV P C
  b : V0 (Proc.devRef .tc main_v81_3) = inB P
  g : V0 (Proc.devRef .tc main_v81_4) = inG P L D
  ctr : V0 (Proc.devRef .tc main_v81_5) = fun _ => BitVec.ofNat 32 n
  s : V0 (Proc.devRef .tc main_v81_6) = stateV P C L D n
  o : ∀ (i : Fin 8192) (a : Fin 4) (h : Fin 8) (e : Fin 128), i.val < n → (show FVec Ideal S8192x4x8x128 .f32 from V0 (Proc.devRef .tc main_v81_7)) (ix4 i a h e)
    = ((∑ d, run' P C L D a h (i.val + 1) d e * qR P C a h i.val d : ℝ) : EReal)

variable {P C L D}

theorem state_at (t : Tame P C L D) (n : Fin 8192) {V0 : Valuation τ sig (Elt Ideal)} (H : At P C L D n.val V0) : res_main_while0b_v121 V0 = stateV P C L D (n.val + 1) := by
  funext i
  obtain ⟨a, h, d, e, rfl⟩ : ∃ (a : Fin 4) (h : Fin 8) (d e : Fin 128), i = ix4 a h d e := ⟨i 0, i 1, i 2, i 3, by funext x; fin_cases x <;> rfl⟩
  rw [stateV_at]
  unfold res_main_while0b_v121
  refine (corrected _ _ _ _ _ (res_main_while0b_v110 V0) rfl a h d e).trans ?_
  unfold res_main_while0b_v103
  rw [H.ctr, H.k, H.v, H.b, H.g, H.s]
  have e1 := slice3 (inG P L D) n a h
  have e2 := slice3 (inB P) n a h
  have e3 := slice4 (inV P C) n a h e
  have e4 := fun x => slice4 (inK P C) n a h x
  refine Eq.trans (Ideal.add_congr (Ideal.mul_congr (congrArg Ideal.exp e1) rfl) (Ideal.mul_congr (e4 d) (Ideal.mul_congr e2
    (congrArg₂ (fun u w : EReal => u - w) e3 (Fin.sum_fin_congr fun x => Ideal.mul_congr (e4 x) (Ideal.mul_congr (congrArg Ideal.exp e1) rfl)))))) ?_
  simp only [stateV_at, inG_at, inB_at, inV_at, inK_at]
  simp only [kE_eq, vE_eq a h t, bE_eq, gE_eq a h t, Ideal.exp_coe, ← EReal.coe_mul, ← EReal.coe_add, ← EReal.coe_sub, ← Cert.DnIdeal.Value.coe_sum]
  rfl

theorem next (t : Tame P C L D) (n : Fin 8192) {V0 : Valuation τ sig (Elt Ideal)} (H : At P C L D n.val V0) : At P C L D (n.val + 1) (STEP V0) where
  q := (STEP_main_v81_0 V0).trans H.q
  k := (STEP_main_v81_1 V0).trans H.k
  v := (STEP_main_v81_2 V0).trans H.v
  b := (STEP_main_v81_3 V0).trans H.b
  g := (STEP_main_v81_4 V0).trans H.g
  ctr := by
    rw [STEP_main_v81_5]
    unfold step_main_v81_5
    rw [H.ctr]
    funext i
    show BitVec.ofNat 32 n.val + 1#32 = _
    rw [BitVec.ofNat_add]
  s := (STEP_main_v81_6 V0).trans (state_at t n H)
  o := fun i a h e hi => by
    rw [STEP_main_v81_7]
    unfold step_main_v81_7
    rw [H.ctr, H.q, state_at t n H]
    refine (update4 _ _ n i a h e).trans ?_
    by_cases hn : i = n
    · subst hn
      rw [if_pos rfl]
      refine (read_out _ _ a h e).trans ?_
      have e4 := fun x => slice4 (inQ P C) i a h x
      refine (Fin.sum_fin_congr fun x => Ideal.mul_congr rfl (e4 x)).trans ?_
      simp only [inQ_at, qE_eq, stateV_at, ← EReal.coe_mul, ← Cert.DnIdeal.Value.coe_sum]
    · rw [if_neg hn]
      exact H.o i a h e (by have := fun hh => hn (Fin.ext hh); omega)

theorem first (c : Dev nD) : At (pArg m c) (cArg m c) (lArg m c) (dArg m c) 0 (entryContents preI m c) where
  q := entry_q m c
  k := entry_k m c
  v := entry_v m c
  b := entry_b m c
  g := entry_g m c
  ctr := ctr_entry m c
  s := by
    rw [entry_s]
    funext i
    exact Ideal.ofBits_zero_f32.trans EReal.coe_zero.symm
  o := fun i a h e hi => absurd hi (Nat.not_lt_zero _)

theorem trips (c : Dev nD) (t : Tame (pArg m c) (cArg m c) (lArg m c) (dArg m c)) (n : ℕ) (hn : n ≤ 8192) :
    At (pArg m c) (cArg m c) (lArg m c) (dArg m c) n (STEP^[n] (entryContents preI m c)) := by
  induction n with
  | zero => exact first m c
  | succ n ih =>
    rw [Function.iterate_succ_apply']
    exact next t ⟨n, hn⟩ (ih (by omega))

/-- The end of a row, from what the loop left. -/
theorem finish (O : FVec Ideal S8192x4x8x128 .f32) (w : FVec Ideal S128 .f32) (P : FVec Ideal S32768x15360 .f32) (V0 : Valuation τ sig (Elt Ideal))
    (h7 : V0 (Proc.devRef .tc main_v81_7) = O) (h4 : V0 (Proc.devRef .tc main_arg4) = w) (h0 : V0 (Proc.devRef .tc main_arg0) = P)
    (a : Fin 4) (n : Fin 8192) (h : Fin 8) (e : Fin 128) :
    (show FVec Ideal S32768x1024 .bf16 from out_main_v101 V0) (ix2 ⟨a.val * 8192 + n.val, by omega⟩ ⟨h.val * 128 + e.val, by omega⟩)
      = Cert.DnIdeal.Value.gate (fun x => O (ix4 n a h x)) (w (ix1 e)) (P (ix2 ⟨a.val * 8192 + n.val, by omega⟩ ⟨3072 + (h.val * 128 + e.val), by omega⟩)) e := by
  unfold out_main_v101
  rw [h7, h4, h0]
  pointwise [Cert.DnIdeal.Value.gate]
  rfl

theorem ref_at (c : Dev nD) (t : Tame (pArg m c) (cArg m c) (lArg m c) (dArg m c)) (a : Fin 4) (n : Fin 8192) (h : Fin 8) (e : Fin 128) :
    (show FVec Ideal S32768x1024 .bf16 from out_main_v101 (STEP^[8192] (entryContents preI m c))) (ix2 ⟨a.val * 8192 + n.val, by omega⟩ ⟨h.val * 128 + e.val, by omega⟩)
      = Cert.DnIdeal.Value.gate (fun x => ((∑ d, run' (pArg m c) (cArg m c) (lArg m c) (dArg m c) a h (n.val + 1) d x * qR (pArg m c) (cArg m c) a h n.val d : ℝ) : EReal))
        (oArg m c (ix1 e)) (pArg m c (ix2 ⟨a.val * 8192 + n.val, by omega⟩ ⟨3072 + (h.val * 128 + e.val), by omega⟩)) e := by
  refine (finish _ (oArg m c) (pArg m c) _ rfl (iter_main_arg4 m c 8192) (iter_main_arg0 m c 8192) a n h e).trans ?_
  have H := trips m c t 8192 le_rfl
  exact congrArg (fun f => Cert.DnIdeal.Value.gate f _ _ e) (funext fun x => H.o n a h x n.isLt)

end Cert.DnRefIdeal.Value
-- ==== Proof.DnPre.lean ====
module

public import proofs.«01_k».proof.Pre_finite_dn
public import proofs.«01_k».proof.Proof.DnAct
public import Idealize.ShloMosaic.Lib.Pointwise

/-!
The precondition, read: where its five comparisons hold, the value columns and their filters are finite and no decay is the
infinite one.
-/

@[expose] public section

set_option maxRecDepth 16384
noncomputable section

open Idealize.ShloMosaic Idealize.ShloMosaic.TcCoe Idealize.SL.Sem

namespace Cert.Pre_finite_dn

open Cert.DeltaRule

theorem side : Cert.Pre_finite_dn.Facts where
  slices_S32768x15360_S32768x1024_0_2048 := by decide +kernel
  bcast_S_S32768x1024 := by decide +kernel
  slices_S4x3072_S4x1024_0_2048 := by decide +kernel
  bcast_S_S4x1024 := by decide +kernel
  slices_S32768x15360_S32768x8_0_13824 := by decide +kernel
  bcast_S_S32768x8 := by decide +kernel
  bcast_S_S8 := by decide +kernel

variable [Facts]

theorem inf_top : Ideal.ofBits .f32 0x7F800000#32 = ⊤ := by
  simp [Ideal.ofBits, Ideal.ieee]

theorem below (x : EReal) (h : BitVec.ofBool (decide (x < Ideal.ofBits .f32 0x7F800000#32)) = 1#1) : x < ⊤ := by
  rw [inf_top] at h
  by_contra hx
  rw [decide_eq_false hx] at h
  exact absurd h (by decide)

theorem fin_abs (x : EReal) (h : max x (-x) < ⊤) : Fin' x := by
  induction x using EReal.rec with
  | bot => simp at h
  | top => simp at h
  | coe r => exact ⟨r, rfl⟩

variable (P : FVec Ideal S32768x15360 .f32) (C : FVec Ideal S4x3072 .f32) (L D : FVec Ideal S8 .f32) (O : FVec Ideal S128 .f32)

theorem tame (h1 : (fn (F := Ideal) P C L D O).1 = fun _ => 1#1) (h2 : (fn (F := Ideal) P C L D O).2.1 = fun _ => 1#1)
    (h3 : (fn (F := Ideal) P C L D O).2.2.1 = fun _ => 1#1) (h4 : (fn (F := Ideal) P C L D O).2.2.2.1 = fun _ => 1#1)
    (h5 : (fn (F := Ideal) P C L D O).2.2.2.2 = fun _ => 1#1) : Tame P C L D where
  val r x := by
    refine fin_abs _ (below _ (Eq.trans ?_ (congrFun h1 (ix2 r x))))
    symm
    pointwise [fn]
    rfl
  taps j x := by
    refine fin_abs _ (below _ (Eq.trans ?_ (congrFun h2 (ix2 j x))))
    symm
    pointwise [fn]
    rfl
  dec r x := by
    refine below _ (Eq.trans ?_ (congrFun h3 (ix2 r x)))
    symm
    pointwise [fn]
  log x := by
    refine below _ (Eq.trans ?_ (congrFun h4 (ix1 x)))
    symm
    pointwise [fn]
  bias x := by
    refine below _ (Eq.trans ?_ (congrFun h5 (ix1 x)))
    symm
    pointwise [fn]

end Cert.Pre_finite_dn
-- ==== Proof.DnValue.lean ====
module

public import proofs.«01_k».proof.Proof.DnRun
public import proofs.«01_k».proof.Proof.DnRef
public import proofs.«01_k».proof.Proof.DnPre

/-!
The kernel's result. Its points go through a batch's head tile by tile, so that by induction each begins where the
recurrence stands at its first token; the rows it writes are then the recurrence's, and the reference's.
-/

@[expose] public section

set_option maxRecDepth 16384
noncomputable section

open Idealize.ShloMosaic Idealize.ShloMosaic.TcCoe Idealize.SL.Sem
open Idealize.ShloMosaic.Pipeline (Dat)

namespace Cert.DnIdeal.Value

open Cert.DnIdeal Cert.DnIdeal.Gen Cert.DeltaRule

variable {m : (ℓ : Loc nD τ sig) → Buf (Elt Ideal) ℓ} {c : Dev nD}

/-- After each tile the state is the recurrence's. -/
theorem state_at (tm : Tame (arg0 m c) (arg1 m c) (arg2 m c) (arg3 m c)) (a : Fin 4) (h : Fin 8) (n : ℕ) :
    ∀ t : Fin cfg0.N, t.val % 32 = n → a.val = t.val / 256 → h.val = t.val / 32 % 8 →
      (outsAt0 m c t.val t.isLt).2.2.2.2 = up (φ := .f32) (run m c a h (n * 256 + 256)) := by
  induction n with
  | zero => exact fun t ht ha hh => stateA tm a h (0 * 256) ha hh ht (by omega)
  | succ n ih =>
    exact fun t ht ha hh => stateB tm a h ((n + 1) * 256) ha hh (by omega) (by omega)
      ((ih ⟨t.val - 1, by omega⟩ (by show (t.val - 1) % 32 = n; omega) (by show a.val = (t.val - 1) / 256; omega)
        (by show h.val = (t.val - 1) / 32 % 8; omega)).trans (congrArg (fun n => up (run m c a h n)) (by omega)))

/-- A tile's rows are the recurrence's. -/
theorem rows_at (tm : Tame (arg0 m c) (arg1 m c) (arg2 m c) (arg3 m c)) (a : Fin 4) (h : Fin 8) (t : Fin cfg0.N) (ha : a.val = t.val / 256)
    (hh : h.val = t.val / 32 % 8) (i : Fin 256) (e : Fin 128) :
    (outsAt0 m c t.val t.isLt).1 (ix2 i e)
      = gate (fun x => ((∑ d, run m c a h (t.val % 32 * 256 + (i.val + 1)) d x * qR (arg0 m c) (arg1 m c) a h (t.val % 32 * 256 + i.val) d : ℝ) : EReal))
        (arg4 m c (ix1 e)) (blk3 m c t (ix2 i e)) e := by
  by_cases h0 : t.val % 32 = 0
  · exact rowsA tm a h _ ha hh h0 rfl i e
  · exact rowsB tm a h _ ha hh h0 rfl
      ((state_at tm a h (t.val % 32 - 1) ⟨t.val - 1, by omega⟩ (by show (t.val - 1) % 32 = _; omega) (by show a.val = (t.val - 1) / 256; omega)
        (by show h.val = (t.val - 1) / 32 % 8; omega)).trans (congrArg (fun n => up (run m c a h n)) (by omega))) i e

/-- `R` is the recurrence's result on the arguments. -/
def Rows (m : (ℓ : Loc nD τ sig) → Buf (Elt Ideal) ℓ) (c : Dev nD) (R : FVec Ideal S32768x1024 .bf16) : Prop :=
  ∀ (a : Fin 4) (n : Fin 8192) (h : Fin 8) (e : Fin 128), R (ix2 ⟨a.val * 8192 + n.val, by omega⟩ ⟨h.val * 128 + e.val, by omega⟩)
    = gate (fun x => ((∑ d, run m c a h (n.val + 1) d x * qR (arg0 m c) (arg1 m c) a h n.val d : ℝ) : EReal)) (arg4 m c (ix1 e))
      (arg0 m c (ix2 ⟨a.val * 8192 + n.val, by omega⟩ ⟨3072 + (h.val * 128 + e.val), by omega⟩)) e

variable (tm : Tame (arg0 m c) (arg1 m c) (arg2 m c) (arg3 m c)) (R : FVec Ideal S32768x1024 .bf16) (hR : Rows m c R)

include tm hR in
/-- An entry of a point's block. -/
theorem point (t : Fin cfg0.N) (y : S256x128.Idx) (i : S32768x1024.Idx) (hi0 : (i 0).val = (t.val / 256 * 32 + t.val % 32) * 256 + (y 0).val)
    (hi1 : (i 1).val = t.val / 32 % 8 * 128 + (y 1).val) : (outsAt0 m c t.val t.isLt).1 y = R i := by
  idx_vars y
  idx_vars i
  have ht := (idx t).2.2.2.2.2.2.2.2.2.2.2.2.2
  have hy0 : y0.val < 256 := y0.isLt
  have hy1 : y1.val < 128 := y1.isLt
  have e0 : i0 = ⟨(⟨t.val / 256, by omega⟩ : Fin 4).val * 8192 + (⟨t.val % 32 * 256 + y0.val, by omega⟩ : Fin 8192).val, by dsimp only; omega⟩ :=
    Fin.ext (by dsimp only at hi0 ⊢; omega)
  have e1 : i1 = ⟨(⟨t.val / 32 % 8, by omega⟩ : Fin 8).val * 128 + y1.val, by dsimp only; omega⟩ := Fin.ext hi1
  rw [e0, e1, hR _ _ _ _, rows_at tm ⟨t.val / 256, by omega⟩ ⟨t.val / 32 % 8, by omega⟩ t rfl rfl,
    blk3_at m c t y0 y1 ⟨(⟨t.val / 256, by omega⟩ : Fin 4).val * 8192 + (⟨t.val % 32 * 256 + y0.val, by omega⟩ : Fin 8192).val, by dsimp only; omega⟩
      ⟨3072 + ((⟨t.val / 32 % 8, by omega⟩ : Fin 8).val * 128 + y1.val), by dsimp only; omega⟩ (by dsimp only; omega) (by dsimp only; omega)]
  rfl

include tm hR in
/-- The output array. -/
theorem final : (dats m 0 c).arrAt 11 (cfgs 0).N = R := by
  refine (dats m 0 c).arrAt_eq_of_covers 11 _ (by decide +kernel) fun t hf y => ?_
  blk_simp
  rw [after0_11]
  refine point tm R hR t y _ ?_ ?_
  all_goals (blk_simp [idx t] <;> try omega)

end Cert.DnIdeal.Value
-- ==== Proof.KvpPure.lean ====
/- The selected and window keys and values: the reference's operations and the kernel's payloads, read at an index. -/
module

public import proofs.«01_k».proof.Proof.Gen.KvpIdeal.Frame
public import proofs.«01_k».proof.Proof.Gen.KvpRefIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvpRefIdeal.Value

open Cert.KvpRefIdeal Cert.KvpRefIdeal.Gen

/-- One row of the RMS norm: `x · rsqrt(mean x² + ε)`, entry `k`. -/
def rms (x : Fin 128 → EReal) (k : Fin 128) : EReal :=
  x k * Ideal.rsqrt (Ideal.div (∑ l, x l * x l) (Ideal.ofBits .f32 0x43000000#32) + Ideal.ofBits .f32 0x358637BD#32)

/-- The keys' and values' columns, by kind, group and channel. -/
def cols (X : FVec Ideal S32768x15360 .f32) : FVec Ideal S32768x4x2x128 .f32 :=
  shapeCast _ (extractStridedSlice S32768x1024 ![0, 14336] X slices_S32768x15360_S32768x1024_0_14336) shapeCasts_S32768x1024_S32768x4x2x128

def kind0 (X : FVec Ideal S32768x15360 .f32) : FVec Ideal S32768x2x128 .f32 :=
  shapeCast _ (extractStridedSlice S32768x1x2x128 ![0, 0, 0, 0] (cols X) slices_S32768x4x2x128_S32768x1x2x128_0_0_0_0) shapeCasts_S32768x1x2x128_S32768x2x128

def kind1 (X : FVec Ideal S32768x15360 .f32) : FVec Ideal S32768x2x128 .f32 :=
  shapeCast _ (extractStridedSlice S32768x1x2x128 ![0, 1, 0, 0] (cols X) slices_S32768x4x2x128_S32768x1x2x128_0_1_0_0) shapeCasts_S32768x1x2x128_S32768x2x128

def kind2 (X : FVec Ideal S32768x15360 .f32) : FVec Ideal S32768x2x128 .f32 :=
  shapeCast _ (extractStridedSlice S32768x1x2x128 ![0, 2, 0, 0] (cols X) slices_S32768x4x2x128_S32768x1x2x128_0_2_0_0) shapeCasts_S32768x1x2x128_S32768x2x128

def kind3 (X : FVec Ideal S32768x15360 .f32) : FVec Ideal S32768x2x128 .f32 :=
  shapeCast _ (extractStridedSlice S32768x1x2x128 ![0, 3, 0, 0] (cols X) slices_S32768x4x2x128_S32768x1x2x128_0_3_0_0) shapeCasts_S32768x1x2x128_S32768x2x128

def weight1 (kn : FVec Ideal S3x128 .f32) : FVec Ideal S128 .f32 :=
  shapeCast _ (extractStridedSlice S1x128 ![1, 0] kn slices_S3x128_S1x128_1_0) shapeCasts_S1x128_S128

def weight2 (kn : FVec Ideal S3x128 .f32) : FVec Ideal S128 .f32 :=
  shapeCast _ (extractStridedSlice S1x128 ![2, 0] kn slices_S3x128_S1x128_2_0) shapeCasts_S1x128_S128

/-- The normed rows. -/
def normed (Y : FVec Ideal S32768x2x128 .f32) (w : FVec Ideal S128 .f32) : FVec Ideal S32768x2x128 .f32 :=
  mulf (mulf Y (broadcastInDim S32768x2x128 ![0, 1, 2] bcast_S32768x2x1_S32768x2x128_0_1_2 (Host.rsqrt (addf (Host.divf (broadcastInDim S32768x2x1 ![0, 1] bcast_S32768x2_S32768x2x1_0_1 (Host.reduceAdd (mulf Y Y) (constant S_ .f32 0x00000000#32) reducesTo_S32768x2x128_S32768x2_d2 h_S_)) (broadcastInDim S32768x2x1 ![] bcast_S_S32768x2x1 (constant S_ .f32 0x43000000#32))) (broadcastInDim S32768x2x1 ![] bcast_S_S32768x2x1 (constant S_ .f32 0x358637BD#32)))))) (broadcastInDim S32768x2x128 ![0, 1, 2] bcast_S1x1x128_S32768x2x128_0_1_2 (broadcastInDim S1x1x128 ![2] bcast_S128_S1x1x128_2 w))

/-- The reference's result, over its arguments. -/
def REF (X : FVec Ideal S32768x15360 .f32) (kn : FVec Ideal S3x128 .f32) : FVec Ideal S32768x1024 .bf16 :=
  truncf .bf16 (shapeCast _ ((concatenate S32768x4x2x128 1 [⟨S32768x1x2x128, ((broadcastInDim S32768x1x2x128 ![0, 2, 3] bcast_S32768x2x128_S32768x1x2x128_0_2_3 (normed (kind0 X) (weight1 kn))))⟩, ⟨S32768x1x2x128, ((broadcastInDim S32768x1x2x128 ![0, 2, 3] bcast_S32768x2x128_S32768x1x2x128_0_2_3 (kind1 X)))⟩, ⟨S32768x1x2x128, ((broadcastInDim S32768x1x2x128 ![0, 2, 3] bcast_S32768x2x128_S32768x1x2x128_0_2_3 (normed (kind2 X) (weight2 kn))))⟩, ⟨S32768x1x2x128, ((broadcastInDim S32768x1x2x128 ![0, 2, 3] bcast_S32768x2x128_S32768x1x2x128_0_2_3 (kind3 X)))⟩] concatenates_S32768x1x2x128_S32768x1x2x128_S32768x1x2x128_S32768x1x2x128_S32768x4x2x128_d1)) shapeCasts_S32768x4x2x128_S32768x1024) bitsLt_bf16_f32

theorem normed_at (Y : FVec Ideal S32768x2x128 .f32) (w : FVec Ideal S128 .f32) (r : Fin 32768) (g : Fin 2) (d : Fin 128) :
    normed Y w (ix3 r g d) = rms (fun l => Y (ix3 r g l)) d * w (ix1 d) := by
  pointwise [normed, rms]

theorem kind0_at (X : FVec Ideal S32768x15360 .f32) (r : Fin 32768) (g : Fin 2) (d : Fin 128) :
    kind0 X (ix3 r g d) = X (ix2 r ⟨14336 + 0 * 256 + g.val * 128 + d.val, by omega⟩) := by
  pointwise [kind0, cols]
  blk_ext []

theorem kind1_at (X : FVec Ideal S32768x15360 .f32) (r : Fin 32768) (g : Fin 2) (d : Fin 128) :
    kind1 X (ix3 r g d) = X (ix2 r ⟨14336 + 1 * 256 + g.val * 128 + d.val, by omega⟩) := by
  pointwise [kind1, cols]
  blk_ext []

theorem kind2_at (X : FVec Ideal S32768x15360 .f32) (r : Fin 32768) (g : Fin 2) (d : Fin 128) :
    kind2 X (ix3 r g d) = X (ix2 r ⟨14336 + 2 * 256 + g.val * 128 + d.val, by omega⟩) := by
  pointwise [kind2, cols]
  blk_ext []

theorem kind3_at (X : FVec Ideal S32768x15360 .f32) (r : Fin 32768) (g : Fin 2) (d : Fin 128) :
    kind3 X (ix3 r g d) = X (ix2 r ⟨14336 + 3 * 256 + g.val * 128 + d.val, by omega⟩) := by
  pointwise [kind3, cols]
  blk_ext []

theorem weight1_at (kn : FVec Ideal S3x128 .f32) (d : Fin 128) : weight1 kn (ix1 d) = kn (ix2 1 d) := by
  pointwise [weight1]
  try blk_ext []

theorem weight2_at (kn : FVec Ideal S3x128 .f32) (d : Fin 128) : weight2 kn (ix1 d) = kn (ix2 2 d) := by
  pointwise [weight2]
  try blk_ext []

theorem ref0_at (X : FVec Ideal S32768x15360 .f32) (kn : FVec Ideal S3x128 .f32) (r : Fin 32768) (g : Fin 2) (d : Fin 128) :
    REF X kn (ix2 r ⟨0 * 256 + g.val * 128 + d.val, by omega⟩) = rms (fun l => X (ix2 r ⟨14336 + 0 * 256 + g.val * 128 + l.val, by omega⟩)) d * kn (ix2 1 d) := by
  pointwise [REF]
  rw [dif_pos (by omega)]
  rw [normed_at, weight1_at]
  simp only [kind0_at]
  try rfl

theorem ref1_at (X : FVec Ideal S32768x15360 .f32) (kn : FVec Ideal S3x128 .f32) (r : Fin 32768) (g : Fin 2) (d : Fin 128) :
    REF X kn (ix2 r ⟨1 * 256 + g.val * 128 + d.val, by omega⟩) = X (ix2 r ⟨14336 + 1 * 256 + g.val * 128 + d.val, by omega⟩) := by
  pointwise [REF]
  rw [dif_neg (by omega)]
  rw [dif_pos (by omega)]
  rw [kind1_at]

theorem ref2_at (X : FVec Ideal S32768x15360 .f32) (kn : FVec Ideal S3x128 .f32) (r : Fin 32768) (g : Fin 2) (d : Fin 128) :
    REF X kn (ix2 r ⟨2 * 256 + g.val * 128 + d.val, by omega⟩) = rms (fun l => X (ix2 r ⟨14336 + 2 * 256 + g.val * 128 + l.val, by omega⟩)) d * kn (ix2 2 d) := by
  pointwise [REF]
  rw [dif_neg (by omega)]
  rw [dif_neg (by omega)]
  rw [dif_pos (by omega)]
  rw [normed_at, weight2_at]
  simp only [kind2_at]

theorem ref3_at (X : FVec Ideal S32768x15360 .f32) (kn : FVec Ideal S3x128 .f32) (r : Fin 32768) (g : Fin 2) (d : Fin 128) :
    REF X kn (ix2 r ⟨3 * 256 + g.val * 128 + d.val, by omega⟩) = X (ix2 r ⟨14336 + 3 * 256 + g.val * 128 + d.val, by omega⟩) := by
  pointwise [REF]
  rw [dif_neg (by omega)]
  rw [dif_neg (by omega)]
  rw [dif_neg (by omega)]
  rw [kind3_at]

end Cert.KvpRefIdeal.Value

namespace Cert.KvpIdeal.Value

open Cert.KvpIdeal Cert.KvpIdeal.Gen
open Cert.KvpRefIdeal.Value (rms)

/-- The normed keys of one block. -/
theorem norm_at (x : FVec Ideal S512x128 .f32) (w : FVec Ideal S1x128 .f32) (r : Fin 512) (d : Fin 128) :
    k0_pay3 (F := Ideal) x w (ix2 r d) = rms (fun l => x (ix2 r l)) d * w (ix2 0 d) := by
  pointwise [k0_pay3, rms]

/-- One entry of a point's block: keys normed, values as they are. -/
def tile (x : FVec Ideal S512x1024 .f32) (w : FVec Ideal S3x128 .f32) (r : Fin 512) (k : Fin 1024) : EReal :=
  if k.val / 256 = 0 then rms (fun l => x (ix2 r ⟨k.val / 128 * 128 + l.val, by omega⟩)) ⟨k.val % 128, by omega⟩ * w (ix2 1 ⟨k.val % 128, by omega⟩)
  else if k.val / 256 = 2 then rms (fun l => x (ix2 r ⟨k.val / 128 * 128 + l.val, by omega⟩)) ⟨k.val % 128, by omega⟩ * w (ix2 2 ⟨k.val % 128, by omega⟩)
  else x (ix2 r k)

theorem tile_at (x0 : Vec Ideal S512x1024 .f32) (x1 : Vec Ideal S3x128 .f32) (y : S512x1024.Idx) :
    out0_2 (F := Ideal) x0 x1 y = tile x0 x1 (y 0) (y 1) := by
  idx_vars y
  unfold out0_2
  canon_tiles x h
  all_goals
    replace h0 : y0.val = _ := h0
    replace h1 : y1.val = _ := h1
    have x1_lt' : (x 1).val < 128 := (x 1).isLt
    refine Eq.trans ?_ (show tile x0 x1 y0 y1 = _ from rfl)
    first
      | rw [tile, if_pos (show y1.val / 256 = 0 by omega)]
      | rw [tile, if_neg (show ¬ y1.val / 256 = 0 by omega), if_pos (show y1.val / 256 = 2 by omega)]
      | rw [tile, if_neg (show ¬ y1.val / 256 = 0 by omega), if_neg (show ¬ y1.val / 256 = 2 by omega)]
    open_payloads
    pointwise [rms]
    blk_point []

end Cert.KvpIdeal.Value

end
-- ==== Proof.KvpValue.lean ====
/- The selected and window keys and values: the array the kernel leaves is the reference's result. -/
module

public import proofs.«01_k».proof.Proof.KvpPure
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.KvpIdeal.Value

open Cert.KvpIdeal Cert.KvpIdeal.Gen
open Cert.KvpRefIdeal.Value (rms)

variable (m : (ℓ : Loc nD τ sig) → Buf (Elt Ideal) ℓ)

/-- The windows' block indices at every grid point: row block `t`. -/
theorem idx : ∀ t : Fin cfg0.N, win0_0.index t = ![t.val, 14] ∧ win0_1.index t = ![0, 0] ∧ win0_2.index t = ![t.val, 0] ∧ t.val < 64 :=
  (by decide +kernel : ∀ t : Fin grid0.N, _)

/-- The blocks of a point, at their shapes. -/
def blk0 (c : Dev nD) (p : Fin cfg0.N) : FVec Ideal S512x1024 .f32 := iblk m c 0 p
def blk1 (c : Dev nD) (p : Fin cfg0.N) : FVec Ideal S3x128 .f32 := iblk m c 1 p

/-- The arguments, at their shapes. -/
def arg0 (c : Dev nD) : FVec Ideal S32768x15360 .f32 := m ((c : Thread nD τ).loc main_arg0)
def arg1 (c : Dev nD) : FVec Ideal S3x128 .f32 := m ((c : Thread nD τ).loc main_arg1)

theorem blk0_at (c : Dev nD) (t : Fin cfg0.N) (r : Fin 512) (k : Fin 1024) (i : Fin 32768) (hi : i.val = t.val * 512 + r.val) :
    blk0 m c t (ix2 r k) = arg0 m c (ix2 i ⟨14336 + k.val, by omega⟩) := by
  blk_ext [blk0, arg0, iblk, V, idx t]

theorem blk1_at (c : Dev nD) (t : Fin cfg0.N) (r : Fin 3) (k : Fin 128) : blk1 m c t (ix2 r k) = arg1 m c (ix2 r k) := by
  blk_ext [blk1, arg1, iblk, V, idx t]

theorem same_entry (X : FVec Ideal S32768x15360 .f32) (i : Fin 32768) {a b : ℕ} (h : a = b) (ha : a < 15360) (hb : b < 15360) :
    X (ix2 i ⟨a, ha⟩) = X (ix2 i ⟨b, hb⟩) := by
  subst h
  rfl

/-- One entry of a point's block is the reference's. -/
theorem tile_ref (c : Dev nD) (t : Fin cfg0.N) (r : Fin 512) (k : Fin 1024) (i : Fin 32768) (hi : i.val = t.val * 512 + r.val) :
    tile (blk0 m c t) (blk1 m c t) r k = Cert.KvpRefIdeal.Value.REF (arg0 m c) (arg1 m c) (ix2 i k) := by
  have hk : k.val < 1024 := k.isLt
  have h4 : k.val / 256 = 0 ∨ k.val / 256 = 1 ∨ k.val / 256 = 2 ∨ k.val / 256 = 3 := by omega
  unfold tile
  simp only [blk0_at m c t r _ i hi, blk1_at]
  rcases h4 with h | h | h | h
  · have e : k = ⟨0 * 256 + (k.val / 128 % 2) * 128 + k.val % 128, by omega⟩ := Fin.ext (by dsimp only; omega)
    refine Eq.trans ?_ (congrArg (fun k => Cert.KvpRefIdeal.Value.REF (arg0 m c) (arg1 m c) (ix2 i k)) e.symm)
    refine Eq.trans ?_ (Cert.KvpRefIdeal.Value.ref0_at (arg0 m c) (arg1 m c) i ⟨k.val / 128 % 2, by omega⟩ ⟨k.val % 128, by omega⟩).symm
    rw [if_pos h]
    exact Ideal.mul_congr (congrArg (fun f => rms f _) (funext fun l => same_entry _ _ (by dsimp only; omega) _ _)) rfl
  · have e : k = ⟨1 * 256 + (k.val / 128 % 2) * 128 + k.val % 128, by omega⟩ := Fin.ext (by dsimp only; omega)
    refine Eq.trans ?_ (congrArg (fun k => Cert.KvpRefIdeal.Value.REF (arg0 m c) (arg1 m c) (ix2 i k)) e.symm)
    refine Eq.trans ?_ (Cert.KvpRefIdeal.Value.ref1_at (arg0 m c) (arg1 m c) i ⟨k.val / 128 % 2, by omega⟩ ⟨k.val % 128, by omega⟩).symm
    rw [if_neg (by omega), if_neg (by omega)]
    exact same_entry _ _ (by dsimp only; omega) _ _
  · have e : k = ⟨2 * 256 + (k.val / 128 % 2) * 128 + k.val % 128, by omega⟩ := Fin.ext (by dsimp only; omega)
    refine Eq.trans ?_ (congrArg (fun k => Cert.KvpRefIdeal.Value.REF (arg0 m c) (arg1 m c) (ix2 i k)) e.symm)
    refine Eq.trans ?_ (Cert.KvpRefIdeal.Value.ref2_at (arg0 m c) (arg1 m c) i ⟨k.val / 128 % 2, by omega⟩ ⟨k.val % 128, by omega⟩).symm
    rw [if_neg (by omega), if_pos h]
    exact Ideal.mul_congr (congrArg (fun f => rms f _) (funext fun l => same_entry _ _ (by dsimp only; omega) _ _)) rfl
  · have e : k = ⟨3 * 256 + (k.val / 128 % 2) * 128 + k.val % 128, by omega⟩ := Fin.ext (by dsimp only; omega)
    refine Eq.trans ?_ (congrArg (fun k => Cert.KvpRefIdeal.Value.REF (arg0 m c) (arg1 m c) (ix2 i k)) e.symm)
    refine Eq.trans ?_ (Cert.KvpRefIdeal.Value.ref3_at (arg0 m c) (arg1 m c) i ⟨k.val / 128 % 2, by omega⟩ ⟨k.val % 128, by omega⟩).symm
    rw [if_neg (by omega), if_neg (by omega)]
    exact same_entry _ _ (by dsimp only; omega) _ _

/-- The output array is the reference's result. -/
theorem final (c : Dev nD) : (dats m 0 c).arrAt 2 (cfgs 0).N
    = Cert.KvpRefIdeal.Value.REF (m ((c : Thread nD τ).loc main_arg0)) (m ((c : Thread nD τ).loc main_arg1)) := by
  refine (dats m 0 c).arrAt_eq_of_covers 2 _ (by decide +kernel) fun t hf y => ?_
  blk_simp
  rw [after0_2]
  have ht := (idx t).2.2.2
  refine (tile_at _ _ y).trans ?_
  idx_vars y
  have hy0 : y0.val < 512 := y0.isLt
  refine (tile_ref m c t y0 y1 ⟨t.val * 512 + y0.val, by omega⟩ rfl).trans (congrArg (Cert.KvpRefIdeal.Value.REF (arg0 m c) (arg1 m c)) ?_)
  blk_ext [idx t]

end Cert.KvpIdeal.Value

end
-- ==== Proof.CmpKRef.lean ====
/- The compressed keys: the reference's operations, read at an index. -/
module

public import proofs.«01_k».proof.Proof.Gen.CmpKRefIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CmpKRefIdeal.Value

open Cert.CmpKRefIdeal Cert.CmpKRefIdeal.Gen

/-- One row of the RMS norm: `x · rsqrt(mean x² + ε)`, entry `k`. -/
def rms (x : Fin 128 → EReal) (k : Fin 128) : EReal :=
  x k * Ideal.rsqrt (Ideal.div (∑ l, x l * x l) (Ideal.ofBits .f32 0x43000000#32) + Ideal.ofBits .f32 0x358637BD#32)

/-- The swish of one entry. -/
def silu (a : EReal) : EReal := a * Ideal.div 1 (1 + Ideal.exp (-a))

/-- The columns by batch, stretch of sixteen tokens, token, group and channel. -/
def sub (X : FVec Ideal S32768x15360 .f32) : FVec Ideal S4x512x16x2x128 .f32 :=
  shapeCast _ (extractStridedSlice S32768x256 ![0, 13312] X slices_S32768x15360_S32768x256_0_13312) shapeCasts_S32768x256_S4x512x16x2x128

/-- The overlapping blocks of two stretches with their positions' rows added, each as one row. -/
def joined (S : FVec Ideal S4x512x16x2x128 .f32) (pos : FVec Ideal S32x128 .f32) : FVec Ideal S4x511x2x4096 .f32 :=
  shapeCast _ (transpose S4x511x2x32x128 [0, 1, 3, 2, 4] (addf (concatenate S4x511x32x2x128 2 [⟨S4x511x16x2x128, (extractStridedSlice S4x511x16x2x128 ![0, 0, 0, 0, 0] S slices_S4x512x16x2x128_S4x511x16x2x128_0_0_0_0_0)⟩, ⟨S4x511x16x2x128, (extractStridedSlice S4x511x16x2x128 ![0, 1, 0, 0, 0] S slices_S4x512x16x2x128_S4x511x16x2x128_0_1_0_0_0)⟩] concatenates_S4x511x16x2x128_S4x511x16x2x128_S4x511x32x2x128_d2) (broadcastInDim S4x511x32x2x128 ![0, 1, 2, 3, 4] bcast_S1x1x32x1x128_S4x511x32x2x128_0_1_2_3_4 (broadcastInDim S1x1x32x1x128 ![2, 4] bcast_S32x128_S1x1x32x1x128_2_4 pos))) transposes_S4x511x32x2x128_S4x511x2x32x128_0_1_3_2_4) shapeCasts_S4x511x2x32x128_S4x511x2x4096

/-- The hidden rows before the swish. -/
def firstOf (B : FVec Ideal S4x511x2x4096 .f32) (w1 : FVec Ideal S4096x256 .f32) : FVec Ideal S4x511x2x256 .f32 :=
  Host.dotGeneral dot_S4x511x2x4096_S4096x256_S4x511x2x256_3_0_012_1_n_n none B w1

/-- The second product. -/
def secondOf (H : FVec Ideal S4x511x2x256 .f32) (w2 : FVec Ideal S256x128 .f32) : FVec Ideal S4x511x2x128 .f32 :=
  Host.dotGeneral dot_S4x511x2x256_S256x128_S4x511x2x128_3_0_012_1_n_n none (mulf H (Host.divf (broadcastInDim S4x511x2x256 ![] bcast_S_S4x511x2x256 (constant S_ .f32 0x3F800000#32)) (addf (broadcastInDim S4x511x2x256 ![] bcast_S_S4x511x2x256 (constant S_ .f32 0x3F800000#32)) (Host.exp (Host.negf H))))) w2

/-- The rows by group, a row of zeros after the last. -/
def lastOf (Q : FVec Ideal S4x511x2x128 .f32) (kn : FVec Ideal S3x128 .f32) : FVec Ideal S4x2x512x128 .bf16 :=
  truncf .bf16 (pad S4x2x512x128 ![0, 0, 0, 0] ![0, 0, 1, 0] ![0, 0, 0, 0] (transpose S4x2x511x128 [0, 2, 1, 3] (mulf (mulf Q (broadcastInDim S4x511x2x128 ![0, 1, 2, 3] bcast_S4x511x2x1_S4x511x2x128_0_1_2_3 (Host.rsqrt (addf (Host.divf (broadcastInDim S4x511x2x1 ![0, 1, 2] bcast_S4x511x2_S4x511x2x1_0_1_2 (Host.reduceAdd (mulf Q Q) (constant S_ .f32 0x00000000#32) reducesTo_S4x511x2x128_S4x511x2_d3 h_S_)) (broadcastInDim S4x511x2x1 ![] bcast_S_S4x511x2x1 (constant S_ .f32 0x43000000#32))) (broadcastInDim S4x511x2x1 ![] bcast_S_S4x511x2x1 (constant S_ .f32 0x358637BD#32)))))) (broadcastInDim S4x511x2x128 ![0, 1, 2, 3] bcast_S1x1x1x128_S4x511x2x128_0_1_2_3 (broadcastInDim S1x1x1x128 ![3] bcast_S128_S1x1x1x128_3 (shapeCast _ (extractStridedSlice S1x128 ![0, 0] kn slices_S3x128_S1x128_0_0) shapeCasts_S1x128_S128)))) transposes_S4x511x2x128_S4x2x511x128_0_2_1_3) (sitofp .f32 (constantI S_ 32 0#32)) pads_S4x2x511x128_S4x2x512x128_000_000_010_000 h_S_) bitsLt_bf16_f32

/-- The second product, over the arguments. -/
def mlp (X : FVec Ideal S32768x15360 .f32) (pos : FVec Ideal S32x128 .f32) (w1 : FVec Ideal S4096x256 .f32) (w2 : FVec Ideal S256x128 .f32) : FVec Ideal S4x511x2x128 .f32 :=
  secondOf (firstOf (joined (sub X) pos) w1) w2

/-- The reference's result, over its arguments. -/
def REF (X : FVec Ideal S32768x15360 .f32) (pos : FVec Ideal S32x128 .f32) (w1 : FVec Ideal S4096x256 .f32) (w2 : FVec Ideal S256x128 .f32) (kn : FVec Ideal S3x128 .f32) : FVec Ideal S4x2x512x128 .bf16 :=
  lastOf (mlp X pos w1 w2) kn

theorem same (X : FVec Ideal S32768x15360 .f32) {a b c d : ℕ} (h : a = b) (h' : c = d) (ha : a < 32768) (hb : b < 32768) (hc : c < 15360) (hd : d < 15360) :
    X (ix2 ⟨a, ha⟩ ⟨c, hc⟩) = X (ix2 ⟨b, hb⟩ ⟨d, hd⟩) := by
  subst h h'
  rfl

theorem sub_at (X : FVec Ideal S32768x15360 .f32) (b : Fin 4) (i : Fin 512) (l : Fin 16) (g : Fin 2) (d : Fin 128) :
    sub X (ix5 b i l g d) = X (ix2 ⟨b.val * 8192 + i.val * 16 + l.val, by omega⟩ ⟨13312 + g.val * 128 + d.val, by omega⟩) := by
  pointwise [sub]
  blk_ext []

theorem joined_at (S : FVec Ideal S4x512x16x2x128 .f32) (pos : FVec Ideal S32x128 .f32) (b : Fin 4) (i : Fin 511) (g : Fin 2) (j : Fin 4096) :
    joined S pos (ix4 b i g j) = (if h : j.val / 128 < 16 then S (ix5 b ⟨i.val, by omega⟩ ⟨j.val / 128, h⟩ g ⟨j.val % 128, by omega⟩)
        else S (ix5 b ⟨1 + i.val, by omega⟩ ⟨j.val / 128 - 16, by omega⟩ g ⟨j.val % 128, by omega⟩))
      + pos (ix2 ⟨j.val / 128, by omega⟩ ⟨j.val % 128, by omega⟩) := by
  pointwise [joined]

theorem blocks_at (X : FVec Ideal S32768x15360 .f32) (pos : FVec Ideal S32x128 .f32) (b : Fin 4) (i : Fin 511) (g : Fin 2) (j : Fin 4096) :
    joined (sub X) pos (ix4 b i g j) = X (ix2 ⟨b.val * 8192 + i.val * 16 + j.val / 128, by omega⟩ ⟨13312 + g.val * 128 + j.val % 128, by omega⟩)
      + pos (ix2 ⟨j.val / 128, by omega⟩ ⟨j.val % 128, by omega⟩) := by
  rw [joined_at]
  refine Ideal.add_congr ?_ rfl
  by_cases h : j.val / 128 < 16
  · rw [dif_pos h, sub_at]
  · rw [dif_neg h, sub_at]
    exact same X (by dsimp only; omega) rfl _ _ _ _

theorem first_at (B : FVec Ideal S4x511x2x4096 .f32) (w1 : FVec Ideal S4096x256 .f32) (b : Fin 4) (i : Fin 511) (g : Fin 2) (h : Fin 256) :
    firstOf B w1 (ix4 b i g h) = ∑ j : Fin 4096, B (ix4 b i g j) * w1 (ix2 j h) := by
  pointwise [firstOf]

theorem second_at (H : FVec Ideal S4x511x2x256 .f32) (w2 : FVec Ideal S256x128 .f32) (b : Fin 4) (i : Fin 511) (g : Fin 2) (d : Fin 128) :
    secondOf H w2 (ix4 b i g d) = ∑ h : Fin 256, silu (H (ix4 b i g h)) * w2 (ix2 h d) := by
  pointwise [secondOf, silu]

theorem last_at (Q : FVec Ideal S4x511x2x128 .f32) (kn : FVec Ideal S3x128 .f32) (b : Fin 4) (g : Fin 2) (i : Fin 511) (d : Fin 128) :
    lastOf Q kn (ix4 b g ⟨i.val, by omega⟩ d) = rms (fun l => Q (ix4 b i g l)) d * kn (ix2 0 d) := by
  pointwise [lastOf, rms]

/-- The integer the padding is converted from is the real zero. -/
theorem pad_word : (FloatOps.sitofp FTy.f32 0#32 : Ideal .f32) = (0 : EReal) := by
  show (((0#32 : BitVec 32).toInt : ℝ) : EReal) = 0
  simp

theorem last_row (Q : FVec Ideal S4x511x2x128 .f32) (kn : FVec Ideal S3x128 .f32) (b : Fin 4) (g : Fin 2) (d : Fin 128) :
    lastOf Q kn (ix4 b g 511 d) = 0 := by
  pointwise [lastOf]
  exact pad_word

/-- One entry of the second product, over the arguments. -/
def entry (X : FVec Ideal S32768x15360 .f32) (pos : FVec Ideal S32x128 .f32) (w1 : FVec Ideal S4096x256 .f32) (w2 : FVec Ideal S256x128 .f32) (b : Fin 4) (i : Fin 511) (g : Fin 2) (d : Fin 128) : EReal :=
  ∑ h : Fin 256, silu (∑ j : Fin 4096, (X (ix2 ⟨b.val * 8192 + i.val * 16 + j.val / 128, by omega⟩ ⟨13312 + g.val * 128 + j.val % 128, by omega⟩)
      + pos (ix2 ⟨j.val / 128, by omega⟩ ⟨j.val % 128, by omega⟩)) * w1 (ix2 j h)) * w2 (ix2 h d)

theorem mlp_at (X : FVec Ideal S32768x15360 .f32) (pos : FVec Ideal S32x128 .f32) (w1 : FVec Ideal S4096x256 .f32) (w2 : FVec Ideal S256x128 .f32) (b : Fin 4) (i : Fin 511) (g : Fin 2) (d : Fin 128) :
    mlp X pos w1 w2 (ix4 b i g d) = entry X pos w1 w2 b i g d := by
  unfold mlp entry
  rw [second_at]
  simp only [first_at, blocks_at]

end Cert.CmpKRefIdeal.Value

end
-- ==== Proof.CmpKTile.lean ====
/- The compressed keys: the kernel's payloads, read at an index. -/
module

public import proofs.«01_k».proof.Proof.Gen.CmpKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CmpKIdeal.Value

open Cert.CmpKIdeal Cert.CmpKIdeal.Gen

/-- One row of the RMS norm: `x · rsqrt(mean x² + ε)`, entry `k`. -/
def rms (x : Fin 128 → EReal) (k : Fin 128) : EReal :=
  x k * Ideal.rsqrt (Ideal.div (∑ l, x l * x l) (Ideal.ofBits .f32 0x43000000#32) + Ideal.ofBits .f32 0x358637BD#32)

/-- The swish of one entry. -/
def silu (a : EReal) : EReal := a * Ideal.div 1 (1 + Ideal.exp (-a))

theorem swish_eq (a : EReal) : a * Ideal.logistic a = silu a := rfl

/-- The comparison of a row's number with the last row's, as the operations compute it. -/
theorem compare_last : ∀ i : Fin 512, IntOp.cmpi CmpIPredicate.slt (BitVec.ofNat 32 i.val) 511#32 = if i.val < 511 then 1#1 else 0#1 := by
  decide +kernel

/-- The hidden rows of a block before the swish: the first half's product plus the next row's second half. -/
def hid (u0 : Vec Ideal S1x1x512x2048 .f32) (u1 : Vec Ideal S1x4096 .f32) (u2 : Vec Ideal S4096x256 .bf16) (i : Fin 511) (h : Fin 256) : EReal :=
  (∑ j : Fin 2048, (u0 (ix4 0 0 ⟨i.val, by omega⟩ j) + u1 (ix2 0 ⟨j.val, by omega⟩)) * u2 (ix2 ⟨j.val, by omega⟩ h))
    + ∑ j : Fin 2048, (u0 (ix4 0 0 ⟨i.val + 1, by omega⟩ j) + u1 (ix2 0 ⟨2048 + j.val, by omega⟩)) * u2 (ix2 ⟨2048 + j.val, by omega⟩ h)

/-- The second product of a block. -/
def two (u0 : Vec Ideal S1x1x512x2048 .f32) (u1 : Vec Ideal S1x4096 .f32) (u2 : Vec Ideal S4096x256 .bf16) (u3 : Vec Ideal S256x128 .bf16) (i : Fin 511) (d : Fin 128) : EReal :=
  ∑ h : Fin 256, silu (hid u0 u1 u2 i h) * u3 (ix2 h d)

theorem two_at (u0 : Vec Ideal S1x1x512x2048 .f32) (u1 : Vec Ideal S1x4096 .f32) (u2 : Vec Ideal S4096x256 .bf16) (u3 : Vec Ideal S256x128 .bf16) (i : Fin 511) (d : Fin 128) :
    k0_pay2 (F := Ideal) (View.ld u0 r0_0) (View.ld u1 r0_1) (View.ld u2 r0_2) (View.ld u1 r0_3) (View.ld u2 r0_4) (View.ld u3 r0_5) (ix2 ⟨i.val, by omega⟩ d)
      = two u0 u1 u2 u3 i d := by
  have e : (i.val + 512 - 511) % 512 = i.val + 1 := by omega
  pointwise [k0_pay2, two, hid]
  simp only [e, swish_eq]

theorem last_at (p : FVec Ideal S512x128 .f32) (w : FVec Ideal S1x128 .f32) (q : FVec Ideal S512x1 .f32) (i : Fin 512) (d : Fin 128) :
    k0_pay1 (F := Ideal) p w q (ix4 0 0 i d) = if i.val < 511 then p (ix2 i d) * Ideal.rsqrt (q (ix2 i 0)) * w (ix2 0 d) else 0 := by
  pointwise [k0_pay1]
  rw [compare_last]
  by_cases h : i.val < 511
  · rw [if_pos h, if_pos h]
    rfl
  · rw [if_neg h, if_neg h]
    rfl

theorem mean_at (u0 : Vec Ideal S1x1x512x2048 .f32) (u1 : Vec Ideal S1x4096 .f32) (u2 : Vec Ideal S4096x256 .bf16) (u3 : Vec Ideal S256x128 .bf16) (i : Fin 511) :
    k0_pay4 (F := Ideal) (View.ld u0 r0_0) (View.ld u1 r0_1) (View.ld u2 r0_2) (View.ld u1 r0_3) (View.ld u2 r0_4) (View.ld u3 r0_5) (ix2 ⟨i.val, by omega⟩ 0)
      = Ideal.div (∑ l, two u0 u1 u2 u3 i l * two u0 u1 u2 u3 i l) (Ideal.ofBits .f32 0x43000000#32) + Ideal.ofBits .f32 0x358637BD#32 := by
  simp only [← two_at]
  unfold k0_pay4
  generalize k0_pay2 (F := Ideal) (View.ld u0 r0_0) (View.ld u1 r0_1) (View.ld u2 r0_2) (View.ld u1 r0_3) (View.ld u2 r0_4) (View.ld u3 r0_5) = p
  pointwise

theorem weight_at (w : FVec Ideal S1x128 .f32) (d : Fin 128) : k0_pay3 (F := Ideal) w (ix2 0 d) = w (ix2 0 d) := by
  pointwise [k0_pay3]

theorem stored (u0 : Vec Ideal S1x1x512x2048 .f32) (u1 : Vec Ideal S1x4096 .f32) (u2 : Vec Ideal S4096x256 .bf16) (u3 : Vec Ideal S256x128 .bf16) (u4 : Vec Ideal S1x128 .f32) (y : S1x1x512x128.Idx) :
    out0_5 (F := Ideal) u0 u1 u2 u3 u4 y = k0_pay1 (F := Ideal) (k0_pay2 (F := Ideal) (View.ld u0 r0_0) (View.ld u1 r0_1) (View.ld u2 r0_2) (View.ld u1 r0_3) (View.ld u2 r0_4) (View.ld u3 r0_5)) (k0_pay3 (View.ld u4 r0_6)) (k0_pay4 (F := Ideal) (View.ld u0 r0_0) (View.ld u1 r0_1) (View.ld u2 r0_2) (View.ld u1 r0_3) (View.ld u2 r0_4) (View.ld u3 r0_5)) y := by
  unfold out0_5
  canon_tiles x h
  refine congrArg _ (funext fun k => Fin.ext ?_)
  fin_cases k
  · exact h0.symm
  · exact h1.symm
  · exact h2.symm
  · exact h3.symm

theorem tile_at (u0 : Vec Ideal S1x1x512x2048 .f32) (u1 : Vec Ideal S1x4096 .f32) (u2 : Vec Ideal S4096x256 .bf16) (u3 : Vec Ideal S256x128 .bf16) (u4 : Vec Ideal S1x128 .f32) (i : Fin 511) (d : Fin 128) :
    out0_5 (F := Ideal) u0 u1 u2 u3 u4 (ix4 0 0 ⟨i.val, by omega⟩ d) = rms (fun l => two u0 u1 u2 u3 i l) d * u4 (ix2 0 d) := by
  rw [stored]
  rw [last_at, if_pos i.isLt, two_at, mean_at, weight_at]
  unfold rms
  refine Ideal.mul_congr rfl ?_
  pointwise

theorem tile_last (u0 : Vec Ideal S1x1x512x2048 .f32) (u1 : Vec Ideal S1x4096 .f32) (u2 : Vec Ideal S4096x256 .bf16) (u3 : Vec Ideal S256x128 .bf16) (u4 : Vec Ideal S1x128 .f32) (d : Fin 128) :
    out0_5 (F := Ideal) u0 u1 u2 u3 u4 (ix4 0 0 511 d) = 0 := by
  rw [stored]
  rw [last_at, if_neg (by decide)]

end Cert.CmpKIdeal.Value

end
-- ==== Proof.CmpKValue.lean ====
/- The compressed keys: the array the kernel leaves is the reference's result. -/
module

public import proofs.«01_k».proof.Proof.CmpKRef
public import proofs.«01_k».proof.Proof.CmpKTile
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CmpKIdeal.Value

open Cert.CmpKIdeal Cert.CmpKIdeal.Gen

variable (m : (ℓ : Loc nD τ sig) → Buf (Elt Ideal) ℓ)

/-- The windows' block indices at every grid point: batch `t / 2`, group `t % 2`. -/
theorem idx : ∀ t : Fin cfg0.N, win0_0.index t = ![t.val / 2, t.val % 2, 0, 0] ∧ win0_1.index t = ![0, 0] ∧ win0_2.index t = ![0, 0]
    ∧ win0_3.index t = ![0, 0] ∧ win0_4.index t = ![0, 0] ∧ win0_5.index t = ![t.val / 2, t.val % 2, 0, 0] ∧ t.val < 8 :=
  (by decide +kernel : ∀ t : Fin grid0.N, _)

/-- The blocks of a point, at their shapes. -/
def blk0 (c : Dev nD) (p : Fin cfg0.N) : FVec Ideal S1x1x512x2048 .f32 := iblk m c 0 p
def blk1 (c : Dev nD) (p : Fin cfg0.N) : FVec Ideal S1x4096 .f32 := iblk m c 1 p
def blk2 (c : Dev nD) (p : Fin cfg0.N) : FVec Ideal S4096x256 .bf16 := iblk m c 2 p
def blk3 (c : Dev nD) (p : Fin cfg0.N) : FVec Ideal S256x128 .bf16 := iblk m c 3 p
def blk4 (c : Dev nD) (p : Fin cfg0.N) : FVec Ideal S1x128 .f32 := iblk m c 4 p

/-- The arguments, at their shapes. -/
def arg0 (c : Dev nD) : FVec Ideal S32768x15360 .f32 := m ((c : Thread nD τ).loc main_arg0)
def arg1 (c : Dev nD) : FVec Ideal S32x128 .f32 := m ((c : Thread nD τ).loc main_arg1)
def arg2 (c : Dev nD) : FVec Ideal S4096x256 .f32 := m ((c : Thread nD τ).loc main_arg2)
def arg3 (c : Dev nD) : FVec Ideal S256x128 .f32 := m ((c : Thread nD τ).loc main_arg3)
def arg4 (c : Dev nD) : FVec Ideal S3x128 .f32 := m ((c : Thread nD τ).loc main_arg4)

/-- The stretches as the host lays them out, from the columns. -/
def laidOut (X : FVec Ideal S32768x15360 .f32) : FVec Ideal S4x2x512x2048 .f32 :=
  shapeCast S4x2x512x2048 (transpose S4x2x512x16x128 [0, 3, 1, 2, 4] (shapeCast S4x512x16x2x128 (extractStridedSlice S32768x256 ![0, 13312] X slices_S32768x15360_S32768x256_0_13312) shapeCasts_S32768x256_S4x512x16x2x128) transposes_S4x512x16x2x128_S4x2x512x16x128_0_3_1_2_4) shapeCasts_S4x2x512x16x128_S4x2x512x2048

theorem laidOut_at (X : FVec Ideal S32768x15360 .f32) (b : Fin 4) (g : Fin 2) (i : Fin 512) (j : Fin 2048) :
    laidOut X (ix4 b g i j) = X (ix2 ⟨b.val * 8192 + i.val * 16 + j.val / 128, by omega⟩ ⟨13312 + g.val * 128 + j.val % 128, by omega⟩) := by
  pointwise [laidOut]
  blk_ext []

theorem blk0_at (c : Dev nD) (t : Fin cfg0.N) (i : Fin 512) (j : Fin 2048) (b : Fin 4) (g : Fin 2) (ht : t.val = b.val * 2 + g.val) :
    blk0 m c t (ix4 0 0 i j) = arg0 m c (ix2 ⟨b.val * 8192 + i.val * 16 + j.val / 128, by omega⟩ ⟨13312 + g.val * 128 + j.val % 128, by omega⟩) := by
  have e : V m c main_v3 = laidOut (arg0 m c) := by
    simp only [V, List.flatten_cons, List.flatten_nil, List.append_nil, List.cons_append, List.nil_append, hostOps0]
    after_results
    try rfl
  refine Eq.trans (b := (show FVec Ideal S4x2x512x2048 .f32 from V m c main_v3) (ix4 b g i j)) ?_ ?_
  · unfold blk0
    blk_ext [iblk, idx t]
  · rw [e]
    exact laidOut_at _ _ _ _ _

theorem blk1_at (c : Dev nD) (t : Fin cfg0.N) (j : Fin 4096) :
    blk1 m c t (ix2 0 j) = arg1 m c (ix2 ⟨j.val / 128, by omega⟩ ⟨j.val % 128, by omega⟩) := by
  have e : V m c main_v6 = shapeCast S1x4096 (arg1 m c) shapeCasts_S32x128_S1x4096 := by
    simp only [V, List.flatten_cons, List.flatten_nil, List.append_nil, List.cons_append, List.nil_append, hostOps0]
    after_results
    try rfl
  refine Eq.trans (b := (show FVec Ideal S1x4096 .f32 from V m c main_v6) (ix2 0 j)) ?_ ?_
  · unfold blk1
    blk_ext [iblk, idx t]
  · rw [e]
    pointwise

theorem blk2_at (c : Dev nD) (t : Fin cfg0.N) (j : Fin 4096) (h : Fin 256) : blk2 m c t (ix2 j h) = arg2 m c (ix2 j h) := by
  have e : V m c main_v7 = truncf (F := Ideal) .bf16 (arg2 m c) bitsLt_bf16_f32 := by
    simp only [V, List.flatten_cons, List.flatten_nil, List.append_nil, List.cons_append, List.nil_append, hostOps0]
    after_results
    try rfl
  refine Eq.trans (b := (show FVec Ideal S4096x256 .bf16 from V m c main_v7) (ix2 j h)) ?_ ?_
  · unfold blk2
    blk_ext [iblk, idx t]
  · rw [e]
    pointwise

theorem blk3_at (c : Dev nD) (t : Fin cfg0.N) (h : Fin 256) (d : Fin 128) : blk3 m c t (ix2 h d) = arg3 m c (ix2 h d) := by
  have e : V m c main_v8 = truncf (F := Ideal) .bf16 (arg3 m c) bitsLt_bf16_f32 := by
    simp only [V, List.flatten_cons, List.flatten_nil, List.append_nil, List.cons_append, List.nil_append, hostOps0]
    after_results
    try rfl
  refine Eq.trans (b := (show FVec Ideal S256x128 .bf16 from V m c main_v8) (ix2 h d)) ?_ ?_
  · unfold blk3
    blk_ext [iblk, idx t]
  · rw [e]
    pointwise

theorem blk4_at (c : Dev nD) (t : Fin cfg0.N) (d : Fin 128) : blk4 m c t (ix2 0 d) = arg4 m c (ix2 0 d) := by
  have e : V m c main_v9 = shapeCast S1x128 (shapeCast S128 (extractStridedSlice S1x128 ![0, 0] (arg4 m c) slices_S3x128_S1x128_0_0) shapeCasts_S1x128_S128) shapeCasts_S128_S1x128 := by
    simp only [V, List.flatten_cons, List.flatten_nil, List.append_nil, List.cons_append, List.nil_append, hostOps0]
    after_results
    try rfl
  refine Eq.trans (b := (show FVec Ideal S1x128 .f32 from V m c main_v9) (ix2 0 d)) ?_ ?_
  · unfold blk4
    blk_ext [iblk, idx t]
  · rw [e]
    pointwise

/-- A sum over a block's row is the sum over its first half plus the sum over its second. -/
theorem sum_halves (f : Fin 4096 → EReal) :
    ∑ j : Fin 4096, f j = (∑ j : Fin 2048, f ⟨j.val, by omega⟩) + ∑ j : Fin 2048, f ⟨2048 + j.val, by omega⟩ :=
  Fin.sum_univ_add (a := 2048) (b := 2048) f

/-- The hidden rows of a point are the reference's. -/
theorem hid_ref (c : Dev nD) (t : Fin cfg0.N) (b : Fin 4) (g : Fin 2) (ht : t.val = b.val * 2 + g.val) (i : Fin 511) (h : Fin 256) :
    hid (blk0 m c t) (blk1 m c t) (blk2 m c t) i h
      = ∑ j : Fin 4096, (arg0 m c (ix2 ⟨b.val * 8192 + i.val * 16 + j.val / 128, by omega⟩ ⟨13312 + g.val * 128 + j.val % 128, by omega⟩)
        + arg1 m c (ix2 ⟨j.val / 128, by omega⟩ ⟨j.val % 128, by omega⟩)) * arg2 m c (ix2 j h) := by
  rw [sum_halves]
  unfold hid
  refine Ideal.add_congr (Fin.sum_fin_congr fun j => Ideal.mul_congr (Ideal.add_congr ?_ ?_) ?_) (Fin.sum_fin_congr fun j => Ideal.mul_congr (Ideal.add_congr ?_ ?_) ?_)
  · exact blk0_at m c t _ j b g ht
  · exact blk1_at m c t _
  · exact blk2_at m c t _ h
  · exact (blk0_at m c t _ j b g ht).trans (Cert.CmpKRefIdeal.Value.same _ (by dsimp only; omega) (by dsimp only; omega) _ _ _ _)
  · exact blk1_at m c t _
  · exact blk2_at m c t _ h

theorem two_ref (c : Dev nD) (t : Fin cfg0.N) (b : Fin 4) (g : Fin 2) (ht : t.val = b.val * 2 + g.val) (i : Fin 511) (d : Fin 128) :
    two (blk0 m c t) (blk1 m c t) (blk2 m c t) (blk3 m c t) i d
      = Cert.CmpKRefIdeal.Value.mlp (arg0 m c) (arg1 m c) (arg2 m c) (arg3 m c) (ix4 b i g d) := by
  rw [Cert.CmpKRefIdeal.Value.mlp_at]
  unfold two Cert.CmpKRefIdeal.Value.entry
  refine Fin.sum_fin_congr fun h => Ideal.mul_congr ?_ (blk3_at m c t h d)
  exact congrArg silu (hid_ref m c t b g ht i h)

/-- One entry of a point's block is the reference's. -/
theorem point (c : Dev nD) (t : Fin cfg0.N) (b : Fin 4) (g : Fin 2) (ht : t.val = b.val * 2 + g.val) (i : Fin 512) (d : Fin 128) :
    out0_5 (F := Ideal) (blk0 m c t) (blk1 m c t) (blk2 m c t) (blk3 m c t) (blk4 m c t) (ix4 0 0 i d)
      = Cert.CmpKRefIdeal.Value.REF (arg0 m c) (arg1 m c) (arg2 m c) (arg3 m c) (arg4 m c) (ix4 b g i d) := by
  unfold Cert.CmpKRefIdeal.Value.REF
  by_cases h : i.val < 511
  · have hi : i = ⟨(⟨i.val, h⟩ : Fin 511).val, i.isLt⟩ := rfl
    rw [hi]
    refine (tile_at _ _ _ _ _ ⟨i.val, h⟩ d).trans (Eq.trans ?_ (Cert.CmpKRefIdeal.Value.last_at _ _ b g ⟨i.val, h⟩ d).symm)
    rw [blk4_at]
    refine Ideal.mul_congr ?_ rfl
    exact congrArg (fun f => rms f d) (funext fun l => two_ref m c t b g ht _ l)
  · have hi : i = 511 := Fin.ext (by have := i.isLt; show i.val = 511; omega)
    rw [hi]
    exact (tile_last _ _ _ _ _ d).trans (Cert.CmpKRefIdeal.Value.last_row _ _ b g d).symm

/-- The output array is the reference's result. -/
theorem final (c : Dev nD) : (dats m 0 c).arrAt 5 (cfgs 0).N
    = Cert.CmpKRefIdeal.Value.REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  have ht := (idx t).2.2.2.2.2.2
  idx_vars y
  obtain rfl : y0 = 0 := Subsingleton.elim _ _
  obtain rfl : y1 = 0 := Subsingleton.elim _ _
  refine (point m c t ⟨t.val / 2, by omega⟩ ⟨t.val % 2, by omega⟩ (by dsimp only; omega) y2 y3).trans
    (congrArg (Cert.CmpKRefIdeal.Value.REF (arg0 m c) (arg1 m c) (arg2 m c) (arg3 m c) (arg4 m c)) ?_)
  blk_ext [idx t]

end Cert.CmpKIdeal.Value

end
-- ==== Proof.CmpVRef.lean ====
/- The compressed values: the reference's operations, read at an index. -/
module

public import proofs.«01_k».proof.Proof.Gen.CmpVRefIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CmpVRefIdeal.Value

open Cert.CmpVRefIdeal Cert.CmpVRefIdeal.Gen

/-- The swish of one entry. -/
def silu (a : EReal) : EReal := a * Ideal.div 1 (1 + Ideal.exp (-a))

/-- The columns by batch, stretch of sixteen tokens, token, group and channel. -/
def sub (X : FVec Ideal S32768x15360 .f32) : FVec Ideal S4x512x16x2x128 .f32 :=
  shapeCast _ (extractStridedSlice S32768x256 ![0, 13568] X slices_S32768x15360_S32768x256_0_13568) shapeCasts_S32768x256_S4x512x16x2x128

/-- The overlapping blocks of two stretches with their positions' rows added, each as one row. -/
def joined (S : FVec Ideal S4x512x16x2x128 .f32) (pos : FVec Ideal S32x128 .f32) : FVec Ideal S4x511x2x4096 .f32 :=
  shapeCast _ (transpose S4x511x2x32x128 [0, 1, 3, 2, 4] (addf (concatenate S4x511x32x2x128 2 [⟨S4x511x16x2x128, (extractStridedSlice S4x511x16x2x128 ![0, 0, 0, 0, 0] S slices_S4x512x16x2x128_S4x511x16x2x128_0_0_0_0_0)⟩, ⟨S4x511x16x2x128, (extractStridedSlice S4x511x16x2x128 ![0, 1, 0, 0, 0] S slices_S4x512x16x2x128_S4x511x16x2x128_0_1_0_0_0)⟩] concatenates_S4x511x16x2x128_S4x511x16x2x128_S4x511x32x2x128_d2) (broadcastInDim S4x511x32x2x128 ![0, 1, 2, 3, 4] bcast_S1x1x32x1x128_S4x511x32x2x128_0_1_2_3_4 (broadcastInDim S1x1x32x1x128 ![2, 4] bcast_S32x128_S1x1x32x1x128_2_4 pos))) transposes_S4x511x32x2x128_S4x511x2x32x128_0_1_3_2_4) shapeCasts_S4x511x2x32x128_S4x511x2x4096

/-- The hidden rows before the swish. -/
def firstOf (B : FVec Ideal S4x511x2x4096 .f32) (w1 : FVec Ideal S4096x256 .f32) : FVec Ideal S4x511x2x256 .f32 :=
  Host.dotGeneral dot_S4x511x2x4096_S4096x256_S4x511x2x256_3_0_012_1_n_n none B w1

/-- The second product. -/
def secondOf (H : FVec Ideal S4x511x2x256 .f32) (w2 : FVec Ideal S256x128 .f32) : FVec Ideal S4x511x2x128 .f32 :=
  Host.dotGeneral dot_S4x511x2x256_S256x128_S4x511x2x128_3_0_012_1_n_n none (mulf H (Host.divf (broadcastInDim S4x511x2x256 ![] bcast_S_S4x511x2x256 (constant S_ .f32 0x3F800000#32)) (addf (broadcastInDim S4x511x2x256 ![] bcast_S_S4x511x2x256 (constant S_ .f32 0x3F800000#32)) (Host.exp (Host.negf H))))) w2

/-- The rows by group, a row of zeros after the last. -/
def lastOf (Q : FVec Ideal S4x511x2x128 .f32) : FVec Ideal S4x2x512x128 .bf16 :=
  truncf .bf16 (pad S4x2x512x128 ![0, 0, 0, 0] ![0, 0, 1, 0] ![0, 0, 0, 0] (transpose S4x2x511x128 [0, 2, 1, 3] Q transposes_S4x511x2x128_S4x2x511x128_0_2_1_3) (sitofp .f32 (constantI S_ 32 0#32)) pads_S4x2x511x128_S4x2x512x128_000_000_010_000 h_S_) bitsLt_bf16_f32

/-- The second product, over the arguments. -/
def mlp (X : FVec Ideal S32768x15360 .f32) (pos : FVec Ideal S32x128 .f32) (w1 : FVec Ideal S4096x256 .f32) (w2 : FVec Ideal S256x128 .f32) : FVec Ideal S4x511x2x128 .f32 :=
  secondOf (firstOf (joined (sub X) pos) w1) w2

/-- The reference's result, over its arguments. -/
def REF (X : FVec Ideal S32768x15360 .f32) (pos : FVec Ideal S32x128 .f32) (w1 : FVec Ideal S4096x256 .f32) (w2 : FVec Ideal S256x128 .f32) : FVec Ideal S4x2x512x128 .bf16 :=
  lastOf (mlp X pos w1 w2)

theorem same (X : FVec Ideal S32768x15360 .f32) {a b c d : ℕ} (h : a = b) (h' : c = d) (ha : a < 32768) (hb : b < 32768) (hc : c < 15360) (hd : d < 15360) :
    X (ix2 ⟨a, ha⟩ ⟨c, hc⟩) = X (ix2 ⟨b, hb⟩ ⟨d, hd⟩) := by
  subst h h'
  rfl

theorem sub_at (X : FVec Ideal S32768x15360 .f32) (b : Fin 4) (i : Fin 512) (l : Fin 16) (g : Fin 2) (d : Fin 128) :
    sub X (ix5 b i l g d) = X (ix2 ⟨b.val * 8192 + i.val * 16 + l.val, by omega⟩ ⟨13568 + g.val * 128 + d.val, by omega⟩) := by
  pointwise [sub]
  blk_ext []

theorem joined_at (S : FVec Ideal S4x512x16x2x128 .f32) (pos : FVec Ideal S32x128 .f32) (b : Fin 4) (i : Fin 511) (g : Fin 2) (j : Fin 4096) :
    joined S pos (ix4 b i g j) = (if h : j.val / 128 < 16 then S (ix5 b ⟨i.val, by omega⟩ ⟨j.val / 128, h⟩ g ⟨j.val % 128, by omega⟩)
        else S (ix5 b ⟨1 + i.val, by omega⟩ ⟨j.val / 128 - 16, by omega⟩ g ⟨j.val % 128, by omega⟩))
      + pos (ix2 ⟨j.val / 128, by omega⟩ ⟨j.val % 128, by omega⟩) := by
  pointwise [joined]

theorem blocks_at (X : FVec Ideal S32768x15360 .f32) (pos : FVec Ideal S32x128 .f32) (b : Fin 4) (i : Fin 511) (g : Fin 2) (j : Fin 4096) :
    joined (sub X) pos (ix4 b i g j) = X (ix2 ⟨b.val * 8192 + i.val * 16 + j.val / 128, by omega⟩ ⟨13568 + g.val * 128 + j.val % 128, by omega⟩)
      + pos (ix2 ⟨j.val / 128, by omega⟩ ⟨j.val % 128, by omega⟩) := by
  rw [joined_at]
  refine Ideal.add_congr ?_ rfl
  by_cases h : j.val / 128 < 16
  · rw [dif_pos h, sub_at]
  · rw [dif_neg h, sub_at]
    exact same X (by dsimp only; omega) rfl _ _ _ _

theorem first_at (B : FVec Ideal S4x511x2x4096 .f32) (w1 : FVec Ideal S4096x256 .f32) (b : Fin 4) (i : Fin 511) (g : Fin 2) (h : Fin 256) :
    firstOf B w1 (ix4 b i g h) = ∑ j : Fin 4096, B (ix4 b i g j) * w1 (ix2 j h) := by
  pointwise [firstOf]

theorem second_at (H : FVec Ideal S4x511x2x256 .f32) (w2 : FVec Ideal S256x128 .f32) (b : Fin 4) (i : Fin 511) (g : Fin 2) (d : Fin 128) :
    secondOf H w2 (ix4 b i g d) = ∑ h : Fin 256, silu (H (ix4 b i g h)) * w2 (ix2 h d) := by
  pointwise [secondOf, silu]

theorem last_at (Q : FVec Ideal S4x511x2x128 .f32) (b : Fin 4) (g : Fin 2) (i : Fin 511) (d : Fin 128) :
    lastOf Q  (ix4 b g ⟨i.val, by omega⟩ d) = Q (ix4 b i g d) := by
  pointwise [lastOf]

/-- The integer the padding is converted from is the real zero. -/
theorem pad_word : (FloatOps.sitofp FTy.f32 0#32 : Ideal .f32) = (0 : EReal) := by
  show (((0#32 : BitVec 32).toInt : ℝ) : EReal) = 0
  simp

theorem last_row (Q : FVec Ideal S4x511x2x128 .f32) (b : Fin 4) (g : Fin 2) (d : Fin 128) :
    lastOf Q  (ix4 b g 511 d) = 0 := by
  pointwise [lastOf]
  exact pad_word

/-- One entry of the second product, over the arguments. -/
def entry (X : FVec Ideal S32768x15360 .f32) (pos : FVec Ideal S32x128 .f32) (w1 : FVec Ideal S4096x256 .f32) (w2 : FVec Ideal S256x128 .f32) (b : Fin 4) (i : Fin 511) (g : Fin 2) (d : Fin 128) : EReal :=
  ∑ h : Fin 256, silu (∑ j : Fin 4096, (X (ix2 ⟨b.val * 8192 + i.val * 16 + j.val / 128, by omega⟩ ⟨13568 + g.val * 128 + j.val % 128, by omega⟩)
      + pos (ix2 ⟨j.val / 128, by omega⟩ ⟨j.val % 128, by omega⟩)) * w1 (ix2 j h)) * w2 (ix2 h d)

theorem mlp_at (X : FVec Ideal S32768x15360 .f32) (pos : FVec Ideal S32x128 .f32) (w1 : FVec Ideal S4096x256 .f32) (w2 : FVec Ideal S256x128 .f32) (b : Fin 4) (i : Fin 511) (g : Fin 2) (d : Fin 128) :
    mlp X pos w1 w2 (ix4 b i g d) = entry X pos w1 w2 b i g d := by
  unfold mlp entry
  rw [second_at]
  simp only [first_at, blocks_at]

/-- The reference runs to its end with its result over the arguments. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = REF (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (by
    generalize m ((c.tc : Thread nD τ).loc main_arg0) = X
    generalize m ((c.tc : Thread nD τ).loc main_arg1) = pos
    generalize m ((c.tc : Thread nD τ).loc main_arg2) = w1
    generalize m ((c.tc : Thread nD τ).loc main_arg3) = w2
    rfl), (h c).2⟩) (run m ρ)

end Cert.CmpVRefIdeal.Value

end
-- ==== Proof.CmpVTile.lean ====
/- The compressed values: the kernel's payloads, read at an index. -/
module

public import proofs.«01_k».proof.Proof.Gen.CmpVIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.CmpVIdeal.Value

open Cert.CmpVIdeal Cert.CmpVIdeal.Gen

/-- The swish of one entry. -/
def silu (a : EReal) : EReal := a * Ideal.div 1 (1 + Ideal.exp (-a))

theorem swish_eq (a : EReal) : a * Ideal.logistic a = silu a := rfl

/-- The comparison of a row's number with the last row's, as the operations compute it. -/
theorem compare_last : ∀ i : Fin 512, IntOp.cmpi CmpIPredicate.slt (BitVec.ofNat 32 i.val) 511#32 = if i.val < 511 then 1#1 else 0#1 := by
  decide +kernel

/-- The hidden rows of a block before the swish: the first half's product plus the next row's second half. -/
def hid (u0 : Vec Ideal S1x1x512x2048 .f32) (u1 : Vec Ideal S1x4096 .f32) (u2 : Vec Ideal S4096x256 .bf16) (i : Fin 511) (h : Fin 256) : EReal :=
  (∑ j : Fin 2048, (u0 (ix4 0 0 ⟨i.val, by omega⟩ j) + u1 (ix2 0 ⟨j.val, by omega⟩)) * u2 (ix2 ⟨j.val, by omega⟩ h))
    + ∑ j : Fin 2048, (u0 (ix4 0 0 ⟨i.val + 1, by omega⟩ j) + u1 (ix2 0 ⟨2048 + j.val, by omega⟩)) * u2 (ix2 ⟨2048 + j.val, by omega⟩ h)

/-- The second product of a block. -/
def two (u0 : Vec Ideal S1x1x512x2048 .f32) (u1 : Vec Ideal S1x4096 .f32) (u2 : Vec Ideal S4096x256 .bf16) (u3 : Vec Ideal S256x128 .bf16) (i : Fin 511) (d : Fin 128) : EReal :=
  ∑ h : Fin 256, silu (hid u0 u1 u2 i h) * u3 (ix2 h d)

theorem two_at (u0 : Vec Ideal S1x1x512x2048 .f32) (u1 : Vec Ideal S1x4096 .f32) (u2 : Vec Ideal S4096x256 .bf16) (u3 : Vec Ideal S256x128 .bf16) (i : Fin 511) (d : Fin 128) :
    k0_pay2 (F := Ideal) (View.ld u0 r0_0) (View.ld u1 r0_1) (View.ld u2 r0_2) (View.ld u1 r0_3) (View.ld u2 r0_4) (View.ld u3 r0_5) (ix2 ⟨i.val, by omega⟩ d)
      = two u0 u1 u2 u3 i d := by
  have e : (i.val + 512 - 511) % 512 = i.val + 1 := by omega
  pointwise [k0_pay2, two, hid]
  rw [compare_last ⟨i.val, by omega⟩, if_pos i.isLt]
  simp only [e, swish_eq]
  rfl

theorem last_row (u0 : Vec Ideal S1x1x512x2048 .f32) (u1 : Vec Ideal S1x4096 .f32) (u2 : Vec Ideal S4096x256 .bf16) (u3 : Vec Ideal S256x128 .bf16) (d : Fin 128) : k0_pay2 (F := Ideal) (View.ld u0 r0_0) (View.ld u1 r0_1) (View.ld u2 r0_2) (View.ld u1 r0_3) (View.ld u2 r0_4) (View.ld u3 r0_5) (ix2 511 d) = 0 := by
  pointwise [k0_pay2]
  rfl

theorem laid (p : FVec Ideal S512x128 .bf16) (i : Fin 512) (d : Fin 128) : k0_pay1 (F := Ideal) p (ix4 0 0 i d) = p (ix2 i d) := by
  pointwise [k0_pay1]

theorem stored (u0 : Vec Ideal S1x1x512x2048 .f32) (u1 : Vec Ideal S1x4096 .f32) (u2 : Vec Ideal S4096x256 .bf16) (u3 : Vec Ideal S256x128 .bf16) (u4 : Vec Ideal S1x128 .f32) (y : S1x1x512x128.Idx) :
    out0_5 (F := Ideal) u0 u1 u2 u3 u4 y = k0_pay1 (F := Ideal) (k0_pay2 (F := Ideal) (View.ld u0 r0_0) (View.ld u1 r0_1) (View.ld u2 r0_2) (View.ld u1 r0_3) (View.ld u2 r0_4) (View.ld u3 r0_5)) y := by
  unfold out0_5
  canon_tiles x h
  refine congrArg _ (funext fun k => Fin.ext ?_)
  fin_cases k
  · exact h0.symm
  · exact h1.symm
  · exact h2.symm
  · exact h3.symm

theorem tile_at (u0 : Vec Ideal S1x1x512x2048 .f32) (u1 : Vec Ideal S1x4096 .f32) (u2 : Vec Ideal S4096x256 .bf16) (u3 : Vec Ideal S256x128 .bf16) (u4 : Vec Ideal S1x128 .f32) (i : Fin 511) (d : Fin 128) :
    out0_5 (F := Ideal) u0 u1 u2 u3 u4 (ix4 0 0 ⟨i.val, by omega⟩ d) = two u0 u1 u2 u3 i d := by
  rw [stored]
  rw [laid, two_at]

theorem tile_last (u0 : Vec Ideal S1x1x512x2048 .f32) (u1 : Vec Ideal S1x4096 .f32) (u2 : Vec Ideal S4096x256 .bf16) (u3 : Vec Ideal S256x128 .bf16) (u4 : Vec Ideal S1x128 .f32) (d : Fin 128) :
    out0_5 (F := Ideal) u0 u1 u2 u3 u4 (ix4 0 0 511 d) = 0 := by
  rw [stored]
  rw [laid, last_row]

end Cert.CmpVIdeal.Value

end
-- ==== Proof.CmpVValue.lean ====
/- The compressed values: the array the kernel leaves is the reference's result. -/
module

public import proofs.«01_k».proof.Proof.CmpVRef
public import proofs.«01_k».proof.Proof.CmpVTile
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.CmpVIdeal.Value

open Cert.CmpVIdeal Cert.CmpVIdeal.Gen

variable (m : (ℓ : Loc nD τ sig) → Buf (Elt Ideal) ℓ)

/-- The windows' block indices at every grid point: batch `t / 2`, group `t % 2`. -/
theorem idx : ∀ t : Fin cfg0.N, win0_0.index t = ![t.val / 2, t.val % 2, 0, 0] ∧ win0_1.index t = ![0, 0] ∧ win0_2.index t = ![0, 0]
    ∧ win0_3.index t = ![0, 0] ∧ win0_4.index t = ![0, 0] ∧ win0_5.index t = ![t.val / 2, t.val % 2, 0, 0] ∧ t.val < 8 :=
  (by decide +kernel : ∀ t : Fin grid0.N, _)

/-- The blocks of a point, at their shapes. -/
def blk0 (c : Dev nD) (p : Fin cfg0.N) : FVec Ideal S1x1x512x2048 .f32 := iblk m c 0 p
def blk1 (c : Dev nD) (p : Fin cfg0.N) : FVec Ideal S1x4096 .f32 := iblk m c 1 p
def blk2 (c : Dev nD) (p : Fin cfg0.N) : FVec Ideal S4096x256 .bf16 := iblk m c 2 p
def blk3 (c : Dev nD) (p : Fin cfg0.N) : FVec Ideal S256x128 .bf16 := iblk m c 3 p
def blk4 (c : Dev nD) (p : Fin cfg0.N) : FVec Ideal S1x128 .f32 := iblk m c 4 p

/-- The arguments, at their shapes. -/
def arg0 (c : Dev nD) : FVec Ideal S32768x15360 .f32 := m ((c : Thread nD τ).loc main_arg0)
def arg1 (c : Dev nD) : FVec Ideal S32x128 .f32 := m ((c : Thread nD τ).loc main_arg1)
def arg2 (c : Dev nD) : FVec Ideal S4096x256 .f32 := m ((c : Thread nD τ).loc main_arg2)
def arg3 (c : Dev nD) : FVec Ideal S256x128 .f32 := m ((c : Thread nD τ).loc main_arg3)
def arg4 (c : Dev nD) : FVec Ideal S3x128 .f32 := m ((c : Thread nD τ).loc main_arg4)

/-- The stretches as the host lays them out, from the columns. -/
def laidOut (X : FVec Ideal S32768x15360 .f32) : FVec Ideal S4x2x512x2048 .f32 :=
  shapeCast S4x2x512x2048 (transpose S4x2x512x16x128 [0, 3, 1, 2, 4] (shapeCast S4x512x16x2x128 (extractStridedSlice S32768x256 ![0, 13568] X slices_S32768x15360_S32768x256_0_13568) shapeCasts_S32768x256_S4x512x16x2x128) transposes_S4x512x16x2x128_S4x2x512x16x128_0_3_1_2_4) shapeCasts_S4x2x512x16x128_S4x2x512x2048

theorem laidOut_at (X : FVec Ideal S32768x15360 .f32) (b : Fin 4) (g : Fin 2) (i : Fin 512) (j : Fin 2048) :
    laidOut X (ix4 b g i j) = X (ix2 ⟨b.val * 8192 + i.val * 16 + j.val / 128, by omega⟩ ⟨13568 + g.val * 128 + j.val % 128, by omega⟩) := by
  pointwise [laidOut]
  blk_ext []

theorem blk0_at (c : Dev nD) (t : Fin cfg0.N) (i : Fin 512) (j : Fin 2048) (b : Fin 4) (g : Fin 2) (ht : t.val = b.val * 2 + g.val) :
    blk0 m c t (ix4 0 0 i j) = arg0 m c (ix2 ⟨b.val * 8192 + i.val * 16 + j.val / 128, by omega⟩ ⟨13568 + g.val * 128 + j.val % 128, by omega⟩) := by
  have e : V m c main_v3 = laidOut (arg0 m c) := by
    simp only [V, List.flatten_cons, List.flatten_nil, List.append_nil, List.cons_append, List.nil_append, hostOps0]
    after_results
    try rfl
  refine Eq.trans (b := (show FVec Ideal S4x2x512x2048 .f32 from V m c main_v3) (ix4 b g i j)) ?_ ?_
  · unfold blk0
    blk_ext [iblk, idx t]
  · rw [e]
    exact laidOut_at _ _ _ _ _

theorem blk1_at (c : Dev nD) (t : Fin cfg0.N) (j : Fin 4096) :
    blk1 m c t (ix2 0 j) = arg1 m c (ix2 ⟨j.val / 128, by omega⟩ ⟨j.val % 128, by omega⟩) := by
  have e : V m c main_v6 = shapeCast S1x4096 (arg1 m c) shapeCasts_S32x128_S1x4096 := by
    simp only [V, List.flatten_cons, List.flatten_nil, List.append_nil, List.cons_append, List.nil_append, hostOps0]
    after_results
    try rfl
  refine Eq.trans (b := (show FVec Ideal S1x4096 .f32 from V m c main_v6) (ix2 0 j)) ?_ ?_
  · unfold blk1
    blk_ext [iblk, idx t]
  · rw [e]
    pointwise

theorem blk2_at (c : Dev nD) (t : Fin cfg0.N) (j : Fin 4096) (h : Fin 256) : blk2 m c t (ix2 j h) = arg2 m c (ix2 j h) := by
  have e : V m c main_v7 = truncf (F := Ideal) .bf16 (arg2 m c) bitsLt_bf16_f32 := by
    simp only [V, List.flatten_cons, List.flatten_nil, List.append_nil, List.cons_append, List.nil_append, hostOps0]
    after_results
    try rfl
  refine Eq.trans (b := (show FVec Ideal S4096x256 .bf16 from V m c main_v7) (ix2 j h)) ?_ ?_
  · unfold blk2
    blk_ext [iblk, idx t]
  · rw [e]
    pointwise

theorem blk3_at (c : Dev nD) (t : Fin cfg0.N) (h : Fin 256) (d : Fin 128) : blk3 m c t (ix2 h d) = arg3 m c (ix2 h d) := by
  have e : V m c main_v8 = truncf (F := Ideal) .bf16 (arg3 m c) bitsLt_bf16_f32 := by
    simp only [V, List.flatten_cons, List.flatten_nil, List.append_nil, List.cons_append, List.nil_append, hostOps0]
    after_results
    try rfl
  refine Eq.trans (b := (show FVec Ideal S256x128 .bf16 from V m c main_v8) (ix2 h d)) ?_ ?_
  · unfold blk3
    blk_ext [iblk, idx t]
  · rw [e]
    pointwise

/-- A sum over a block's row is the sum over its first half plus the sum over its second. -/
theorem sum_halves (f : Fin 4096 → EReal) :
    ∑ j : Fin 4096, f j = (∑ j : Fin 2048, f ⟨j.val, by omega⟩) + ∑ j : Fin 2048, f ⟨2048 + j.val, by omega⟩ :=
  Fin.sum_univ_add (a := 2048) (b := 2048) f

/-- The hidden rows of a point are the reference's. -/
theorem hid_ref (c : Dev nD) (t : Fin cfg0.N) (b : Fin 4) (g : Fin 2) (ht : t.val = b.val * 2 + g.val) (i : Fin 511) (h : Fin 256) :
    hid (blk0 m c t) (blk1 m c t) (blk2 m c t) i h
      = ∑ j : Fin 4096, (arg0 m c (ix2 ⟨b.val * 8192 + i.val * 16 + j.val / 128, by omega⟩ ⟨13568 + g.val * 128 + j.val % 128, by omega⟩)
        + arg1 m c (ix2 ⟨j.val / 128, by omega⟩ ⟨j.val % 128, by omega⟩)) * arg2 m c (ix2 j h) := by
  rw [sum_halves]
  unfold hid
  refine Ideal.add_congr (Fin.sum_fin_congr fun j => Ideal.mul_congr (Ideal.add_congr ?_ ?_) ?_) (Fin.sum_fin_congr fun j => Ideal.mul_congr (Ideal.add_congr ?_ ?_) ?_)
  · exact blk0_at m c t _ j b g ht
  · exact blk1_at m c t _
  · exact blk2_at m c t _ h
  · exact (blk0_at m c t _ j b g ht).trans (Cert.CmpVRefIdeal.Value.same _ (by dsimp only; omega) (by dsimp only; omega) _ _ _ _)
  · exact blk1_at m c t _
  · exact blk2_at m c t _ h

theorem two_ref (c : Dev nD) (t : Fin cfg0.N) (b : Fin 4) (g : Fin 2) (ht : t.val = b.val * 2 + g.val) (i : Fin 511) (d : Fin 128) :
    two (blk0 m c t) (blk1 m c t) (blk2 m c t) (blk3 m c t) i d
      = Cert.CmpVRefIdeal.Value.mlp (arg0 m c) (arg1 m c) (arg2 m c) (arg3 m c) (ix4 b i g d) := by
  rw [Cert.CmpVRefIdeal.Value.mlp_at]
  unfold two Cert.CmpVRefIdeal.Value.entry
  refine Fin.sum_fin_congr fun h => Ideal.mul_congr ?_ (blk3_at m c t h d)
  exact congrArg silu (hid_ref m c t b g ht i h)

/-- One entry of a point's block is the reference's. -/
theorem point (c : Dev nD) (t : Fin cfg0.N) (b : Fin 4) (g : Fin 2) (ht : t.val = b.val * 2 + g.val) (i : Fin 512) (d : Fin 128) :
    out0_5 (F := Ideal) (blk0 m c t) (blk1 m c t) (blk2 m c t) (blk3 m c t) (blk4 m c t) (ix4 0 0 i d)
      = Cert.CmpVRefIdeal.Value.REF (arg0 m c) (arg1 m c) (arg2 m c) (arg3 m c) (ix4 b g i d) := by
  unfold Cert.CmpVRefIdeal.Value.REF
  by_cases h : i.val < 511
  · have hi : i = ⟨(⟨i.val, h⟩ : Fin 511).val, i.isLt⟩ := rfl
    rw [hi]
    refine (tile_at _ _ _ _ _ ⟨i.val, h⟩ d).trans (Eq.trans ?_ (Cert.CmpVRefIdeal.Value.last_at _ b g ⟨i.val, h⟩ d).symm)
    exact two_ref m c t b g ht _ d
  · have hi : i = 511 := Fin.ext (by have := i.isLt; show i.val = 511; omega)
    rw [hi]
    exact (tile_last _ _ _ _ _ d).trans (Cert.CmpVRefIdeal.Value.last_row _ b g d).symm

/-- The output array is the reference's result. -/
theorem final (c : Dev nD) : (dats m 0 c).arrAt 5 (cfgs 0).N
    = Cert.CmpVRefIdeal.Value.REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  have ht := (idx t).2.2.2.2.2.2
  idx_vars y
  obtain rfl : y0 = 0 := Subsingleton.elim _ _
  obtain rfl : y1 = 0 := Subsingleton.elim _ _
  refine (point m c t ⟨t.val / 2, by omega⟩ ⟨t.val % 2, by omega⟩ (by dsimp only; omega) y2 y3).trans
    (congrArg (Cert.CmpVRefIdeal.Value.REF (arg0 m c) (arg1 m c) (arg2 m c) (arg3 m c)) ?_)
  blk_ext [idx t]

end Cert.CmpVIdeal.Value

end
-- ==== Proof.lean ====
/- The certificate: the claims of Defs.lean, each from its call's own module. -/
module

public import proofs.«01_k».proof.Defs
public import proofs.«01_k».proof.Proof.Gen.Sgu.Frame
public import proofs.«01_k».proof.Proof.Gen.Ffn.Frame
public import proofs.«01_k».proof.Proof.Gen.Proj.Frame
public import proofs.«01_k».proof.Proof.Gen.Merge.Frame
public import proofs.«01_k».proof.Proof.Gen.Dn.Frame
public import proofs.«01_k».proof.Proof.Gen.Kvp.Frame
public import proofs.«01_k».proof.Proof.Gen.CmpK.Frame
public import proofs.«01_k».proof.Proof.Gen.CmpV.Frame
public import proofs.«01_k».proof.Proof.SguValue
public import proofs.«01_k».proof.Proof.Gen.SguRefIdeal.Run
public import proofs.«01_k».proof.Proof.FfnValue
public import proofs.«01_k».proof.Proof.Gen.FfnRefIdeal.Run
public import proofs.«01_k».proof.Proof.ProjValue
public import proofs.«01_k».proof.Proof.Gen.ProjRefIdeal.Run
public import proofs.«01_k».proof.Proof.MergeValue
public import proofs.«01_k».proof.Proof.Gen.MergeRefIdeal.Run
public import proofs.«01_k».proof.Proof.DnValue
public import proofs.«01_k».proof.Proof.Gen.DnRefIdeal.Run
public import proofs.«01_k».proof.Proof.KvpValue
public import proofs.«01_k».proof.Proof.Gen.KvpRefIdeal.Run
public import proofs.«01_k».proof.Proof.CmpKValue
public import proofs.«01_k».proof.Proof.Gen.CmpKRefIdeal.Run
public import proofs.«01_k».proof.Proof.CmpVValue
public import proofs.«01_k».proof.Proof.Gen.CmpVRefIdeal.Run
public import Idealize.ShloMosaic.Lib.Claim
public import Idealize.ShloMosaic.Lib.Quiescent

@[expose] public section

set_option maxRecDepth 16384

open Idealize.ShloMosaic Idealize.ShloMosaic.StableHlo Idealize.ShloMosaic.TcCoe Idealize.SL.Sem

namespace Cert.Proof

/-- The kernel of `Sgu` and its reference end with equal results. -/
theorem algebraic_Sgu : @Cert.algebraic_SguIdeal_SguRefIdeal Cert.SguIdeal.Gen.facts Cert.SguRefIdeal.Gen.facts := by
  pair_intro
  · run_from Cert.SguIdeal.Gen.run_main m g
  · run_from Cert.SguRefIdeal.Value.run m' g'
    refine Eq.trans ?_ (Cert.SguIdeal.Value.final m c).symm
    have e : Cert.SguRefIdeal.Value.res_main_v71 m' c = Cert.SguRefIdeal.Value.REF (m' ((c.tc : Thread Cert.SguRefIdeal.nD Cert.SguRefIdeal.τ).loc Cert.SguRefIdeal.main_arg0))
        (m' ((c.tc : Thread Cert.SguRefIdeal.nD Cert.SguRefIdeal.τ).loc Cert.SguRefIdeal.main_arg1))
        (m' ((c.tc : Thread Cert.SguRefIdeal.nD Cert.SguRefIdeal.τ).loc Cert.SguRefIdeal.main_arg2))
        (m' ((c.tc : Thread Cert.SguRefIdeal.nD Cert.SguRefIdeal.τ).loc Cert.SguRefIdeal.main_arg3))
        (m' ((c.tc : Thread Cert.SguRefIdeal.nD Cert.SguRefIdeal.τ).loc Cert.SguRefIdeal.main_arg4)) := rfl
    rw [e, (hagree c).1, (hagree c).2.1, (hagree c).2.2.1, (hagree c).2.2.2.1, (hagree c).2.2.2.2]

/-- The kernel of `Ffn` and its reference end with equal results. -/
theorem algebraic_Ffn : @Cert.algebraic_FfnIdeal_FfnRefIdeal Cert.FfnIdeal.Gen.facts Cert.FfnRefIdeal.Gen.facts := by
  pair_intro
  · run_from Cert.FfnIdeal.Gen.run_main m g
    all_goals
      simp only [List.flatten_cons, List.flatten_nil, List.append_nil, List.cons_append, List.nil_append, Cert.FfnIdeal.Gen.hostOps0, Cert.FfnIdeal.Gen.hostOps0_1,
        Cert.FfnIdeal.Gen.hostOps0_2, Cert.FfnIdeal.Gen.hostOps0_3, Cert.FfnIdeal.Gen.hostOps0_4, Cert.FfnIdeal.Gen.hostOps0_5, Cert.FfnIdeal.Gen.hostOps0_6,
        StableHlo.TRef.binary, StableHlo.TRef.nullary, StableHlo.TRef.unary, StableHlo.TRef.toBuf, StableHlo.TRef.ofBuf, cast_eq]
      after_results
      try rfl
  · run_from Cert.FfnRefIdeal.Value.run m' g'
    exact (Cert.FfnIdeal.Value.final m c).symm

/-- The kernel of `Proj` and its reference end with equal results. -/
theorem algebraic_Proj : @Cert.algebraic_ProjIdeal_ProjRefIdeal Cert.ProjIdeal.Gen.facts Cert.ProjRefIdeal.Gen.facts := by
  pair_intro
  · run_from Cert.ProjIdeal.Gen.run_main m g
  · run_from Cert.ProjRefIdeal.Value.run m' g'
    refine Eq.trans ?_ (Cert.ProjIdeal.Value.final m c).symm
    have e : Cert.ProjRefIdeal.Value.res_main_v38 m' c = Cert.ProjRefIdeal.Value.REF (m' ((c.tc : Thread Cert.ProjRefIdeal.nD Cert.ProjRefIdeal.τ).loc Cert.ProjRefIdeal.main_arg0))
        (m' ((c.tc : Thread Cert.ProjRefIdeal.nD Cert.ProjRefIdeal.τ).loc Cert.ProjRefIdeal.main_arg1))
        (m' ((c.tc : Thread Cert.ProjRefIdeal.nD Cert.ProjRefIdeal.τ).loc Cert.ProjRefIdeal.main_arg2)) := rfl
    rw [e, (hagree c).1, (hagree c).2.1, (hagree c).2.2]

/-- The kernel of `Merge` and its reference end with equal results. -/
theorem algebraic_Merge : @Cert.algebraic_MergeIdeal_MergeRefIdeal Cert.MergeIdeal.Gen.facts Cert.MergeRefIdeal.Gen.facts := by
  pair_intro
  · run_from Cert.MergeIdeal.Gen.run_main m g
  · run_from Cert.MergeRefIdeal.Value.run m' g'
    exact (Cert.MergeIdeal.Value.final m c).symm

/-- The kernel of `Dn` and its reference end with equal results, from arguments that meet the precondition. -/
theorem algebraic_Dn : @Cert.algebraic_DnIdeal_DnRefIdeal_pre_finite_dn Cert.DnIdeal.Gen.facts Cert.DnRefIdeal.Gen.facts Cert.Pre_finite_dn.side := by
  pair_intro
  · run_from Cert.DnIdeal.Gen.run_main m g
    all_goals
      simp only [List.flatten_cons, List.flatten_nil, List.append_nil, List.cons_append, List.nil_append, Cert.DnIdeal.Gen.hostOps0, Cert.DnIdeal.Gen.hostOps0_1,
        Cert.DnIdeal.Gen.hostOps0_2, Cert.DnIdeal.Gen.hostOps0_3, Cert.DnIdeal.Gen.hostOps0_4,
        StableHlo.TRef.binary, StableHlo.TRef.nullary, StableHlo.TRef.unary, StableHlo.TRef.toBuf, StableHlo.TRef.ofBuf, cast_eq]
      after_results
      try rfl
  · have e0 := fun c => (hagree c).1
    have e1 := fun c => (hagree c).2.1
    have e2 := fun c => (hagree c).2.2.1
    have e3 := fun c => (hagree c).2.2.2.1
    have e4 := fun c => (hagree c).2.2.2.2
    refine Idealize.ShloMosaic.θ_run_mono (Cert.DnRefIdeal.Value.run m' g') ?_
    intro r hr c
    refine ⟨(hr c).1.trans ?_, (hr c).2⟩
    clear hr
    have tm := @Cert.Pre_finite_dn.tame Cert.Pre_finite_dn.side _ _ _ _ _ (hpre c).1 (hpre c).2.1 (hpre c).2.2.1 (hpre c).2.2.2.1 (hpre c).2.2.2.2
    refine (Cert.DnIdeal.Value.final tm _ fun a n h e => ?_).symm
    have tm' : Cert.DeltaRule.Tame (Cert.DnRefIdeal.Value.pArg m' c) (Cert.DnRefIdeal.Value.cArg m' c) (Cert.DnRefIdeal.Value.lArg m' c) (Cert.DnRefIdeal.Value.dArg m' c) := by
      rw [show Cert.DnRefIdeal.Value.pArg m' c = _ from e0 c, show Cert.DnRefIdeal.Value.cArg m' c = _ from e1 c, show Cert.DnRefIdeal.Value.lArg m' c = _ from e2 c,
        show Cert.DnRefIdeal.Value.dArg m' c = _ from e3 c]
      exact tm
    have r := Cert.DnRefIdeal.Value.ref_at m' c tm' a n h e
    rw [show Cert.DnRefIdeal.Value.pArg m' c = _ from e0 c, show Cert.DnRefIdeal.Value.cArg m' c = _ from e1 c, show Cert.DnRefIdeal.Value.lArg m' c = _ from e2 c,
      show Cert.DnRefIdeal.Value.dArg m' c = _ from e3 c, show Cert.DnRefIdeal.Value.oArg m' c = _ from e4 c] at r
    exact r

/-- So it does under the precondition. -/
theorem frame_DnRef_pre : @Cert.quiescent_DnRefIdeal_pre_finite_dn Cert.DnRefIdeal.Gen.facts Cert.Pre_finite_dn.side := by
  intro m g _
  exact (θ_run _ _ _).mono (fun r h => ⟨fun c => (h c).2, sem_eq_zero_of_no_sems (by decide) _⟩) (Cert.DnRefIdeal.Value.run m g)

/-- The kernel of `Kvp` and its reference end with equal results. -/
theorem algebraic_Kvp : @Cert.algebraic_KvpIdeal_KvpRefIdeal Cert.KvpIdeal.Gen.facts Cert.KvpRefIdeal.Gen.facts := by
  pair_intro
  · run_from Cert.KvpIdeal.Gen.run_main m g
  · run_from Cert.KvpRefIdeal.Value.run m' g'
    refine Eq.trans ?_ (Cert.KvpIdeal.Value.final m c).symm
    have e : Cert.KvpRefIdeal.Value.res_main_v46 m' c = Cert.KvpRefIdeal.Value.REF (m' ((c.tc : Thread Cert.KvpRefIdeal.nD Cert.KvpRefIdeal.τ).loc Cert.KvpRefIdeal.main_arg0))
        (m' ((c.tc : Thread Cert.KvpRefIdeal.nD Cert.KvpRefIdeal.τ).loc Cert.KvpRefIdeal.main_arg1)) := rfl
    rw [e, (hagree c).1, (hagree c).2]

/-- The kernel of `CmpK` and its reference end with equal results. -/
theorem algebraic_CmpK : @Cert.algebraic_CmpKIdeal_CmpKRefIdeal Cert.CmpKIdeal.Gen.facts Cert.CmpKRefIdeal.Gen.facts := by
  pair_intro
  · run_from Cert.CmpKIdeal.Gen.run_main m g
  · run_from Cert.CmpKRefIdeal.Value.run m' g'
    refine Eq.trans ?_ (Cert.CmpKIdeal.Value.final m c).symm
    have e : Cert.CmpKRefIdeal.Value.res_main_v30 m' c = Cert.CmpKRefIdeal.Value.REF (m' ((c.tc : Thread Cert.CmpKRefIdeal.nD Cert.CmpKRefIdeal.τ).loc Cert.CmpKRefIdeal.main_arg0))
        (m' ((c.tc : Thread Cert.CmpKRefIdeal.nD Cert.CmpKRefIdeal.τ).loc Cert.CmpKRefIdeal.main_arg1))
        (m' ((c.tc : Thread Cert.CmpKRefIdeal.nD Cert.CmpKRefIdeal.τ).loc Cert.CmpKRefIdeal.main_arg2))
        (m' ((c.tc : Thread Cert.CmpKRefIdeal.nD Cert.CmpKRefIdeal.τ).loc Cert.CmpKRefIdeal.main_arg3))
        (m' ((c.tc : Thread Cert.CmpKRefIdeal.nD Cert.CmpKRefIdeal.τ).loc Cert.CmpKRefIdeal.main_arg4)) := rfl
    rw [e, (hagree c).1, (hagree c).2.1, (hagree c).2.2.1, (hagree c).2.2.2.1, (hagree c).2.2.2.2]

/-- The kernel of `CmpV` and its reference end with equal results. -/
theorem algebraic_CmpV : @Cert.algebraic_CmpVIdeal_CmpVRefIdeal Cert.CmpVIdeal.Gen.facts Cert.CmpVRefIdeal.Gen.facts := by
  pair_intro
  · run_from Cert.CmpVIdeal.Gen.run_main m g
  · run_from Cert.CmpVRefIdeal.Value.run_ref m' g'
    exact (Cert.CmpVIdeal.Value.final m c).symm

theorem frame_SguRef : @Cert.quiescent_SguRefIdeal Cert.SguRefIdeal.Gen.facts := by
  intro m g _
  exact (θ_run _ _ _).mono (fun r h => ⟨fun c => (h c).2, sem_eq_zero_of_no_sems (by decide) _⟩) (Cert.SguRefIdeal.Value.run m g)

theorem frame_FfnRef : @Cert.quiescent_FfnRefIdeal Cert.FfnRefIdeal.Gen.facts := by
  intro m g _
  exact (θ_run _ _ _).mono (fun r h => ⟨fun c => (h c).2, sem_eq_zero_of_no_sems (by decide) _⟩) (Cert.FfnRefIdeal.Value.run m g)

theorem frame_ProjRef : @Cert.quiescent_ProjRefIdeal Cert.ProjRefIdeal.Gen.facts := by
  intro m g _
  exact (θ_run _ _ _).mono (fun r h => ⟨fun c => (h c).2, sem_eq_zero_of_no_sems (by decide) _⟩) (Cert.ProjRefIdeal.Value.run m g)

theorem frame_MergeRef : @Cert.quiescent_MergeRefIdeal Cert.MergeRefIdeal.Gen.facts := by
  intro m g _
  exact (θ_run _ _ _).mono (fun r h => ⟨fun c => (h c).2, sem_eq_zero_of_no_sems (by decide) _⟩) (Cert.MergeRefIdeal.Value.run m g)

theorem frame_DnRef : @Cert.quiescent_DnRefIdeal Cert.DnRefIdeal.Gen.facts := by
  intro m g _
  exact (θ_run _ _ _).mono (fun r h => ⟨fun c => (h c).2, sem_eq_zero_of_no_sems (by decide) _⟩) (Cert.DnRefIdeal.Value.run m g)

theorem frame_KvpRef : @Cert.quiescent_KvpRefIdeal Cert.KvpRefIdeal.Gen.facts := by
  intro m g _
  exact (θ_run _ _ _).mono (fun r h => ⟨fun c => (h c).2, sem_eq_zero_of_no_sems (by decide) _⟩) (Cert.KvpRefIdeal.Value.run m g)

theorem frame_CmpKRef : @Cert.quiescent_CmpKRefIdeal Cert.CmpKRefIdeal.Gen.facts := by
  intro m g _
  exact (θ_run _ _ _).mono (fun r h => ⟨fun c => (h c).2, sem_eq_zero_of_no_sems (by decide) _⟩) (Cert.CmpKRefIdeal.Value.run m g)

theorem frame_CmpVRef : @Cert.quiescent_CmpVRefIdeal Cert.CmpVRefIdeal.Gen.facts := by
  intro m g _
  exact (θ_run _ _ _).mono (fun r h => ⟨fun c => (h c).2, sem_eq_zero_of_no_sems (by decide) _⟩) (Cert.CmpVRefIdeal.Value.run m g)

theorem claim : Cert.Claim :=
  ⟨Cert.Sgu.Gen.facts,
    Cert.SguIdeal.Gen.facts,
    Cert.SguRefIdeal.Gen.facts,
    Cert.Ffn.Gen.facts,
    Cert.FfnIdeal.Gen.facts,
    Cert.FfnRefIdeal.Gen.facts,
    Cert.Proj.Gen.facts,
    Cert.ProjIdeal.Gen.facts,
    Cert.ProjRefIdeal.Gen.facts,
    Cert.Merge.Gen.facts,
    Cert.MergeIdeal.Gen.facts,
    Cert.MergeRefIdeal.Gen.facts,
    Cert.Dn.Gen.facts,
    Cert.DnIdeal.Gen.facts,
    Cert.DnRefIdeal.Gen.facts,
    Cert.Kvp.Gen.facts,
    Cert.KvpIdeal.Gen.facts,
    Cert.KvpRefIdeal.Gen.facts,
    Cert.CmpK.Gen.facts,
    Cert.CmpKIdeal.Gen.facts,
    Cert.CmpKRefIdeal.Gen.facts,
    Cert.CmpV.Gen.facts,
    Cert.CmpVIdeal.Gen.facts,
    Cert.CmpVRefIdeal.Gen.facts,
    Cert.Pre_finite_dn.side,
    fun m ρ _ => Cert.Sgu.Gen.frame m ρ,
    fun m ρ _ => Cert.SguIdeal.Gen.frame m ρ,
    frame_SguRef,
    fun m ρ _ => Cert.Ffn.Gen.frame m ρ,
    fun m ρ _ => Cert.FfnIdeal.Gen.frame m ρ,
    frame_FfnRef,
    fun m ρ _ => Cert.Proj.Gen.frame m ρ,
    fun m ρ _ => Cert.ProjIdeal.Gen.frame m ρ,
    frame_ProjRef,
    fun m ρ _ => Cert.Merge.Gen.frame m ρ,
    fun m ρ _ => Cert.MergeIdeal.Gen.frame m ρ,
    frame_MergeRef,
    fun m ρ _ => Cert.Dn.Gen.frame m ρ,
    fun m ρ _ => Cert.DnIdeal.Gen.frame m ρ,
    fun m ρ _ => Cert.DnIdeal.Gen.frame m ρ,
    frame_DnRef,
    frame_DnRef_pre,
    fun m ρ _ => Cert.Kvp.Gen.frame m ρ,
    fun m ρ _ => Cert.KvpIdeal.Gen.frame m ρ,
    frame_KvpRef,
    fun m ρ _ => Cert.CmpK.Gen.frame m ρ,
    fun m ρ _ => Cert.CmpKIdeal.Gen.frame m ρ,
    frame_CmpKRef,
    fun m ρ _ => Cert.CmpV.Gen.frame m ρ,
    fun m ρ _ => Cert.CmpVIdeal.Gen.frame m ρ,
    frame_CmpVRef,
    trivial,
    algebraic_Sgu,
    trivial,
    algebraic_Ffn,
    trivial,
    algebraic_Proj,
    trivial,
    algebraic_Merge,
    trivial,
    algebraic_Dn,
    trivial,
    algebraic_Kvp,
    trivial,
    algebraic_CmpK,
    trivial,
    algebraic_CmpV⟩

end Cert.Proof
